-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "scale" .f32 0x3E38AA3B#32 (((Real.log 2)⁻¹ * 8⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v126) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v62) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v70) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S32x2304x1024 : Shape := ⟨3, ![32, 2304, 1024]⟩
abbrev S16x15x31 : Shape := ⟨3, ![16, 15, 31]⟩
abbrev S_ : Shape := ⟨0, ![]⟩

class Facts : Prop where
  bcast_S_S32x2304x1024 : S_.BroadcastsInDim S32x2304x1024 (![] : Fin 0 → Fin S32x2304x1024.rank)
  bcast_S_S16x15x31 : S_.BroadcastsInDim S16x15x31 (![] : Fin 0 → Fin S16x15x31.rank)

variable [Facts]

def fn {F : FTy → Type} [FloatOps F] (main_arg0 : FVec F S32x2304x1024 .f32) (main_arg1 : FVec F S32x2304x1024 .f32) (main_arg2 : FVec F S32x2304x1024 .f32) (main_arg3 : FVec F S16x15x31 .f32) : IVec S32x2304x1024 1 × IVec S32x2304x1024 1 × IVec S16x15x31 1 :=
  let main_v0 : FVec F S32x2304x1024 .f32 := Host.absf main_arg0
  let main_cst : FVec F S_ .f32 := constant S_ .f32 0x7F800000#32
  let main_v1 : FVec F S32x2304x1024 .f32 := broadcastInDim S32x2304x1024 ![] bcast_S_S32x2304x1024 main_cst
  let main_v2 : IVec S32x2304x1024 1 := cmpf .olt main_v0 main_v1
  let main_v3 : FVec F S32x2304x1024 .f32 := Host.absf main_arg1
  let main_cst_0 : FVec F S_ .f32 := constant S_ .f32 0x7F800000#32
  let main_v4 : FVec F S32x2304x1024 .f32 := broadcastInDim S32x2304x1024 ![] bcast_S_S32x2304x1024 main_cst_0
  let main_v5 : IVec S32x2304x1024 1 := cmpf .olt main_v3 main_v4
  let main_v6 : FVec F S16x15x31 .f32 := Host.absf main_arg3
  let main_cst_1 : FVec F S_ .f32 := constant S_ .f32 0x7F800000#32
  let main_v7 : FVec F S16x15x31 .f32 := broadcastInDim S16x15x31 ![] bcast_S_S16x15x31 main_cst_1
  let main_v8 : IVec S16x15x31 1 := cmpf .olt main_v6 main_v7
  (main_v2, main_v5, main_v8)
-- ==== Kernel.lean ====
abbrev S32x2304x1024 : Shape := ⟨3, ![32, 2304, 1024]⟩
abbrev S16x15x31 : Shape := ⟨3, ![16, 15, 31]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S16x15x64x64 : Shape := ⟨4, ![16, 15, 64, 64]⟩
abbrev S16x8x64x64 : Shape := ⟨4, ![16, 8, 64, 64]⟩
abbrev S8x2x8x64x64 : Shape := ⟨5, ![8, 2, 8, 64, 64]⟩
abbrev S8x8x64x2x64 : Shape := ⟨5, ![8, 8, 64, 2, 64]⟩
abbrev S8x512x128 : Shape := ⟨3, ![8, 512, 128]⟩
abbrev S1x8x512x128 : Shape := ⟨4, ![1, 8, 512, 128]⟩
abbrev S8x8x512x128 : Shape := ⟨4, ![8, 8, 512, 128]⟩
abbrev S1x64x1024 : Shape := ⟨3, ![1, 64, 1024]⟩
abbrev S1x2304x1024 : Shape := ⟨3, ![1, 2304, 1024]⟩
abbrev S8x768x128 : Shape := ⟨3, ![8, 768, 128]⟩
abbrev S8x8x128 : Shape := ⟨3, ![8, 8, 128]⟩
abbrev S64x128 : Shape := ⟨2, ![64, 128]⟩
abbrev S128x128 : Shape := ⟨2, ![128, 128]⟩
abbrev S512x128 : Shape := ⟨2, ![512, 128]⟩
abbrev S1x64x128 : Shape := ⟨3, ![1, 64, 128]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S256x256 : Shape := ⟨2, ![256, 256]⟩
abbrev S128x256 : Shape := ⟨2, ![128, 256]⟩
abbrev S1x1x512x128 : Shape := ⟨4, ![1, 1, 512, 128]⟩
abbrev S1x512x128 : Shape := ⟨3, ![1, 512, 128]⟩
abbrev S512x256 : Shape := ⟨2, ![512, 256]⟩

abbrev nBuf : Space → Nat
  | .hbm => 76
  | .vmem => 12
  | .smem => 0
  | _ => 0

abbrev bufTy : (tb : Table) → Fin (tcTables nBuf tb) → BufTy
  | .hbm, ⟨0, _⟩ => ⟨S32x2304x1024, .f32⟩
  | .hbm, ⟨1, _⟩ => ⟨S32x2304x1024, .f32⟩
  | .hbm, ⟨2, _⟩ => ⟨S32x2304x1024, .f32⟩
  | .hbm, ⟨3, _⟩ => ⟨S16x15x31, .f32⟩
  | .hbm, ⟨4, _⟩ => ⟨S32x2304x1024, .bf16⟩
  | .hbm, ⟨5, _⟩ => ⟨S32x2304x1024, .bf16⟩
  | .hbm, ⟨6, _⟩ => ⟨S64, .i32⟩
  | .hbm, ⟨7, _⟩ => ⟨S64x1, .i32⟩
  | .hbm, ⟨8, _⟩ => ⟨S1x64, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i32⟩
  | .hbm, ⟨26, _⟩ => ⟨S64x64x1, .i32⟩
  | .hbm, ⟨27, _⟩ => ⟨S31, .i32⟩
  | .hbm, ⟨28, _⟩ => ⟨S1x1x31, .i32⟩
  | .hbm, ⟨29, _⟩ => ⟨S64x64x31, .i32⟩
  | .hbm, ⟨30, _⟩ => ⟨S64x64x31, .i32⟩
  | .hbm, ⟨31, _⟩ => ⟨S64x64x31, .i1⟩
  | .hbm, ⟨32, _⟩ => ⟨S64x64x31, .f32⟩
  | .hbm, ⟨33, _⟩ => ⟨S16x15x64x64, .f32⟩
  | .hbm, ⟨34, _⟩ => ⟨S16x8x64x64, .f32⟩
  | .hbm, ⟨35, _⟩ => ⟨S8x2x8x64x64, .f32⟩
  | .hbm, ⟨36, _⟩ => ⟨S8x8x64x2x64, .f32⟩
  | .hbm, ⟨37, _⟩ => ⟨S8x512x128, .f32⟩
  | .hbm, ⟨38, _⟩ => ⟨S16x8x64x64, .f32⟩
  | .hbm, ⟨39, _⟩ => ⟨S8x2x8x64x64, .f32⟩
  | .hbm, ⟨40, _⟩ => ⟨S8x8x64x2x64, .f32⟩
  | .hbm, ⟨41, _⟩ => ⟨S8x512x128, .f32⟩
  | .hbm, ⟨42, _⟩ => ⟨S16x8x64x64, .f32⟩
  | .hbm, ⟨43, _⟩ => ⟨S8x2x8x64x64, .f32⟩
  | .hbm, ⟨44, _⟩ => ⟨S8x8x64x2x64, .f32⟩
  | .hbm, ⟨45, _⟩ => ⟨S8x512x128, .f32⟩
  | .hbm, ⟨46, _⟩ => ⟨S16x8x64x64, .f32⟩
  | .hbm, ⟨47, _⟩ => ⟨S8x2x8x64x64, .f32⟩
  | .hbm, ⟨48, _⟩ => ⟨S8x8x64x2x64, .f32⟩
  | .hbm, ⟨49, _⟩ => ⟨S8x512x128, .f32⟩
  | .hbm, ⟨50, _⟩ => ⟨S16x8x64x64, .f32⟩
  | .hbm, ⟨51, _⟩ => ⟨S8x2x8x64x64, .f32⟩
  | .hbm, ⟨52, _⟩ => ⟨S8x8x64x2x64, .f32⟩
  | .hbm, ⟨53, _⟩ => ⟨S8x512x128, .f32⟩
  | .hbm, ⟨54, _⟩ => ⟨S16x8x64x64, .f32⟩
  | .hbm, ⟨55, _⟩ => ⟨S8x2x8x64x64, .f32⟩
  | .hbm, ⟨56, _⟩ => ⟨S8x8x64x2x64, .f32⟩
  | .hbm, ⟨57, _⟩ => ⟨S8x512x128, .f32⟩
  | .hbm, ⟨58, _⟩ => ⟨S16x8x64x64, .f32⟩
  | .hbm, ⟨59, _⟩ => ⟨S8x2x8x64x64, .f32⟩
  | .hbm, ⟨60, _⟩ => ⟨S8x8x64x2x64, .f32⟩
  | .hbm, ⟨61, _⟩ => ⟨S8x512x128, .f32⟩
  | .hbm, ⟨62, _⟩ => ⟨S16x8x64x64, .f32⟩
  | .hbm, ⟨63, _⟩ => ⟨S8x2x8x64x64, .f32⟩
  | .hbm, ⟨64, _⟩ => ⟨S8x8x64x2x64, .f32⟩
  | .hbm, ⟨65, _⟩ => ⟨S8x512x128, .f32⟩
  | .hbm, ⟨66, _⟩ => ⟨S1x8x512x128, .f32⟩
  | .hbm, ⟨67, _⟩ => ⟨S1x8x512x128, .f32⟩
  | .hbm, ⟨68, _⟩ => ⟨S1x8x512x128, .f32⟩
  | .hbm, ⟨69, _⟩ => ⟨S1x8x512x128, .f32⟩
  | .hbm, ⟨70, _⟩ => ⟨S1x8x512x128, .f32⟩
  | .hbm, ⟨71, _⟩ => ⟨S1x8x512x128, .f32⟩
  | .hbm, ⟨72, _⟩ => ⟨S1x8x512x128, .f32⟩
  | .hbm, ⟨73, _⟩ => ⟨S1x8x512x128, .f32⟩
  | .hbm, ⟨74, _⟩ => ⟨S8x8x512x128, .f32⟩
  | .hbm, ⟨75, _⟩ => ⟨S32x2304x1024, .bf16⟩
  | .local _ .vmem, ⟨0, _⟩ => ⟨S1x64x1024, .f32⟩
  | .local _ .vmem, ⟨1, _⟩ => ⟨S1x64x1024, .f32⟩
  | .local _ .vmem, ⟨2, _⟩ => ⟨S1x2304x1024, .bf16⟩
  | .local _ .vmem, ⟨3, _⟩ => ⟨S1x2304x1024, .bf16⟩
  | .local _ .vmem, ⟨4, _⟩ => ⟨S1x2304x1024, .bf16⟩
  | .local _ .vmem, ⟨5, _⟩ => ⟨S1x2304x1024, .bf16⟩
  | .local _ .vmem, ⟨6, _⟩ => ⟨S1x8x512x128, .f32⟩
  | .local _ .vmem, ⟨7, _⟩ => ⟨S1x8x512x128, .f32⟩
  | .local _ .vmem, ⟨8, _⟩ => ⟨S1x64x1024, .bf16⟩
  | .local _ .vmem, ⟨9, _⟩ => ⟨S1x64x1024, .bf16⟩
  | .local _ .vmem, ⟨10, _⟩ => ⟨S8x768x128, .f32⟩
  | .local _ .vmem, ⟨11, _⟩ => ⟨S8x8x128, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 36], ![false, false]⟩

def k0_mult1 (i : grid0.Coords) : BitVec 32 :=
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  v13
def k0_cond2 (i : grid0.Coords) : BitVec 1 :=
  let arg1 : BitVec 32 := BitVec.ofNat 32 (i 1).val
  let c4_i32_6 : BitVec 32 := 4#32
  let v35 : BitVec 1 := Scalar.cmpi .sge arg1 c4_i32_6
  let v36 : BitVec 32 := Scalar.extui v35
  let c0_i32_7 : BitVec 32 := 0#32
  let v37 : BitVec 1 := Scalar.cmpi .ne v36 c0_i32_7
  v37

def k0_off1 (i : grid0.Coords) : Fin 3 → Nat :=
  let c0_25 : Index := 0#32
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  let v14 : BitVec 32 := v13
  let v60 : Index := Scalar.indexCast v14
  let c0_26 : Index := 0#32
  ![0, v60.toNat, 0]
def k0_off2 (i : grid0.Coords) : Fin 3 → Nat :=
  let c0_51 : Index := 0#32
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  let v14 : BitVec 32 := v13
  let v96 : Index := Scalar.indexCast v14
  let c128_52 : Index := 128#32
  ![0, v96.toNat, 128]
def k0_off3 (i : grid0.Coords) : Fin 3 → Nat :=
  let c0_79 : Index := 0#32
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  let v14 : BitVec 32 := v13
  let v132 : Index := Scalar.indexCast v14
  let c256_80 : Index := 256#32
  ![0, v132.toNat, 256]
def k0_off4 (i : grid0.Coords) : Fin 3 → Nat :=
  let c0_106 : Index := 0#32
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  let v14 : BitVec 32 := v13
  let v168 : Index := Scalar.indexCast v14
  let c384_107 : Index := 384#32
  ![0, v168.toNat, 384]
def k0_off5 (i : grid0.Coords) : Fin 3 → Nat :=
  let c0_133 : Index := 0#32
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  let v14 : BitVec 32 := v13
  let v204 : Index := Scalar.indexCast v14
  let c512_134 : Index := 512#32
  ![0, v204.toNat, 512]
def k0_off6 (i : grid0.Coords) : Fin 3 → Nat :=
  let c0_160 : Index := 0#32
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  let v14 : BitVec 32 := v13
  let v240 : Index := Scalar.indexCast v14
  let c640_161 : Index := 640#32
  ![0, v240.toNat, 640]
def k0_off7 (i : grid0.Coords) : Fin 3 → Nat :=
  let c0_187 : Index := 0#32
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  let v14 : BitVec 32 := v13
  let v276 : Index := Scalar.indexCast v14
  let c768_188 : Index := 768#32
  ![0, v276.toNat, 768]
def k0_off8 (i : grid0.Coords) : Fin 3 → Nat :=
  let c0_214 : Index := 0#32
  let c256_i32 : BitVec 32 := 256#32
  let c24_i32 : BitVec 32 := 24#32
  let c0_i32 : BitVec 32 := 0#32
  let arg1 : BitVec 32 := BitVec.ofNat 32 (i 1).val
  let c4_i32 : BitVec 32 := 4#32
  let v8 : BitVec 32 := Scalar.subi arg1 c4_i32
  let c4_i32_1 : BitVec 32 := 4#32
  let v9 : BitVec 32 := Scalar.subi v8 c4_i32_1
  let v10 : BitVec 32 := Scalar.maxsi c0_i32 v9
  let v11 : BitVec 32 := Scalar.minsi c24_i32 v10
  let c64_i32 : BitVec 32 := 64#32
  let v12 : BitVec 32 := Scalar.muli v11 c64_i32
  let v13 : BitVec 32 := Scalar.addi c256_i32 v12
  let v14 : BitVec 32 := v13
  let v312 : Index := Scalar.indexCast v14
  let c896_215 : Index := 896#32
  ![0, v312.toNat, 896]
def k0_cond1 (i : grid0.Coords) : BitVec 1 :=
  let arg1 : BitVec 32 := BitVec.ofNat 32 (i 1).val
  let c4_i32_4 : BitVec 32 := 4#32
  let v32 : BitVec 1 := Scalar.cmpi .slt arg1 c4_i32_4
  let v33 : BitVec 32 := Scalar.extui v32
  let c0_i32_5 : BitVec 32 := 0#32
  let v34 : BitVec 1 := Scalar.cmpi .ne v33 c0_i32_5
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c4_i32_0 : BitVec 32 := 4#32
  let v1 : BitVec 32 := Scalar.subi v0 c4_i32_0
  let c0_i32 : BitVec 32 := 0#32
  let c24_i32 : BitVec 32 := 24#32
  let v2 : BitVec 32 := Scalar.maxsi c0_i32 v1
  let v3 : BitVec 32 := Scalar.minsi c24_i32 v2
  let c4_i32_1 : BitVec 32 := 4#32
  let v4 : BitVec 1 := Scalar.cmpi .slt arg1 c4_i32_1
  let v5 : BitVec 32 := Scalar.subi v0 v3
  let c0_i32_2 : BitVec 32 := 0#32
  let v6 : BitVec 32 := Scalar.select v4 c0_i32_2 v5
  let c0_i32_3 : BitVec 32 := 0#32
  let c0_i32_4 : BitVec 32 := 0#32
  let c0_i32_5 : BitVec 32 := 0#32
  let c0_i32_6 : BitVec 32 := 0#32
  ![v6.toNat, c0_i32_3.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((Real.log 2)⁻¹ * 8⁻¹ : ℝ) : EReal)
  | _ => none
-- ==== ReferenceIdeal.lean ====
abbrev S32x2304x1024 : Shape := ⟨3, ![32, 2304, 1024]⟩
abbrev S16x15x31 : Shape := ⟨3, ![16, 15, 31]⟩
abbrev S32x256x1024 : Shape := ⟨3, ![32, 256, 1024]⟩
abbrev S32x256x16x64 : Shape := ⟨4, ![32, 256, 16, 64]⟩
abbrev S32x16x256x64 : Shape := ⟨4, ![32, 16, 256, 64]⟩
abbrev S_ : Shape := ⟨0, ![]⟩
abbrev S32x2048x1024 : Shape := ⟨3, ![32, 2048, 1024]⟩
abbrev S32x2048x16x64 : Shape := ⟨4, ![32, 2048, 16, 64]⟩
abbrev S32x16x2048x64 : Shape := ⟨4, ![32, 16, 2048, 64]⟩
abbrev S32x16x32x64x64 : Shape := ⟨5, ![32, 16, 32, 64, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S32x16x32x8x64x64 : Shape := ⟨6, ![32, 16, 32, 8, 64, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S16x32x64x8x64 : Shape := ⟨5, ![16, 32, 64, 8, 64]⟩
abbrev S32x16x32x64x8x64 : Shape := ⟨6, ![32, 16, 32, 64, 8, 64]⟩
abbrev S1x16x32x64x8x64 : Shape := ⟨6, ![1, 16, 32, 64, 8, 64]⟩
abbrev S64x1x64 : Shape := ⟨3, ![64, 1, 64]⟩
abbrev S32x16x32x64x512 : Shape := ⟨5, ![32, 16, 32, 64, 512]⟩
abbrev S32x16x32x64x256 : Shape := ⟨5, ![32, 16, 32, 64, 256]⟩
abbrev S32x16x32x64x768 : Shape := ⟨5, ![32, 16, 32, 64, 768]⟩
abbrev S32x16x32x64 : Shape := ⟨4, ![32, 16, 32, 64]⟩
abbrev S32x16x32x64x1 : Shape := ⟨5, ![32, 16, 32, 64, 1]⟩
abbrev S32x16x32x512x64 : Shape := ⟨5, ![32, 16, 32, 512, 64]⟩
abbrev S32x32x64x16x64 : Shape := ⟨5, ![32, 32, 64, 16, 64]⟩
abbrev S32x16x256x256 : Shape := ⟨4, ![32, 16, 256, 256]⟩
abbrev S32x16x256 : Shape := ⟨3, ![32, 16, 256]⟩
abbrev S32x16x256x1 : Shape := ⟨4, ![32, 16, 256, 1]⟩

abbrev nBuf : Space → Nat
  | .hbm => 198
  | .vmem => 0
  | .smem => 0
  | _ => 0

abbrev hbmTy0_0 (i : Nat) : BufTy := match i % 128 with
  | 0 => ⟨S32x2304x1024, .f32⟩
  | 1 => ⟨S32x2304x1024, .f32⟩
  | 2 => ⟨S32x2304x1024, .f32⟩
  | 3 => ⟨S16x15x31, .f32⟩
  | 4 => ⟨S32x256x1024, .f32⟩
  | 5 => ⟨S32x256x16x64, .f32⟩
  | 6 => ⟨S32x16x256x64, .f32⟩
  | 7 => ⟨S_, .f32⟩
  | 8 => ⟨S32x16x256x64, .f32⟩
  | 9 => ⟨S32x16x256x64, .f32⟩
  | 10 => ⟨S32x256x1024, .f32⟩
  | 11 => ⟨S32x256x16x64, .f32⟩
  | 12 => ⟨S32x16x256x64, .f32⟩
  | 13 => ⟨S32x256x1024, .f32⟩
  | 14 => ⟨S32x256x16x64, .f32⟩
  | 15 => ⟨S32x16x256x64, .f32⟩
  | 16 => ⟨S32x2048x1024, .f32⟩
  | 17 => ⟨S32x2048x16x64, .f32⟩
  | 18 => ⟨S32x16x2048x64, .f32⟩
  | 19 => ⟨S_, .f32⟩
  | 20 => ⟨S32x16x2048x64, .f32⟩
  | 21 => ⟨S32x16x2048x64, .f32⟩
  | 22 => ⟨S32x2048x1024, .f32⟩
  | 23 => ⟨S32x2048x16x64, .f32⟩
  | 24 => ⟨S32x16x2048x64, .f32⟩
  | 25 => ⟨S32x2048x1024, .f32⟩
  | 26 => ⟨S32x2048x16x64, .f32⟩
  | 27 => ⟨S32x16x2048x64, .f32⟩
  | 28 => ⟨S32x16x32x64x64, .f32⟩
  | 29 => ⟨S32x16x32x64x64, .f32⟩
  | 30 => ⟨S32x16x32x64x64, .f32⟩
  | 31 => ⟨S64, .i32⟩
  | 32 => ⟨S_, .i32⟩
  | 33 => ⟨S64, .i32⟩
  | 34 => ⟨S64, .i32⟩
  | 35 => ⟨S_, .i32⟩
  | 36 => ⟨S_, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S1x64, .i32⟩
  | 44 => ⟨S64x1, .i32⟩
  | 45 => ⟨S64x64, .i32⟩
  | 46 => ⟨S64x64, .i32⟩
  | 47 => ⟨S64x64, .i1⟩
  | 48 => ⟨S1x64, .i32⟩
  | 49 => ⟨S64x1, .i32⟩
  | 50 => ⟨S_, .i32⟩
  | 51 => ⟨S64x1, .i32⟩
  | 52 => ⟨S64x1, .i32⟩
  | 53 => ⟨S64x64, .i32⟩
  | 54 => ⟨S64x64, .i32⟩
  | 55 => ⟨S64x64, .i1⟩
  | 56 => ⟨S64x64, .i1⟩
  | 57 => ⟨S1x64, .i32⟩
  | 58 => ⟨S64x1, .i32⟩
  | 59 => ⟨S64x64, .i32⟩
  | 60 => ⟨S64x64, .i32⟩
  | 61 => ⟨S64x64, .i32⟩
  | 62 => ⟨S_, .i32⟩
  | 63 => ⟨S_, .i32⟩
  | 64 => ⟨S_, .i32⟩
  | 65 => ⟨S64x64, .i32⟩
  | 66 => ⟨S64x64, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i32⟩
  | 73 => ⟨S_, .i32⟩
  | 74 => ⟨S64x64, .i32⟩
  | 75 => ⟨S64x64, .i32⟩
  | 76 => ⟨S32, .i32⟩
  | 77 => ⟨S_, .i32⟩
  | 78 => ⟨S32, .i32⟩
  | 79 => ⟨S32, .i32⟩
  | 80 => ⟨S_, .i32⟩
  | 81 => ⟨S_, .i32⟩
  | 82 => ⟨S_, .i32⟩
  | 83 => ⟨S32, .i32⟩
  | 84 => ⟨S32, .i32⟩
  | 85 => ⟨S_, .i32⟩
  | 86 => ⟨S32, .i32⟩
  | 87 => ⟨S32, .i32⟩
  | 88 => ⟨S32x1, .i32⟩
  | 89 => ⟨S8, .i32⟩
  | 90 => ⟨S1x8, .i32⟩
  | 91 => ⟨S32x8, .i32⟩
  | 92 => ⟨S32x8, .i32⟩
  | 93 => ⟨S32x8, .i32⟩
  | 94 => ⟨S_, .i32⟩
  | 95 => ⟨S32x8, .i32⟩
  | 96 => ⟨S32x8, .i1⟩
  | 97 => ⟨S_, .i32⟩
  | 98 => ⟨S32x8, .i32⟩
  | 99 => ⟨S32x8, .i32⟩
  | 100 => ⟨S32x8, .i32⟩
  | 101 => ⟨S32x8x1, .i32⟩
  | 102 => ⟨S32x16x32x8x64x64, .f32⟩
  | 103 => ⟨S_, .i32⟩
  | 104 => ⟨S32x8, .i32⟩
  | 105 => ⟨S32x8, .i1⟩
  | 106 => ⟨S_, .i32⟩
  | 107 => ⟨S32x8, .i32⟩
  | 108 => ⟨S32x8, .i32⟩
  | 109 => ⟨S32x8, .i32⟩
  | 110 => ⟨S32x8x1, .i32⟩
  | 111 => ⟨S32x16x32x8x64x64, .f32⟩
  | 112 => ⟨S32x1, .i32⟩
  | 113 => ⟨S32x8, .i32⟩
  | 114 => ⟨S32x8, .i32⟩
  | 115 => ⟨S_, .i32⟩
  | 116 => ⟨S32x8, .i32⟩
  | 117 => ⟨S32x8, .i32⟩
  | 118 => ⟨S_, .i32⟩
  | 119 => ⟨S32x8, .i32⟩
  | 120 => ⟨S32x8, .i32⟩
  | 121 => ⟨S32x1x8x1, .i32⟩
  | 122 => ⟨S1x64x1x64, .i32⟩
  | 123 => ⟨S_, .i32⟩
  | 124 => ⟨S32x1x8x1, .i32⟩
  | 125 => ⟨S32x1x8x1, .i1⟩
  | 126 => ⟨S_, .i32⟩
  | 127 => ⟨S32x1x8x1, .i32⟩
  | _ => ⟨S32x2304x1024, .f32⟩

abbrev hbmTy0_1 (i : Nat) : BufTy := match i % 128 with
  | 0 => ⟨S32x1x8x1, .i32⟩
  | 1 => ⟨S32x1x8x1, .i32⟩
  | 2 => ⟨S_, .i32⟩
  | 3 => ⟨S1x64x1x64, .i32⟩
  | 4 => ⟨S1x64x1x64, .i1⟩
  | 5 => ⟨S_, .i32⟩
  | 6 => ⟨S1x64x1x64, .i32⟩
  | 7 => ⟨S1x64x1x64, .i32⟩
  | 8 => ⟨S1x64x1x64, .i32⟩
  | 9 => ⟨S32x64x8x64, .i32⟩
  | 10 => ⟨S32x64x8x64, .i32⟩
  | 11 => ⟨S32x64x8x64x1, .i32⟩
  | 12 => ⟨S32x64x8x64x1, .i32⟩
  | 13 => ⟨S32x64x8x64x2, .i32⟩
  | 14 => ⟨S16x32x64x8x64, .f32⟩
  | 15 => ⟨S32x16x32x64x8x64, .f32⟩
  | 16 => ⟨S1x16x32x64x8x64, .f32⟩
  | 17 => ⟨S32x16x32x64x8x64, .f32⟩
  | 18 => ⟨S32x16x32x64x8x64, .f32⟩
  | 19 => ⟨S64x1x64, .i1⟩
  | 20 => ⟨S_, .f32⟩
  | 21 => ⟨S_, .f32⟩
  | 22 => ⟨S32x16x32x64x8x64, .i1⟩
  | 23 => ⟨S32x16x32x64x8x64, .f32⟩
  | 24 => ⟨S32x16x32x64x8x64, .f32⟩
  | 25 => ⟨S32x16x32x64x512, .f32⟩
  | 26 => ⟨S32x16x32x64x256, .f32⟩
  | 27 => ⟨S32x16x32x64x768, .f32⟩
  | 28 => ⟨S_, .f32⟩
  | 29 => ⟨S32x16x32x64, .f32⟩
  | 30 => ⟨S_, .f32⟩
  | 31 => ⟨S32x16x32x64, .f32⟩
  | 32 => ⟨S32x16x32x64, .f32⟩
  | 33 => ⟨S32x16x32x64x1, .f32⟩
  | 34 => ⟨S32x16x32x64x768, .f32⟩
  | 35 => ⟨S32x16x32x64x768, .f32⟩
  | 36 => ⟨S32x16x32x64x768, .f32⟩
  | 37 => ⟨S_, .f32⟩
  | 38 => ⟨S32x16x32x64, .f32⟩
  | 39 => ⟨S32x16x32x64x1, .f32⟩
  | 40 => ⟨S32x16x32x64x768, .f32⟩
  | 41 => ⟨S32x16x32x64x768, .f32⟩
  | 42 => ⟨S32x16x32x64x512, .f32⟩
  | 43 => ⟨S32x16x32x512x64, .f32⟩
  | 44 => ⟨S32x16x32x64x64, .f32⟩
  | 45 => ⟨S32x16x32x64x256, .f32⟩
  | 46 => ⟨S32x16x32x64x64, .f32⟩
  | 47 => ⟨S32x16x32x64x64, .f32⟩
  | 48 => ⟨S32x32x64x16x64, .f32⟩
  | 49 => ⟨S32x2048x1024, .f32⟩
  | 50 => ⟨S32x16x256x256, .f32⟩
  | 51 => ⟨S_, .f32⟩
  | 52 => ⟨S32x16x256, .f32⟩
  | 53 => ⟨S_, .f32⟩
  | 54 => ⟨S32x16x256, .f32⟩
  | 55 => ⟨S32x16x256, .f32⟩
  | 56 => ⟨S32x16x256x1, .f32⟩
  | 57 => ⟨S32x16x256x256, .f32⟩
  | 58 => ⟨S32x16x256x256, .f32⟩
  | 59 => ⟨S32x16x256x256, .f32⟩
  | 60 => ⟨S_, .f32⟩
  | 61 => ⟨S32x16x256, .f32⟩
  | 62 => ⟨S32x16x256x1, .f32⟩
  | 63 => ⟨S32x16x256x256, .f32⟩
  | 64 => ⟨S32x16x256x256, .f32⟩
  | 65 => ⟨S32x16x256x64, .f32⟩
  | 66 => ⟨S32x256x16x64, .f32⟩
  | 67 => ⟨S32x256x1024, .f32⟩
  | 68 => ⟨S32x2304x1024, .f32⟩
  | 69 => ⟨S32x2304x1024, .bf16⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_c_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_4 : Ref sig .tc := ⟨.hbm, 62, rfl⟩
abbrev main_c_5 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_c_10 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_11 : Ref sig .tc := ⟨.hbm, 94, rfl⟩
abbrev main_v62 : Ref sig .tc := ⟨.hbm, 95, rfl⟩
abbrev main_v63 : Ref sig .tc := ⟨.hbm, 96, rfl⟩
abbrev main_c_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_15 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_c_18 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_19 : Ref sig .tc := ⟨.hbm, 130, rfl⟩
abbrev main_v90 : Ref sig .tc := ⟨.hbm, 131, rfl⟩
abbrev main_v91 : Ref sig .tc := ⟨.hbm, 132, rfl⟩
abbrev main_c_20 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_21 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_22 : Ref sig .tc := ⟨.hbm, 156, rfl⟩
abbrev main_v110 : Ref sig .tc := ⟨.hbm, 157, rfl⟩
abbrev main_cst_23 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_24 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_25 : Ref sig .tc := ⟨.hbm, 179, rfl⟩
abbrev main_v130 : Ref sig .tc := ⟨.hbm, 180, rfl⟩
abbrev main_cst_26 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_27 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩

abbrev nD : Nat := 1
abbrev τ : Topo := Topo.v7x

variable {F : FTy → Type} [FloatOps F]
-- ==== Kernel2.lean ====
abbrev S32x2304x1024 : Shape := ⟨3, ![32, 2304, 1024]⟩
abbrev S32x2x6x1024 : Shape := ⟨4, ![32, 2, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S1x256x1024 : Shape := ⟨3, ![1, 256, 1024]⟩
abbrev S1x8x1024 : Shape := ⟨3, ![1, 8, 1024]⟩
abbrev S1x1x6x1024 : Shape := ⟨4, ![1, 1, 6, 1024]⟩
abbrev S11x272x256 : Shape := ⟨3, ![11, 272, 256]⟩
abbrev S256x2816 : Shape := ⟨2, ![256, 2816]⟩
abbrev S6x1024 : Shape := ⟨2, ![6, 1024]⟩
abbrev S256x1024 : Shape := ⟨2, ![256, 1024]⟩
abbrev S8x1024 : Shape := ⟨2, ![8, 1024]⟩
abbrev S272x1024 : Shape := ⟨2, ![272, 1024]⟩
abbrev S272x1 : Shape := ⟨2, ![272, 1]⟩
abbrev S272 : Shape := ⟨1, ![272]⟩
abbrev S1024x256 : Shape := ⟨2, ![1024, 256]⟩
abbrev S272x256 : Shape := ⟨2, ![272, 256]⟩
abbrev S1x272x256 : Shape := ⟨3, ![1, 272, 256]⟩
abbrev S3x256 : Shape := ⟨2, ![3, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 10
  | .vmem => 17
  | .smem => 0
  | _ => 0

abbrev bufTy : (tb : Table) → Fin (tcTables nBuf tb) → BufTy
  | .hbm, ⟨0, _⟩ => ⟨S32x2304x1024, .f32⟩
  | .hbm, ⟨1, _⟩ => ⟨S32x2x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S32x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S2816x1024, .bf16⟩
  | .local _ .vmem, ⟨12, _⟩ => ⟨S1x256x1024, .f32⟩
  | .local _ .vmem, ⟨13, _⟩ => ⟨S1x256x1024, .f32⟩
  | .local _ .vmem, ⟨14, _⟩ => ⟨S11x272x256, .f32⟩
  | .local _ .vmem, ⟨15, _⟩ => ⟨S11x272x256, .f32⟩
  | .local _ .vmem, ⟨16, _⟩ => ⟨S256x2816, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.addi v0 c1_i32
  let c32_i32 : BitVec 32 := 32#32
  let v2 : BitVec 32 := Scalar.muli v1 c32_i32
  let c287_i32 : BitVec 32 := 287#32
  let v3 : BitVec 32 := Scalar.minsi v2 c287_i32
  let c0_i32_0 : BitVec 32 := 0#32
  let c0_i32_1 : BitVec 32 := 0#32
  ![arg0.toNat, v3.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S32x2304x1024 : Shape := ⟨3, ![32, 2304, 1024]⟩
abbrev S32x2x6x1024 : Shape := ⟨4, ![32, 2, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S32x256x1024 : Shape := ⟨3, ![32, 256, 1024]⟩
abbrev S32x1x6x1024 : Shape := ⟨4, ![32, 1, 6, 1024]⟩
abbrev S32x6x1024 : Shape := ⟨3, ![32, 6, 1024]⟩
abbrev S32x1x1024 : Shape := ⟨3, ![32, 1, 1024]⟩
abbrev S32x1024 : Shape := ⟨2, ![32, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x5632 : Shape := ⟨3, ![32, 256, 5632]⟩
abbrev S32x1x5632 : Shape := ⟨3, ![32, 1, 5632]⟩
abbrev S32x255x5632 : Shape := ⟨3, ![32, 255, 5632]⟩
abbrev S1x5632 : Shape := ⟨2, ![1, 5632]⟩
abbrev S5632 : Shape := ⟨1, ![5632]⟩
abbrev S1x1x5632 : Shape := ⟨3, ![1, 1, 5632]⟩
abbrev S32x256x2816 : Shape := ⟨3, ![32, 256, 2816]⟩
abbrev S32x2048x1024 : Shape := ⟨3, ![32, 2048, 1024]⟩
abbrev S32x2048 : Shape := ⟨2, ![32, 2048]⟩
abbrev S32x2048x1 : Shape := ⟨3, ![32, 2048, 1]⟩
abbrev S32x2048x5632 : Shape := ⟨3, ![32, 2048, 5632]⟩
abbrev S32x2047x5632 : Shape := ⟨3, ![32, 2047, 5632]⟩
abbrev S32x2048x2816 : Shape := ⟨3, ![32, 2048, 2816]⟩

abbrev nBuf : Space → Nat
  | .hbm => 159
  | .vmem => 0
  | .smem => 0
  | _ => 0

abbrev hbmTy0_0 (i : Nat) : BufTy := match i % 128 with
  | 0 => ⟨S32x2304x1024, .f32⟩
  | 1 => ⟨S32x2x6x1024, .f32⟩
  | 2 => ⟨S1024, .f32⟩
  | 3 => ⟨S1024x5632, .f32⟩
  | 4 => ⟨S3x5632, .f32⟩
  | 5 => ⟨S2816x1024, .f32⟩
  | 6 => ⟨S32x256x1024, .f32⟩
  | 7 => ⟨S32x1x6x1024, .f32⟩
  | 8 => ⟨S32x6x1024, .f32⟩
  | 9 => ⟨S32x1x1024, .f32⟩
  | 10 => ⟨S32x1024, .f32⟩
  | 11 => ⟨S32x1x1024, .f32⟩
  | 12 => ⟨S32x1x1024, .f32⟩
  | 13 => ⟨S32x1024, .f32⟩
  | 14 => ⟨S32x1x1024, .f32⟩
  | 15 => ⟨S32x1x1024, .f32⟩
  | 16 => ⟨S32x1024, .f32⟩
  | 17 => ⟨S32x1x1024, .f32⟩
  | 18 => ⟨S32x256x1024, .f32⟩
  | 19 => ⟨S_, .f32⟩
  | 20 => ⟨S32x256, .f32⟩
  | 21 => ⟨S32x256x1, .f32⟩
  | 22 => ⟨S_, .f32⟩
  | 23 => ⟨S32x256x1, .f32⟩
  | 24 => ⟨S32x256x1, .f32⟩
  | 25 => ⟨S_, .f32⟩
  | 26 => ⟨S32x256x1, .f32⟩
  | 27 => ⟨S32x256x1, .f32⟩
  | 28 => ⟨S32x256x1, .f32⟩
  | 29 => ⟨S32x256x1024, .f32⟩
  | 30 => ⟨S32x256x1024, .f32⟩
  | 31 => ⟨S1x1x1024, .f32⟩
  | 32 => ⟨S32x256x1024, .f32⟩
  | 33 => ⟨S32x256x1024, .f32⟩
  | 34 => ⟨S_, .f32⟩
  | 35 => ⟨S32x1x1024, .f32⟩
  | 36 => ⟨S32x1x1024, .f32⟩
  | 37 => ⟨S32x256x1024, .f32⟩
  | 38 => ⟨S32x256x1024, .f32⟩
  | 39 => ⟨S32x256x1024, .f32⟩
  | 40 => ⟨S32x256x1024, .f32⟩
  | 41 => ⟨S32x256x5632, .f32⟩
  | 42 => ⟨S32x1x5632, .f32⟩
  | 43 => ⟨S_, .f32⟩
  | 44 => ⟨S32x1x5632, .f32⟩
  | 45 => ⟨S32x255x5632, .f32⟩
  | 46 => ⟨S32x256x5632, .f32⟩
  | 47 => ⟨S32x255x5632, .f32⟩
  | 48 => ⟨S32x256x5632, .f32⟩
  | 49 => ⟨S1x5632, .f32⟩
  | 50 => ⟨S5632, .f32⟩
  | 51 => ⟨S1x1x5632, .f32⟩
  | 52 => ⟨S32x256x5632, .f32⟩
  | 53 => ⟨S32x256x5632, .f32⟩
  | 54 => ⟨S1x5632, .f32⟩
  | 55 => ⟨S5632, .f32⟩
  | 56 => ⟨S1x1x5632, .f32⟩
  | 57 => ⟨S32x256x5632, .f32⟩
  | 58 => ⟨S32x256x5632, .f32⟩
  | 59 => ⟨S32x256x5632, .f32⟩
  | 60 => ⟨S1x5632, .f32⟩
  | 61 => ⟨S5632, .f32⟩
  | 62 => ⟨S1x1x5632, .f32⟩
  | 63 => ⟨S32x256x5632, .f32⟩
  | 64 => ⟨S32x256x5632, .f32⟩
  | 65 => ⟨S32x256x5632, .f32⟩
  | 66 => ⟨S32x256x2816, .f32⟩
  | 67 => ⟨S32x256x2816, .f32⟩
  | 68 => ⟨S32x256x2816, .f32⟩
  | 69 => ⟨S32x256x2816, .f32⟩
  | 70 => ⟨S_, .f32⟩
  | 71 => ⟨S32x256x2816, .f32⟩
  | 72 => ⟨S32x256x2816, .f32⟩
  | 73 => ⟨S_, .f32⟩
  | 74 => ⟨S32x256x2816, .f32⟩
  | 75 => ⟨S32x256x2816, .f32⟩
  | 76 => ⟨S32x256x2816, .f32⟩
  | 77 => ⟨S32x256x2816, .f32⟩
  | 78 => ⟨S32x256x1024, .f32⟩
  | 79 => ⟨S32x256x1024, .f32⟩
  | 80 => ⟨S32x256x1024, .f32⟩
  | 81 => ⟨S32x256x1024, .f32⟩
  | 82 => ⟨S32x2048x1024, .f32⟩
  | 83 => ⟨S32x1x6x1024, .f32⟩
  | 84 => ⟨S32x6x1024, .f32⟩
  | 85 => ⟨S32x1x1024, .f32⟩
  | 86 => ⟨S32x1024, .f32⟩
  | 87 => ⟨S32x1x1024, .f32⟩
  | 88 => ⟨S32x1x1024, .f32⟩
  | 89 => ⟨S32x1024, .f32⟩
  | 90 => ⟨S32x1x1024, .f32⟩
  | 91 => ⟨S32x1x1024, .f32⟩
  | 92 => ⟨S32x1024, .f32⟩
  | 93 => ⟨S32x1x1024, .f32⟩
  | 94 => ⟨S32x2048x1024, .f32⟩
  | 95 => ⟨S_, .f32⟩
  | 96 => ⟨S32x2048, .f32⟩
  | 97 => ⟨S32x2048x1, .f32⟩
  | 98 => ⟨S_, .f32⟩
  | 99 => ⟨S32x2048x1, .f32⟩
  | 100 => ⟨S32x2048x1, .f32⟩
  | 101 => ⟨S_, .f32⟩
  | 102 => ⟨S32x2048x1, .f32⟩
  | 103 => ⟨S32x2048x1, .f32⟩
  | 104 => ⟨S32x2048x1, .f32⟩
  | 105 => ⟨S32x2048x1024, .f32⟩
  | 106 => ⟨S32x2048x1024, .f32⟩
  | 107 => ⟨S1x1x1024, .f32⟩
  | 108 => ⟨S32x2048x1024, .f32⟩
  | 109 => ⟨S32x2048x1024, .f32⟩
  | 110 => ⟨S_, .f32⟩
  | 111 => ⟨S32x1x1024, .f32⟩
  | 112 => ⟨S32x1x1024, .f32⟩
  | 113 => ⟨S32x2048x1024, .f32⟩
  | 114 => ⟨S32x2048x1024, .f32⟩
  | 115 => ⟨S32x2048x1024, .f32⟩
  | 116 => ⟨S32x2048x1024, .f32⟩
  | 117 => ⟨S32x2048x5632, .f32⟩
  | 118 => ⟨S32x1x5632, .f32⟩
  | 119 => ⟨S_, .f32⟩
  | 120 => ⟨S32x1x5632, .f32⟩
  | 121 => ⟨S32x2047x5632, .f32⟩
  | 122 => ⟨S32x2048x5632, .f32⟩
  | 123 => ⟨S32x2047x5632, .f32⟩
  | 124 => ⟨S32x2048x5632, .f32⟩
  | 125 => ⟨S1x5632, .f32⟩
  | 126 => ⟨S5632, .f32⟩
  | 127 => ⟨S1x1x5632, .f32⟩
  | _ => ⟨S32x2304x1024, .f32⟩

abbrev hbmTy0_1 (i : Nat) : BufTy := match i % 128 with
  | 0 => ⟨S32x2048x5632, .f32⟩
  | 1 => ⟨S32x2048x5632, .f32⟩
  | 2 => ⟨S1x5632, .f32⟩
  | 3 => ⟨S5632, .f32⟩
  | 4 => ⟨S1x1x5632, .f32⟩
  | 5 => ⟨S32x2048x5632, .f32⟩
  | 6 => ⟨S32x2048x5632, .f32⟩
  | 7 => ⟨S32x2048x5632, .f32⟩
  | 8 => ⟨S1x5632, .f32⟩
  | 9 => ⟨S5632, .f32⟩
  | 10 => ⟨S1x1x5632, .f32⟩
  | 11 => ⟨S32x2048x5632, .f32⟩
  | 12 => ⟨S32x2048x5632, .f32⟩
  | 13 => ⟨S32x2048x5632, .f32⟩
  | 14 => ⟨S32x2048x2816, .f32⟩
  | 15 => ⟨S32x2048x2816, .f32⟩
  | 16 => ⟨S32x2048x2816, .f32⟩
  | 17 => ⟨S32x2048x2816, .f32⟩
  | 18 => ⟨S_, .f32⟩
  | 19 => ⟨S32x2048x2816, .f32⟩
  | 20 => ⟨S32x2048x2816, .f32⟩
  | 21 => ⟨S_, .f32⟩
  | 22 => ⟨S32x2048x2816, .f32⟩
  | 23 => ⟨S32x2048x2816, .f32⟩
  | 24 => ⟨S32x2048x2816, .f32⟩
  | 25 => ⟨S32x2048x2816, .f32⟩
  | 26 => ⟨S32x2048x1024, .f32⟩
  | 27 => ⟨S32x2048x1024, .f32⟩
  | 28 => ⟨S32x2048x1024, .f32⟩
  | 29 => ⟨S32x2048x1024, .f32⟩
  | 30 => ⟨S32x2304x1024, .f32⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_4 : Ref sig .tc := ⟨.hbm, 95, rfl⟩
abbrev main_v76 : Ref sig .tc := ⟨.hbm, 96, rfl⟩
abbrev main_v77 : Ref sig .tc := ⟨.hbm, 97, rfl⟩
abbrev main_cst_5 : Ref sig .tc := ⟨.hbm, 98, rfl⟩
abbrev main_v78 : Ref sig .tc := ⟨.hbm, 99, rfl⟩
abbrev main_v79 : Ref sig .tc := ⟨.hbm, 100, rfl⟩
abbrev main_cst_6 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_7 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_8 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_call1_v0 : Ref sig .tc := ⟨.hbm, 144, rfl⟩
abbrev main_call1_v1 : Ref sig .tc := ⟨.hbm, 145, rfl⟩
abbrev main_call1_cst : Ref sig .tc := ⟨.hbm, 146, rfl⟩
abbrev main_call1_v2 : Ref sig .tc := ⟨.hbm, 147, rfl⟩
abbrev main_call1_v3 : Ref sig .tc := ⟨.hbm, 148, rfl⟩
abbrev main_call1_cst_0 : Ref sig .tc := ⟨.hbm, 149, rfl⟩
abbrev main_call1_v4 : Ref sig .tc := ⟨.hbm, 150, rfl⟩
abbrev main_call1_v5 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩

abbrev nD : Nat := 1
abbrev τ : Topo := Topo.v7x

variable {F : FTy → Type} [FloatOps F]
-- ==== Kernel3.lean ====
abbrev S32x2304x1024 : Shape := ⟨3, ![32, 2304, 1024]⟩
abbrev S32x2x6x1024 : Shape := ⟨4, ![32, 2, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S32x2048x1024 : Shape := ⟨3, ![32, 2048, 1024]⟩
abbrev S1x256x1024 : Shape := ⟨3, ![1, 256, 1024]⟩
abbrev S1x8x1024 : Shape := ⟨3, ![1, 8, 1024]⟩
abbrev S1x1x6x1024 : Shape := ⟨4, ![1, 1, 6, 1024]⟩
abbrev S11x272x256 : Shape := ⟨3, ![11, 272, 256]⟩
abbrev S256x2816 : Shape := ⟨2, ![256, 2816]⟩
abbrev S6x1024 : Shape := ⟨2, ![6, 1024]⟩
abbrev S256x1024 : Shape := ⟨2, ![256, 1024]⟩
abbrev S8x1024 : Shape := ⟨2, ![8, 1024]⟩
abbrev S272x1024 : Shape := ⟨2, ![272, 1024]⟩
abbrev S272x1 : Shape := ⟨2, ![272, 1]⟩
abbrev S272 : Shape := ⟨1, ![272]⟩
abbrev S1024x256 : Shape := ⟨2, ![1024, 256]⟩
abbrev S272x256 : Shape := ⟨2, ![272, 256]⟩
abbrev S1x272x256 : Shape := ⟨3, ![1, 272, 256]⟩
abbrev S3x256 : Shape := ⟨2, ![3, 256]⟩
abbrev S1x256 : Shape := ⟨2, ![1, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S32x2304x1024, .f32⟩
  | .hbm, ⟨1, _⟩ => ⟨S32x2x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S2816x1024, .bf16⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | .local _ .vmem, ⟨15, _⟩ => ⟨S11x272x256, .f32⟩
  | .local _ .vmem, ⟨16, _⟩ => ⟨S11x272x256, .f32⟩
  | .local _ .vmem, ⟨17, _⟩ => ⟨S256x2816, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c32_i32 : BitVec 32 := 32#32
  let v2 : BitVec 32 := Scalar.muli v1 c32_i32
  let c287_i32 : BitVec 32 := 287#32
  let v3 : BitVec 32 := Scalar.minsi v2 c287_i32
  let c0_i32 : BitVec 32 := 0#32
  let c0_i32_1 : BitVec 32 := 0#32
  ![arg0.toNat, v3.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S32x2304x1024 : Shape := ⟨3, ![32, 2304, 1024]⟩
abbrev S32x2x6x1024 : Shape := ⟨4, ![32, 2, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S32x2048x1024 : Shape := ⟨3, ![32, 2048, 1024]⟩
abbrev S32x1x6x1024 : Shape := ⟨4, ![32, 1, 6, 1024]⟩
abbrev S32x6x1024 : Shape := ⟨3, ![32, 6, 1024]⟩
abbrev S32x1x1024 : Shape := ⟨3, ![32, 1, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x1x5632 : Shape := ⟨3, ![32, 1, 5632]⟩
abbrev S32x2047x5632 : Shape := ⟨3, ![32, 2047, 5632]⟩
abbrev S1x5632 : Shape := ⟨2, ![1, 5632]⟩
abbrev S5632 : Shape := ⟨1, ![5632]⟩
abbrev S1x1x5632 : Shape := ⟨3, ![1, 1, 5632]⟩
abbrev S32x2048x2816 : Shape := ⟨3, ![32, 2048, 2816]⟩

abbrev nBuf : Space → Nat
  | .hbm => 99
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x2x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S32x2048x1024, .f32⟩
  | .hbm, ⟨8, _⟩ => ⟨S32x1x6x1024, .f32⟩
  | .hbm, ⟨9, _⟩ => ⟨S32x6x1024, .f32⟩
  | .hbm, ⟨10, _⟩ => ⟨S32x1x1024, .f32⟩
  | .hbm, ⟨11, _⟩ => ⟨S32x1024, .f32⟩
  | .hbm, ⟨12, _⟩ => ⟨S32x1x1024, .f32⟩
  | .hbm, ⟨13, _⟩ => ⟨S32x1x1024, .f32⟩
  | .hbm, ⟨14, _⟩ => ⟨S32x1024, .f32⟩
  | .hbm, ⟨15, _⟩ => ⟨S32x1x1024, .f32⟩
  | .hbm, ⟨16, _⟩ => ⟨S32x1x1024, .f32⟩
  | .hbm, ⟨17, _⟩ => ⟨S32x1024, .f32⟩
  | .hbm, ⟨18, _⟩ => ⟨S32x1x1024, .f32⟩
  | .hbm, ⟨19, _⟩ => ⟨S32x2048x1024, .f32⟩
  | .hbm, ⟨20, _⟩ => ⟨S_, .f32⟩
  | .hbm, ⟨21, _⟩ => ⟨S32x2048, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S_, .f32⟩
  | .hbm, ⟨27, _⟩ => ⟨S32x2048x1, .f32⟩
  | .hbm, ⟨28, _⟩ => ⟨S32x2048x1, .f32⟩
  | .hbm, ⟨29, _⟩ => ⟨S32x2048x1, .f32⟩
  | .hbm, ⟨30, _⟩ => ⟨S32x2048x1024, .f32⟩
  | .hbm, ⟨31, _⟩ => ⟨S32x2048x1024, .f32⟩
  | .hbm, ⟨32, _⟩ => ⟨S1x1x1024, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x1x1024, .f32⟩
  | .hbm, ⟨37, _⟩ => ⟨S32x1x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x5632, .f32⟩
  | .hbm, ⟨43, _⟩ => ⟨S32x1x5632, .f32⟩
  | .hbm, ⟨44, _⟩ => ⟨S_, .f32⟩
  | .hbm, ⟨45, _⟩ => ⟨S32x1x5632, .f32⟩
  | .hbm, ⟨46, _⟩ => ⟨S32x2047x5632, .f32⟩
  | .hbm, ⟨47, _⟩ => ⟨S32x2048x5632, .f32⟩
  | .hbm, ⟨48, _⟩ => ⟨S32x2047x5632, .f32⟩
  | .hbm, ⟨49, _⟩ => ⟨S32x2048x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S32x2048x5632, .f32⟩
  | .hbm, ⟨54, _⟩ => ⟨S32x2048x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S32x2048x5632, .f32⟩
  | .hbm, ⟨59, _⟩ => ⟨S32x2048x5632, .f32⟩
  | .hbm, ⟨60, _⟩ => ⟨S32x2048x5632, .f32⟩
  | .hbm, ⟨61, _⟩ => ⟨S1x5632, .f32⟩
  | .hbm, ⟨62, _⟩ => ⟨S5632, .f32⟩
  | .hbm, ⟨63, _⟩ => ⟨S1x1x5632, .f32⟩
  | .hbm, ⟨64, _⟩ => ⟨S32x2048x5632, .f32⟩
  | .hbm, ⟨65, _⟩ => ⟨S32x2048x5632, .f32⟩
  | .hbm, ⟨66, _⟩ => ⟨S32x2048x5632, .f32⟩
  | .hbm, ⟨67, _⟩ => ⟨S32x2048x2816, .f32⟩
  | .hbm, ⟨68, _⟩ => ⟨S32x2048x2816, .f32⟩
  | .hbm, ⟨69, _⟩ => ⟨S32x2048x2816, .f32⟩
  | .hbm, ⟨70, _⟩ => ⟨S32x2048x2816, .f32⟩
  | .hbm, ⟨71, _⟩ => ⟨S_, .f32⟩
  | .hbm, ⟨72, _⟩ => ⟨S32x2048x2816, .f32⟩
  | .hbm, ⟨73, _⟩ => ⟨S32x2048x2816, .f32⟩
  | .hbm, ⟨74, _⟩ => ⟨S_, .f32⟩
  | .hbm, ⟨75, _⟩ => ⟨S32x2048x2816, .f32⟩
  | .hbm, ⟨76, _⟩ => ⟨S32x2048x2816, .f32⟩
  | .hbm, ⟨77, _⟩ => ⟨S32x2048x2816, .f32⟩
  | .hbm, ⟨78, _⟩ => ⟨S32x2048x2816, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S32x2048x1024, .f32⟩
  | .hbm, ⟨83, _⟩ => ⟨S32x2048x1024, .f32⟩
  | .hbm, ⟨84, _⟩ => ⟨S_, .f32⟩
  | .hbm, ⟨85, _⟩ => ⟨S32x2048, .f32⟩
  | .hbm, ⟨86, _⟩ => ⟨S32x2048x1, .f32⟩
  | .hbm, ⟨87, _⟩ => ⟨S_, .f32⟩
  | .hbm, ⟨88, _⟩ => ⟨S32x2048x1, .f32⟩
  | .hbm, ⟨89, _⟩ => ⟨S32x2048x1, .f32⟩
  | .hbm, ⟨90, _⟩ => ⟨S_, .f32⟩
  | .hbm, ⟨91, _⟩ => ⟨S32x2048x1, .f32⟩
  | .hbm, ⟨92, _⟩ => ⟨S32x2048x1, .f32⟩
  | .hbm, ⟨93, _⟩ => ⟨S32x2048x1, .f32⟩
  | .hbm, ⟨94, _⟩ => ⟨S32x2048x1024, .f32⟩
  | .hbm, ⟨95, _⟩ => ⟨S32x2048x1024, .f32⟩
  | .hbm, ⟨96, _⟩ => ⟨S1x1x1024, .f32⟩
  | .hbm, ⟨97, _⟩ => ⟨S32x2048x1024, .f32⟩
  | .hbm, ⟨98, _⟩ => ⟨S32x2048x1024, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_4 : Ref sig .tc := ⟨.hbm, 84, rfl⟩
abbrev main_v64 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel4.lean ====
abbrev S32x2304x1024 : Shape := ⟨3, ![32, 2304, 1024]⟩
abbrev S32x2x6x1024 : Shape := ⟨4, ![32, 2, 6, 1024]⟩
abbrev S1024 : Shape := ⟨1, ![1024]⟩
abbrev S1024x3072 : Shape := ⟨2, ![1024, 3072]⟩
abbrev S1x1024 : Shape := ⟨2, ![1, 1024]⟩
abbrev S1x256x1024 : Shape := ⟨3, ![1, 256, 1024]⟩
abbrev S1x1x6x1024 : Shape := ⟨4, ![1, 1, 6, 1024]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S32x2304x1024, .f32⟩
  | .hbm, ⟨1, _⟩ => ⟨S32x2x6x1024, .f32⟩
  | .hbm, ⟨2, _⟩ => ⟨S1024, .f32⟩
  | .hbm, ⟨3, _⟩ => ⟨S1024x3072, .f32⟩
  | .hbm, ⟨4, _⟩ => ⟨S1x1024, .f32⟩
  | .hbm, ⟨5, _⟩ => ⟨S1024x3072, .bf16⟩
  | .hbm, ⟨6, _⟩ => ⟨S32x2304x1024, .f32⟩
  | .hbm, ⟨7, _⟩ => ⟨S32x2304x1024, .bf16⟩
  | .hbm, ⟨8, _⟩ => ⟨S32x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32x2304x1024 : Shape := ⟨3, ![32, 2304, 1024]⟩
abbrev S32x2x6x1024 : Shape := ⟨4, ![32, 2, 6, 1024]⟩
abbrev S1024 : Shape := ⟨1, ![1024]⟩
abbrev S1024x3072 : Shape := ⟨2, ![1024, 3072]⟩
abbrev S32x1x6x1024 : Shape := ⟨4, ![32, 1, 6, 1024]⟩
abbrev S32x6x1024 : Shape := ⟨3, ![32, 6, 1024]⟩
abbrev S32x256x1024 : Shape := ⟨3, ![32, 256, 1024]⟩
abbrev S32x1x1024 : Shape := ⟨3, ![32, 1, 1024]⟩
abbrev S32x1024 : Shape := ⟨2, ![32, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x3072 : Shape := ⟨3, ![32, 256, 3072]⟩
abbrev S32x2048x1024 : Shape := ⟨3, ![32, 2048, 1024]⟩
abbrev S32x2048 : Shape := ⟨2, ![32, 2048]⟩
abbrev S32x2048x1 : Shape := ⟨3, ![32, 2048, 1]⟩
abbrev S32x2048x3072 : Shape := ⟨3, ![32, 2048, 3072]⟩
abbrev S32x2304x3072 : Shape := ⟨3, ![32, 2304, 3072]⟩

abbrev nBuf : Space → Nat
  | .hbm => 76
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x2x6x1024, .f32⟩
  | .hbm, ⟨2, _⟩ => ⟨S1024, .f32⟩
  | .hbm, ⟨3, _⟩ => ⟨S1024x3072, .f32⟩
  | .hbm, ⟨4, _⟩ => ⟨S32x1x6x1024, .f32⟩
  | .hbm, ⟨5, _⟩ => ⟨S32x6x1024, .f32⟩
  | .hbm, ⟨6, _⟩ => ⟨S32x256x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S32x1024, .f32⟩
  | .hbm, ⟨12, _⟩ => ⟨S32x1x1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S32x1x1024, .f32⟩
  | .hbm, ⟨31, _⟩ => ⟨S32x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x3072, .f32⟩
  | .hbm, ⟨37, _⟩ => ⟨S32x1x6x1024, .f32⟩
  | .hbm, ⟨38, _⟩ => ⟨S32x6x1024, .f32⟩
  | .hbm, ⟨39, _⟩ => ⟨S32x2048x1024, .f32⟩
  | .hbm, ⟨40, _⟩ => ⟨S32x1x1024, .f32⟩
  | .hbm, ⟨41, _⟩ => ⟨S32x1024, .f32⟩
  | .hbm, ⟨42, _⟩ => ⟨S32x1x1024, .f32⟩
  | .hbm, ⟨43, _⟩ => ⟨S32x1x1024, .f32⟩
  | .hbm, ⟨44, _⟩ => ⟨S32x1024, .f32⟩
  | .hbm, ⟨45, _⟩ => ⟨S32x1x1024, .f32⟩
  | .hbm, ⟨46, _⟩ => ⟨S32x2048x1024, .f32⟩
  | .hbm, ⟨47, _⟩ => ⟨S_, .f32⟩
  | .hbm, ⟨48, _⟩ => ⟨S32x2048, .f32⟩
  | .hbm, ⟨49, _⟩ => ⟨S32x2048x1, .f32⟩
  | .hbm, ⟨50, _⟩ => ⟨S_, .f32⟩
  | .hbm, ⟨51, _⟩ => ⟨S32x2048x1, .f32⟩
  | .hbm, ⟨52, _⟩ => ⟨S32x2048x1, .f32⟩
  | .hbm, ⟨53, _⟩ => ⟨S_, .f32⟩
  | .hbm, ⟨54, _⟩ => ⟨S32x2048x1, .f32⟩
  | .hbm, ⟨55, _⟩ => ⟨S32x2048x1, .f32⟩
  | .hbm, ⟨56, _⟩ => ⟨S32x2048x1, .f32⟩
  | .hbm, ⟨57, _⟩ => ⟨S32x2048x1024, .f32⟩
  | .hbm, ⟨58, _⟩ => ⟨S32x2048x1024, .f32⟩
  | .hbm, ⟨59, _⟩ => ⟨S1x1x1024, .f32⟩
  | .hbm, ⟨60, _⟩ => ⟨S32x2048x1024, .f32⟩
  | .hbm, ⟨61, _⟩ => ⟨S32x2048x1024, .f32⟩
  | .hbm, ⟨62, _⟩ => ⟨S_, .f32⟩
  | .hbm, ⟨63, _⟩ => ⟨S32x1x1024, .f32⟩
  | .hbm, ⟨64, _⟩ => ⟨S32x1x1024, .f32⟩
  | .hbm, ⟨65, _⟩ => ⟨S32x2048x1024, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S32x2048x3072, .f32⟩
  | .hbm, ⟨70, _⟩ => ⟨S32x2304x3072, .f32⟩
  | .hbm, ⟨71, _⟩ => ⟨S32x2304x1024, .f32⟩
  | .hbm, ⟨72, _⟩ => ⟨S32x2304x1024, .f32⟩
  | .hbm, ⟨73, _⟩ => ⟨S32x2304x1024, .f32⟩
  | .hbm, ⟨74, _⟩ => ⟨S32x2304x1024, .bf16⟩
  | .hbm, ⟨75, _⟩ => ⟨S32x2304x1024, .bf16⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Kernel5.lean ====
abbrev S32x2304x1024 : Shape := ⟨3, ![32, 2304, 1024]⟩
abbrev S32x2x6x1024 : Shape := ⟨4, ![32, 2, 6, 1024]⟩
abbrev S1024x1024 : Shape := ⟨2, ![1024, 1024]⟩
abbrev S1x256x1024 : Shape := ⟨3, ![1, 256, 1024]⟩
abbrev S1x1x6x1024 : Shape := ⟨4, ![1, 1, 6, 1024]⟩
abbrev S6x1024 : Shape := ⟨2, ![6, 1024]⟩
abbrev S1x1024 : Shape := ⟨2, ![1, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S32x2304x1024, .f32⟩
  | .hbm, ⟨1, _⟩ => ⟨S32x2304x1024, .bf16⟩
  | .hbm, ⟨2, _⟩ => ⟨S32x2x6x1024, .f32⟩
  | .hbm, ⟨3, _⟩ => ⟨S1024x1024, .f32⟩
  | .hbm, ⟨4, _⟩ => ⟨S1024x1024, .bf16⟩
  | .hbm, ⟨5, _⟩ => ⟨S32x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x1x6x1024, .f32⟩
  | .local _ .vmem, ⟨5, _⟩ => ⟨S1x1x6x1024, .f32⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32x2304x1024 : Shape := ⟨3, ![32, 2304, 1024]⟩
abbrev S32x2x6x1024 : Shape := ⟨4, ![32, 2, 6, 1024]⟩
abbrev S1024x1024 : Shape := ⟨2, ![1024, 1024]⟩
abbrev S32x1x6x1024 : Shape := ⟨4, ![32, 1, 6, 1024]⟩
abbrev S32x6x1024 : Shape := ⟨3, ![32, 6, 1024]⟩
abbrev S32x256x1024 : Shape := ⟨3, ![32, 256, 1024]⟩
abbrev S32x1x1024 : Shape := ⟨3, ![32, 1, 1024]⟩
abbrev S32x1024 : Shape := ⟨2, ![32, 1024]⟩
abbrev S32x2048x1024 : Shape := ⟨3, ![32, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x2304x1024, .bf16⟩
  | .hbm, ⟨2, _⟩ => ⟨S32x2x6x1024, .f32⟩
  | .hbm, ⟨3, _⟩ => ⟨S1024x1024, .f32⟩
  | .hbm, ⟨4, _⟩ => ⟨S32x1x6x1024, .f32⟩
  | .hbm, ⟨5, _⟩ => ⟨S32x6x1024, .f32⟩
  | .hbm, ⟨6, _⟩ => ⟨S32x256x1024, .f32⟩
  | .hbm, ⟨7, _⟩ => ⟨S32x256x1024, .bf16⟩
  | .hbm, ⟨8, _⟩ => ⟨S32x1x1024, .f32⟩
  | .hbm, ⟨9, _⟩ => ⟨S32x1024, .f32⟩
  | .hbm, ⟨10, _⟩ => ⟨S32x1x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S32x256x1024, .f32⟩
  | .hbm, ⟨15, _⟩ => ⟨S32x256x1024, .f32⟩
  | .hbm, ⟨16, _⟩ => ⟨S32x1x6x1024, .f32⟩
  | .hbm, ⟨17, _⟩ => ⟨S32x6x1024, .f32⟩
  | .hbm, ⟨18, _⟩ => ⟨S32x2048x1024, .f32⟩
  | .hbm, ⟨19, _⟩ => ⟨S32x2048x1024, .bf16⟩
  | .hbm, ⟨20, _⟩ => ⟨S32x1x1024, .f32⟩
  | .hbm, ⟨21, _⟩ => ⟨S32x1024, .f32⟩
  | .hbm, ⟨22, _⟩ => ⟨S32x1x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2304x1024, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Kernel6.lean ====
abbrev S32x2304x1024 : Shape := ⟨3, ![32, 2304, 1024]⟩
abbrev S2x32x2304x1024 : Shape := ⟨4, ![2, 32, 2304, 1024]⟩
abbrev S32x2x6x1024 : Shape := ⟨4, ![32, 2, 6, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S1x1x256x1024 : Shape := ⟨4, ![1, 1, 256, 1024]⟩
abbrev S1x1x6x1024 : Shape := ⟨4, ![1, 1, 6, 1024]⟩
abbrev S6x1024 : Shape := ⟨2, ![6, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S32x2304x1024, .f32⟩
  | .hbm, ⟨1, _⟩ => ⟨S2x32x2304x1024, .bf16⟩
  | .hbm, ⟨2, _⟩ => ⟨S32x2304x1024, .bf16⟩
  | .hbm, ⟨3, _⟩ => ⟨S32x2x6x1024, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S32x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1x6x1024, .f32⟩
  | .local _ .vmem, ⟨9, _⟩ => ⟨S1x1x6x1024, .f32⟩
  | .local _ .vmem, ⟨10, _⟩ => ⟨S1x1024, .f32⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S32x2304x1024 : Shape := ⟨3, ![32, 2304, 1024]⟩
abbrev S2x32x2304x1024 : Shape := ⟨4, ![2, 32, 2304, 1024]⟩
abbrev S32x2x6x1024 : Shape := ⟨4, ![32, 2, 6, 1024]⟩
abbrev S1024 : Shape := ⟨1, ![1024]⟩
abbrev S1024x1024 : Shape := ⟨2, ![1024, 1024]⟩
abbrev S1x32x2304x1024 : Shape := ⟨4, ![1, 32, 2304, 1024]⟩
abbrev S32x1x6x1024 : Shape := ⟨4, ![32, 1, 6, 1024]⟩
abbrev S32x6x1024 : Shape := ⟨3, ![32, 6, 1024]⟩
abbrev S32x256x1024 : Shape := ⟨3, ![32, 256, 1024]⟩
abbrev S32x256x4x256 : Shape := ⟨4, ![32, 256, 4, 256]⟩
abbrev S_ : Shape := ⟨0, ![]⟩
abbrev S32x256x4 : Shape := ⟨3, ![32, 256, 4]⟩
abbrev S32x256x4x1 : Shape := ⟨4, ![32, 256, 4, 1]⟩
abbrev S32x1x1024 : Shape := ⟨3, ![32, 1, 1024]⟩
abbrev S32x1024 : Shape := ⟨2, ![32, 1024]⟩
abbrev S1x1x1024 : Shape := ⟨3, ![1, 1, 1024]⟩
abbrev S32x2048x1024 : Shape := ⟨3, ![32, 2048, 1024]⟩
abbrev S32x2048x4x256 : Shape := ⟨4, ![32, 2048, 4, 256]⟩
abbrev S32x2048x4 : Shape := ⟨3, ![32, 2048, 4]⟩
abbrev S32x2048x4x1 : Shape := ⟨4, ![32, 2048, 4, 1]⟩

abbrev nBuf : Space → Nat
  | .hbm => 83
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S2x32x2304x1024, .bf16⟩
  | .hbm, ⟨2, _⟩ => ⟨S32x2304x1024, .bf16⟩
  | .hbm, ⟨3, _⟩ => ⟨S32x2x6x1024, .f32⟩
  | .hbm, ⟨4, _⟩ => ⟨S1024, .f32⟩
  | .hbm, ⟨5, _⟩ => ⟨S1024x1024, .f32⟩
  | .hbm, ⟨6, _⟩ => ⟨S1x32x2304x1024, .bf16⟩
  | .hbm, ⟨7, _⟩ => ⟨S32x2304x1024, .bf16⟩
  | .hbm, ⟨8, _⟩ => ⟨S1x32x2304x1024, .bf16⟩
  | .hbm, ⟨9, _⟩ => ⟨S32x2304x1024, .bf16⟩
  | .hbm, ⟨10, _⟩ => ⟨S32x1x6x1024, .f32⟩
  | .hbm, ⟨11, _⟩ => ⟨S32x6x1024, .f32⟩
  | .hbm, ⟨12, _⟩ => ⟨S32x256x1024, .f32⟩
  | .hbm, ⟨13, _⟩ => ⟨S32x256x1024, .bf16⟩
  | .hbm, ⟨14, _⟩ => ⟨S32x256x1024, .bf16⟩
  | .hbm, ⟨15, _⟩ => ⟨S32x256x1024, .bf16⟩
  | .hbm, ⟨16, _⟩ => ⟨S32x256x1024, .f32⟩
  | .hbm, ⟨17, _⟩ => ⟨S32x256x1024, .f32⟩
  | .hbm, ⟨18, _⟩ => ⟨S32x256x1024, .f32⟩
  | .hbm, ⟨19, _⟩ => ⟨S32x256x4x256, .f32⟩
  | .hbm, ⟨20, _⟩ => ⟨S32x256x4x256, .f32⟩
  | .hbm, ⟨21, _⟩ => ⟨S_, .f32⟩
  | .hbm, ⟨22, _⟩ => ⟨S32x256x4, .f32⟩
  | .hbm, ⟨23, _⟩ => ⟨S32x256x4x1, .f32⟩
  | .hbm, ⟨24, _⟩ => ⟨S_, .f32⟩
  | .hbm, ⟨25, _⟩ => ⟨S32x256x4x1, .f32⟩
  | .hbm, ⟨26, _⟩ => ⟨S32x256x4x1, .f32⟩
  | .hbm, ⟨27, _⟩ => ⟨S_, .f32⟩
  | .hbm, ⟨28, _⟩ => ⟨S32x256x4x1, .f32⟩
  | .hbm, ⟨29, _⟩ => ⟨S32x256x4x1, .f32⟩
  | .hbm, ⟨30, _⟩ => ⟨S32x256x4x1, .f32⟩
  | .hbm, ⟨31, _⟩ => ⟨S32x256x4x256, .f32⟩
  | .hbm, ⟨32, _⟩ => ⟨S32x256x4x256, .f32⟩
  | .hbm, ⟨33, _⟩ => ⟨S32x1x1024, .f32⟩
  | .hbm, ⟨34, _⟩ => ⟨S32x1024, .f32⟩
  | .hbm, ⟨35, _⟩ => ⟨S32x1x1024, .f32⟩
  | .hbm, ⟨36, _⟩ => ⟨S32x256x1024, .f32⟩
  | .hbm, ⟨37, _⟩ => ⟨S32x256x1024, .f32⟩
  | .hbm, ⟨38, _⟩ => ⟨S1x1x1024, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S32x1x6x1024, .f32⟩
  | .hbm, ⟨47, _⟩ => ⟨S32x6x1024, .f32⟩
  | .hbm, ⟨48, _⟩ => ⟨S32x2048x1024, .f32⟩
  | .hbm, ⟨49, _⟩ => ⟨S32x2048x1024, .bf16⟩
  | .hbm, ⟨50, _⟩ => ⟨S32x2048x1024, .bf16⟩
  | .hbm, ⟨51, _⟩ => ⟨S32x2048x1024, .bf16⟩
  | .hbm, ⟨52, _⟩ => ⟨S32x2048x1024, .f32⟩
  | .hbm, ⟨53, _⟩ => ⟨S32x2048x1024, .f32⟩
  | .hbm, ⟨54, _⟩ => ⟨S32x2048x1024, .f32⟩
  | .hbm, ⟨55, _⟩ => ⟨S32x2048x4x256, .f32⟩
  | .hbm, ⟨56, _⟩ => ⟨S32x2048x4x256, .f32⟩
  | .hbm, ⟨57, _⟩ => ⟨S_, .f32⟩
  | .hbm, ⟨58, _⟩ => ⟨S32x2048x4, .f32⟩
  | .hbm, ⟨59, _⟩ => ⟨S32x2048x4x1, .f32⟩
  | .hbm, ⟨60, _⟩ => ⟨S_, .f32⟩
  | .hbm, ⟨61, _⟩ => ⟨S32x2048x4x1, .f32⟩
  | .hbm, ⟨62, _⟩ => ⟨S32x2048x4x1, .f32⟩
  | .hbm, ⟨63, _⟩ => ⟨S_, .f32⟩
  | .hbm, ⟨64, _⟩ => ⟨S32x2048x4x1, .f32⟩
  | .hbm, ⟨65, _⟩ => ⟨S32x2048x4x1, .f32⟩
  | .hbm, ⟨66, _⟩ => ⟨S32x2048x4x1, .f32⟩
  | .hbm, ⟨67, _⟩ => ⟨S32x2048x4x256, .f32⟩
  | .hbm, ⟨68, _⟩ => ⟨S32x2048x4x256, .f32⟩
  | .hbm, ⟨69, _⟩ => ⟨S32x1x1024, .f32⟩
  | .hbm, ⟨70, _⟩ => ⟨S32x1024, .f32⟩
  | .hbm, ⟨71, _⟩ => ⟨S32x1x1024, .f32⟩
  | .hbm, ⟨72, _⟩ => ⟨S32x2048x1024, .f32⟩
  | .hbm, ⟨73, _⟩ => ⟨S32x2048x1024, .f32⟩
  | .hbm, ⟨74, _⟩ => ⟨S1x1x1024, .f32⟩
  | .hbm, ⟨75, _⟩ => ⟨S32x2048x1024, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S32x2304x1024, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_2 : Ref sig .tc := ⟨.hbm, 57, rfl⟩
abbrev main_v48 : Ref sig .tc := ⟨.hbm, 58, rfl⟩
abbrev main_v49 : Ref sig .tc := ⟨.hbm, 59, rfl⟩
abbrev main_cst_3 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩

abbrev nD : Nat := 1
abbrev τ : Topo := Topo.v7x

variable {F : FTy → Type} [FloatOps F]
-- ==== Kernel7.lean ====
abbrev S32x2304x1024 : Shape := ⟨3, ![32, 2304, 1024]⟩
abbrev S32x144x16384 : Shape := ⟨3, ![32, 144, 16384]⟩
abbrev S32x2x6x1024 : Shape := ⟨4, ![32, 2, 6, 1024]⟩
abbrev S1024x2048 : Shape := ⟨2, ![1024, 2048]⟩
abbrev S2048 : Shape := ⟨1, ![2048]⟩
abbrev S1x2048 : Shape := ⟨2, ![1, 2048]⟩
abbrev S1x256x1024 : Shape := ⟨3, ![1, 256, 1024]⟩
abbrev S1x16x16384 : Shape := ⟨3, ![1, 16, 16384]⟩
abbrev S1x1x6x1024 : Shape := ⟨4, ![1, 1, 6, 1024]⟩
abbrev S256x1024 : Shape := ⟨2, ![256, 1024]⟩
abbrev S16x128 : Shape := ⟨2, ![16, 128]⟩
abbrev S1x16x128 : Shape := ⟨3, ![1, 16, 128]⟩
abbrev S256x256 : Shape := ⟨2, ![256, 256]⟩
abbrev S6x1024 : Shape := ⟨2, ![6, 1024]⟩
abbrev S1x1024 : Shape := ⟨2, ![1, 1024]⟩
abbrev S256x2048 : Shape := ⟨2, ![256, 2048]⟩

abbrev nBuf : Space → Nat
  | .hbm => 8
  | .vmem => 11
  | .smem => 0
  | _ => 0

abbrev bufTy : (tb : Table) → Fin (tcTables nBuf tb) → BufTy
  | .hbm, ⟨0, _⟩ => ⟨S32x2304x1024, .f32⟩
  | .hbm, ⟨1, _⟩ => ⟨S32x144x16384, .bf16⟩
  | .hbm, ⟨2, _⟩ => ⟨S32x2x6x1024, .f32⟩
  | .hbm, ⟨3, _⟩ => ⟨S1024x2048, .f32⟩
  | .hbm, ⟨4, _⟩ => ⟨S2048, .f32⟩
  | .hbm, ⟨5, _⟩ => ⟨S1024x2048, .bf16⟩
  | .hbm, ⟨6, _⟩ => ⟨S1x2048, .f32⟩
  | .hbm, ⟨7, _⟩ => ⟨S32x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x16x16384, .bf16⟩
  | .local _ .vmem, ⟨3, _⟩ => ⟨S1x16x16384, .bf16⟩
  | .local _ .vmem, ⟨4, _⟩ => ⟨S1x1x6x1024, .f32⟩
  | .local _ .vmem, ⟨5, _⟩ => ⟨S1x1x6x1024, .f32⟩
  | .local _ .vmem, ⟨6, _⟩ => ⟨S1024x2048, .bf16⟩
  | .local _ .vmem, ⟨7, _⟩ => ⟨S1x2048, .f32⟩
  | .local _ .vmem, ⟨8, _⟩ => ⟨S1x256x1024, .f32⟩
  | .local _ .vmem, ⟨9, _⟩ => ⟨S1x256x1024, .f32⟩
  | .local _ .vmem, ⟨10, _⟩ => ⟨S256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S32x2304x1024 : Shape := ⟨3, ![32, 2304, 1024]⟩
abbrev S32x144x16384 : Shape := ⟨3, ![32, 144, 16384]⟩
abbrev S32x2x6x1024 : Shape := ⟨4, ![32, 2, 6, 1024]⟩
abbrev S1024x2048 : Shape := ⟨2, ![1024, 2048]⟩
abbrev S2048 : Shape := ⟨1, ![2048]⟩
abbrev S32x144x64x16x16 : Shape := ⟨5, ![32, 144, 64, 16, 16]⟩
abbrev S32x144x16x64x16 : Shape := ⟨5, ![32, 144, 16, 64, 16]⟩
abbrev S32x1x6x1024 : Shape := ⟨4, ![32, 1, 6, 1024]⟩
abbrev S32x6x1024 : Shape := ⟨3, ![32, 6, 1024]⟩
abbrev S32x256x1024 : Shape := ⟨3, ![32, 256, 1024]⟩
abbrev S32x256x2048 : Shape := ⟨3, ![32, 256, 2048]⟩
abbrev S1x1x2048 : Shape := ⟨3, ![1, 1, 2048]⟩
abbrev S32x1x1024 : Shape := ⟨3, ![32, 1, 1024]⟩
abbrev S32x1024 : Shape := ⟨2, ![32, 1024]⟩
abbrev S_ : Shape := ⟨0, ![]⟩
abbrev S32x2048x1024 : Shape := ⟨3, ![32, 2048, 1024]⟩
abbrev S32x2048x2048 : Shape := ⟨3, ![32, 2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x144x16384, .bf16⟩
  | .hbm, ⟨2, _⟩ => ⟨S32x2x6x1024, .f32⟩
  | .hbm, ⟨3, _⟩ => ⟨S1024x2048, .f32⟩
  | .hbm, ⟨4, _⟩ => ⟨S2048, .f32⟩
  | .hbm, ⟨5, _⟩ => ⟨S32x144x64x16x16, .bf16⟩
  | .hbm, ⟨6, _⟩ => ⟨S32x144x16x64x16, .bf16⟩
  | .hbm, ⟨7, _⟩ => ⟨S32x2304x1024, .bf16⟩
  | .hbm, ⟨8, _⟩ => ⟨S32x1x6x1024, .f32⟩
  | .hbm, ⟨9, _⟩ => ⟨S32x6x1024, .f32⟩
  | .hbm, ⟨10, _⟩ => ⟨S32x256x1024, .f32⟩
  | .hbm, ⟨11, _⟩ => ⟨S32x256x1024, .bf16⟩
  | .hbm, ⟨12, _⟩ => ⟨S32x256x1024, .f32⟩
  | .hbm, ⟨13, _⟩ => ⟨S32x256x2048, .f32⟩
  | .hbm, ⟨14, _⟩ => ⟨S1x1x2048, .f32⟩
  | .hbm, ⟨15, _⟩ => ⟨S32x256x2048, .f32⟩
  | .hbm, ⟨16, _⟩ => ⟨S32x256x2048, .f32⟩
  | .hbm, ⟨17, _⟩ => ⟨S32x256x1024, .f32⟩
  | .hbm, ⟨18, _⟩ => ⟨S32x256x1024, .f32⟩
  | .hbm, ⟨19, _⟩ => ⟨S32x1x1024, .f32⟩
  | .hbm, ⟨20, _⟩ => ⟨S32x1024, .f32⟩
  | .hbm, ⟨21, _⟩ => ⟨S32x1x1024, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S32x256x1024, .f32⟩
  | .hbm, ⟨26, _⟩ => ⟨S32x256x1024, .f32⟩
  | .hbm, ⟨27, _⟩ => ⟨S_, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S32x1x6x1024, .f32⟩
  | .hbm, ⟨35, _⟩ => ⟨S32x6x1024, .f32⟩
  | .hbm, ⟨36, _⟩ => ⟨S32x2048x1024, .f32⟩
  | .hbm, ⟨37, _⟩ => ⟨S32x2048x1024, .bf16⟩
  | .hbm, ⟨38, _⟩ => ⟨S32x2048x1024, .f32⟩
  | .hbm, ⟨39, _⟩ => ⟨S32x2048x2048, .f32⟩
  | .hbm, ⟨40, _⟩ => ⟨S1x1x2048, .f32⟩
  | .hbm, ⟨41, _⟩ => ⟨S32x2048x2048, .f32⟩
  | .hbm, ⟨42, _⟩ => ⟨S32x2048x2048, .f32⟩
  | .hbm, ⟨43, _⟩ => ⟨S32x2048x1024, .f32⟩
  | .hbm, ⟨44, _⟩ => ⟨S32x2048x1024, .f32⟩
  | .hbm, ⟨45, _⟩ => ⟨S32x1x1024, .f32⟩
  | .hbm, ⟨46, _⟩ => ⟨S32x1024, .f32⟩
  | .hbm, ⟨47, _⟩ => ⟨S32x1x1024, .f32⟩
  | .hbm, ⟨48, _⟩ => ⟨S32x2048x1024, .f32⟩
  | .hbm, ⟨49, _⟩ => ⟨S32x2048x1024, .f32⟩
  | .hbm, ⟨50, _⟩ => ⟨S_, .f32⟩
  | .hbm, ⟨51, _⟩ => ⟨S32x2048x1024, .f32⟩
  | .hbm, ⟨52, _⟩ => ⟨S32x2048x1024, .f32⟩
  | .hbm, ⟨53, _⟩ => ⟨S_, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S32x2048x1024, .f32⟩
  | .hbm, ⟨60, _⟩ => ⟨S32x2304x1024, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_1 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Proof.FfnSpec.lean ====
/- The gated convolutional feed-forward part, as a function of arrays of extended reals. -/
module

public import Idealize.ShloMosaic.Lib.ValueIdx
public import Idealize.ShloMosaic.Lib.Pointwise
public import Idealize.ShloMosaic.PureOps

@[expose] public section

noncomputable section

namespace Cert.Ffn

open Idealize.ShloMosaic

/-- The factor that divides a row of 1024 by the root of its mean square (plus the norm's small number). -/
def scale (x : Fin 1024 → EReal) : EReal :=
  Ideal.rsqrt (Ideal.div (∑ j, x j * x j) (Ideal.ofBits .f32 1149239296#32) + Ideal.ofBits .f32 897988541#32)

/-- A row normed, scaled and shifted. -/
def nrm (x g sc sh : Fin 1024 → EReal) (k : Fin 1024) : EReal := x k * scale x * g k * (1 + sc k) + sh k

/-- A row normed and scaled: what the last layer's call makes of its rows. -/
def last (y g : Fin 1024 → EReal) (d : Fin 1024) : EReal := y d * scale y * g d

/-- The up-projection of a row to one hidden column with weights `w`. -/
def up (x g sc sh w : Fin 1024 → EReal) : EReal := ∑ k, nrm x g sc sh k * w k

/-- The gated product of two hidden values: the first by the second's SiLU. -/
def gated (a g : EReal) : EReal := a * (g * Ideal.div 1 (1 + Ideal.exp (-g)))

section
variable (X : FVec Ideal ⟨3, ![32, 2304, 1024]⟩ .f32) (M : FVec Ideal ⟨4, ![32, 2, 6, 1024]⟩ .f32) (G : Fin 1024 → EReal)
  (W : Fin 1024 → Fin 5632 → EReal) (C : FVec Ideal ⟨2, ![3, 5632]⟩ .f32) (O : Fin 2816 → Fin 1024 → EReal)

/-- A latent token among all. -/
def latent (i : Fin 2048) : Fin 2304 := ⟨256 + i.val, by omega⟩

/-- Whether a token is context (0) or latent (1). -/
def part (i : Fin 2304) : Fin 2 := if i.val < 256 then 0 else 1

/-- A token's hidden column `f` before the convolution. -/
def hid (b : Fin 32) (i : Fin 2304) (f : Fin 5632) : EReal :=
  up (fun k => X (ix3 b i k)) G (fun k => M (ix4 b (part i) 4 k)) (fun k => M (ix4 b (part i) 3 k)) (fun k => W k f)

/-- The hidden column of the token before in the same part, zero at the part's first token. -/
def before (b : Fin 32) (i : Fin 2304) (f : Fin 5632) : EReal :=
  if i.val = 0 ∨ i.val = 256 then 0 else hid X M G W b ⟨i.val - 1, by omega⟩ f

/-- The hidden column of the token after in the same part, zero at the part's last token. -/
def after (b : Fin 32) (i : Fin 2304) (f : Fin 5632) : EReal :=
  if h : i.val = 255 ∨ i.val = 2303 then 0 else hid X M G W b ⟨i.val + 1, by omega⟩ f

/-- The convolution of width three over the tokens of a part. -/
def conv (b : Fin 32) (i : Fin 2304) (f : Fin 5632) : EReal :=
  (C (ix2 0 f) : EReal) * before X M G W b i f + (C (ix2 1 f) : EReal) * hid X M G W b i f + (C (ix2 2 f) : EReal) * after X M G W b i f

/-- The gate's hidden column that belongs to column `f`. -/
def upper (f : Fin 2816) : Fin 5632 := ⟨2816 + f.val, by omega⟩

/-- The hidden column `f` itself among both halves. -/
def lower (f : Fin 2816) : Fin 5632 := ⟨f.val, by omega⟩

/-- The feed-forward part of one token with its residual, at one channel. -/
def ffn (b : Fin 32) (i : Fin 2304) (d : Fin 1024) : EReal :=
  (X (ix3 b i d) : EReal) + (M (ix4 b (part i) 5 d) : EReal)
    * ∑ f : Fin 2816, gated (conv X M G W C b i (lower f)) (conv X M G W C b i (upper f)) * O f d

end

end Cert.Ffn
end
-- ==== Proof.MixSpec.lean ====
/- The parts before and after a mixer, as functions of arrays of extended reals: the attention's projections and the mLSTM's end. -/
module

public import proofs.«01_k».proof.Proof.FfnSpec

@[expose] public section

noncomputable section

namespace Cert.Mix

open Idealize.ShloMosaic

section
variable (X : FVec Ideal ⟨3, ![32, 2304, 1024]⟩ .f32) (M : FVec Ideal ⟨4, ![32, 2, 6, 1024]⟩ .f32)

/-- A projection of a token, normed and modulated by the mixer's scale and shift, to one column with weights `w`. -/
def proj (G w : Fin 1024 → EReal) (b : Fin 32) (i : Fin 2304) : EReal :=
  Cert.Ffn.up (fun k => X (ix3 b i k)) G (fun k => M (ix4 b (Cert.Ffn.part i) 1 k)) (fun k => M (ix4 b (Cert.Ffn.part i) 0 k)) w

/-- A token with a gated projection of the row `a` added, at one channel. -/
def add (a : Fin 1024 → EReal) (W : Fin 1024 → Fin 1024 → EReal) (b : Fin 32) (i : Fin 2304) (d : Fin 1024) : EReal :=
  (X (ix3 b i d) : EReal) + (M (ix4 b (Cert.Ffn.part i) 2 d) : EReal) * ∑ k : Fin 1024, a k * W k d

end

/-- A third of the 3072 columns: column `d` from `o` on. -/
def col (o : ℕ) (ho : o + 1024 ≤ 3072) (d : Fin 1024) : Fin 3072 := ⟨o + d.val, by omega⟩

/-- Entry `j` of the head (one of four of 256) that channel `k` is in. -/
def mate (k : Fin 1024) (j : Fin 256) : Fin 1024 := ⟨k.val / 256 * 256 + j.val, by omega⟩

/-- A row divided, head by head, by the root of the head's mean square (plus the norm's small number). -/
def headNorm (h : Fin 1024 → EReal) (k : Fin 1024) : EReal :=
  h k * Ideal.rsqrt (Ideal.div (∑ j : Fin 256, h (mate k j) * h (mate k j)) (Ideal.ofBits .f32 1132462080#32) + Ideal.ofBits .f32 897988541#32)

/-- The row that the mLSTM's end projects: the output gate times the sum of both directions, normed per head and scaled. -/
def gatedHeads (o f r g : Fin 1024 → EReal) (k : Fin 1024) : EReal := o k * (headNorm (fun j => f j + r j) k * g k)

end Cert.Mix
end
-- ==== Proof.QkvKernel.lean ====
/- What the kernel of the attention's queries, keys and values leaves in its three result arrays. -/
module

public import proofs.«01_k».proof.Proof.Gen.Kernel4Ideal.Frame
public import proofs.«01_k».proof.Proof.MixSpec
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.ValueIdx

@[expose] public section

set_option maxRecDepth 16384

noncomputable section

namespace Cert.Kernel4Ideal.Blocks

open Cert.Kernel4Ideal Cert.Kernel4Ideal.Gen Idealize.ShloMosaic Idealize.ShloMosaic.TcCoe Idealize.SL.Sem

variable (m : (ℓ : Loc nD τ sig) → Buf (Elt Ideal) ℓ)

theorem ixw0 : ∀ t : Fin cfg0.N, win0_0.index t = ![(grid0.coords t 0).val, (grid0.coords t 1).val, 0] := (by decide +kernel : ∀ t : Fin grid0.N, _)
theorem ixw1 : ∀ t : Fin cfg0.N, win0_1.index t = ![(grid0.coords t 0).val, min (grid0.coords t 1).val 1, 0, 0] := (by decide +kernel : ∀ t : Fin grid0.N, _)
theorem ixw2 : ∀ t : Fin cfg0.N, win0_2.index t = ![0, 0] := (by decide +kernel : ∀ t : Fin grid0.N, _)
theorem ixw3 : ∀ t : Fin cfg0.N, win0_3.index t = ![0, 0] := (by decide +kernel : ∀ t : Fin grid0.N, _)
theorem ixw4 : ∀ t : Fin cfg0.N, win0_4.index t = ![(grid0.coords t 0).val, (grid0.coords t 1).val, 0] := (by decide +kernel : ∀ t : Fin grid0.N, _)
theorem ixw5 : ∀ t : Fin cfg0.N, win0_5.index t = ![(grid0.coords t 0).val, (grid0.coords t 1).val, 0] := (by decide +kernel : ∀ t : Fin grid0.N, _)
theorem ixw6 : ∀ t : Fin cfg0.N, win0_6.index t = ![(grid0.coords t 0).val, (grid0.coords t 1).val, 0] := (by decide +kernel : ∀ t : Fin grid0.N, _)

/-- The batch item of a step. -/
def item (t : Fin cfg0.N) : Fin 32 := grid0.coords t 0

/-- The block of tokens of a step. -/
def blk (t : Fin cfg0.N) : Fin 9 := grid0.coords t 1

/-- Row `r` of a step's block among all tokens. -/
def tok (t : Fin cfg0.N) (r : Fin 256) : Fin 2304 := ⟨256 * (blk t).val + r.val, by have := (blk t).isLt; omega⟩

theorem part_tok (t : Fin cfg0.N) (r : Fin 256) : Cert.Ffn.part (tok t r) = ⟨min (blk t).val 1, by omega⟩ := by
  unfold Cert.Ffn.part tok
  apply Fin.ext
  split <;> simp only [] at * <;> simp <;> omega

theorem read0 (c : Dev nD) (t : Fin cfg0.N) (r : Fin 256) (l : Fin 1024) : iblk m c 0 t (ix3 0 r l)
    = V m c main_arg0 (ix3 (n0 := 32) (n1 := 2304) (n2 := 1024) (item t) (tok t r) l) := by
  refine congrArg (V m c main_arg0) ?_
  unfold item tok blk
  blk_ext [ixw0 t]

theorem read1 (c : Dev nD) (t : Fin cfg0.N) (r : Fin 256) (j : Fin 6) (l : Fin 1024) : iblk m c 1 t (ix4 0 0 j l)
    = V m c main_arg1 (ix4 (n0 := 32) (n1 := 2) (n2 := 6) (n3 := 1024) (item t) (Cert.Ffn.part (tok t r)) j l) := by
  refine congrArg (V m c main_arg1) ?_
  rw [part_tok]
  unfold item blk
  blk_ext [ixw1 t]

theorem read2 (c : Dev nD) (t : Fin cfg0.N) : iblk m c 2 t = V m c main_v0 := by
  funext y
  refine congrArg (V m c main_v0) ?_
  blk_ext [ixw2 t]

theorem read3 (c : Dev nD) (t : Fin cfg0.N) : iblk m c 3 t = V m c main_v1 := by
  funext y
  refine congrArg (V m c main_v1) ?_
  blk_ext [ixw3 t]

theorem emb4 (t : Fin cfg0.N) (y : S1x256x1024.Idx) : (win0_4.blk t).view.emb y
    = ix3 (n0 := 32) (n1 := 2304) (n2 := 1024) (item t) (tok t (y 1)) (y 2) := by
  unfold item tok blk
  blk_ext [ixw4 t]

theorem emb5 (t : Fin cfg0.N) (y : S1x256x1024.Idx) : (win0_5.blk t).view.emb y
    = ix3 (n0 := 32) (n1 := 2304) (n2 := 1024) (item t) (tok t (y 1)) (y 2) := by
  unfold item tok blk
  blk_ext [ixw5 t]

theorem emb6 (t : Fin cfg0.N) (y : S1x256x1024.Idx) : (win0_6.blk t).view.emb y
    = ix3 (n0 := 32) (n1 := 2304) (n2 := 1024) (item t) (tok t (y 1)) (y 2) := by
  unfold item tok blk
  blk_ext [ixw6 t]

/-- The norm's gains reach the kernel as one row. -/
theorem gains (c : Dev nD) (k : Fin 1024) :
    (Gen.V m c main_v0 : S1x1024.Idx → EReal) (ix2 0 k) = (m ((c.tc : Thread nD τ).loc main_arg2) : S1024.Idx → EReal) (Idealize.ShloMosaic.ix1 k) := by
  entry_read
  change shapeCast S1x1024 (m (c, Proc.tc.devRef main_arg2) : FVec Ideal S1024 .f32) shapeCasts_S1024_S1x1024 (ix2 0 k) = _
  pointwise
  try rfl

/-- The projection's weights reach the kernel as they are. -/
theorem weights (c : Dev nD) (j : S1024x3072.Idx) :
    (Gen.V m c main_v1 : S1024x3072.Idx → EReal) j = (m ((c.tc : Thread nD τ).loc main_arg3) : S1024x3072.Idx → EReal) j := by
  entry_read
  rfl

theorem same0 (c : Dev nD) : Gen.V m c main_arg0 = m ((c.tc : Thread nD τ).loc main_arg0) := by
  entry_read
  after_reads_simp

theorem same1 (c : Dev nD) : Gen.V m c main_arg1 = m ((c.tc : Thread nD τ).loc main_arg1) := by
  entry_read
  after_reads_simp

/-- The normed and modulated rows of a block. -/
theorem row_apply (X1 : Vec Ideal S1x1x6x1024 .f32) (X0 : Vec Ideal S1x256x1024 .f32) (X2 : Vec Ideal S1x1024 .f32) (r : Fin 256) (k : Fin 1024) :
    (k0_pay3 X1 X0 X2 (ix2 r k) : EReal) = Cert.Ffn.nrm (fun k => X0 (ix3 0 r k)) (fun k => X2 (ix2 0 k))
      (fun k => X1 (ix4 0 0 1 k)) (fun k => X1 (ix4 0 0 0 k)) k := by
  unfold k0_pay3 Cert.Ffn.nrm Cert.Ffn.scale
  pointwise

theorem queries_apply (X1 : Vec Ideal S1x1x6x1024 .f32) (X0 : Vec Ideal S1x256x1024 .f32) (X2 : Vec Ideal S1x1024 .f32) (W : Vec Ideal S1024x1024 .bf16)
    (r : Fin 256) (d : Fin 1024) :
    (k0_pay4 X1 X0 X2 W (ix3 0 r d) : EReal) = ∑ k : Fin 1024, (k0_pay3 X1 X0 X2 (ix2 r k) : EReal) * W (ix2 k d) := by
  unfold k0_pay4
  pointwise

theorem keys_apply (H : FVec Ideal S256x1024 .bf16) (W : Vec Ideal S1024x1024 .bf16) (r : Fin 256) (d : Fin 1024) :
    (k0_pay1 H (k0_pay5 W) (constant S256x1024 .f32 0x00000000#32) (ix3 0 r d) : EReal) = ∑ k : Fin 1024, (H (ix2 r k) : EReal) * W (ix2 k d) := by
  unfold k0_pay1 k0_pay5
  pointwise

theorem values_apply (H : FVec Ideal S256x1024 .bf16) (W : Vec Ideal S1024x1024 .bf16) (r : Fin 256) (d : Fin 1024) :
    (k0_pay2 H W (ix3 0 r d) : EReal) = ∑ k : Fin 1024, (H (ix2 r k) : EReal) * W (ix2 k d) := by
  unfold k0_pay2
  pointwise

theorem third_inb (o : ℕ) (ho : o + 1024 ≤ 3072) (a : Fin 2) : (![0, o] : Fin 2 → Nat) a + (![1024, 1024] : Fin 2 → Nat) a ≤ S1024x3072.size a := by
  fin_cases a <;> simp [S1024x3072] <;> omega

/-- A third of the weights' columns. -/
def third (W : Vec Ideal S1024x3072 .bf16) (o : ℕ) (ho : o + 1024 ≤ 3072) : Vec Ideal S1024x1024 .bf16 :=
  View.ld W (Rect.unit (s := S1024x3072) ![0, o] ![1024, 1024] (third_inb o ho))

theorem third_apply (W : Vec Ideal S1024x3072 .bf16) (o : ℕ) (ho : o + 1024 ≤ 3072) (k d : Fin 1024) :
    third W o ho (ix2 k d) = W (ix2 k (Cert.Mix.col o ho d)) := by
  unfold third Cert.Mix.col
  refine View.ld_unit_apply_of _ _ _ _ _ _ fun a => ?_
  fin_cases a <;> simp [ix2]

/-- The projections to a third of the columns, as a function of what enters the kernel. -/
def FK (c : Dev nD) (o : ℕ) (ho : o + 1024 ≤ 3072) : S32x2304x1024.Idx → EReal := fun y =>
  Cert.Mix.proj (V m c main_arg0) (V m c main_arg1) (fun k => V m c main_v0 (ix2 0 k)) (fun k => V m c main_v1 (ix2 k (Cert.Mix.col o ho (y 2)))) (y 0) (y 1)

theorem dots (c : Dev nD) (t : Fin cfg0.N) (o : ℕ) (ho : o + 1024 ≤ 3072) (r : Fin 256) (d : Fin 1024) :
    (∑ k : Fin 1024, (k0_pay3 (iblk m c 1 t) (iblk m c 0 t) (iblk m c 2 t) (ix2 r k) : EReal) * third (iblk m c 3 t) o ho (ix2 k d))
      = FK m c o ho (ix3 (item t) (tok t r) d) := by
  unfold FK Cert.Mix.proj Cert.Ffn.up
  refine Finset.sum_congr rfl fun k _ => ?_
  rw [row_apply, third_apply, read3, read2]
  simp only [read0, read1 m c t r]
  rfl

/-- The first result array after the run: the queries. -/
theorem final4 (c : Dev nD) : (dats m 0 c).arrAt 4 cfg0.N = FK m c 0 (by decide) := by
  refine (dats m 0 c).arrAt_eq_of_covers 4 _ (by decide +kernel) fun t hf y => ?_
  blk_simp
  rw [after0_4, emb4]
  frame_out
  have hy : y = ix3 0 (y 1) (y 2) := (eq_ix3 y).trans (congrArg (fun z : Fin 1 => ix3 z (y 1 : Fin 256) (y 2 : Fin 1024)) (Subsingleton.elim (α := Fin 1) _ _))
  rw [hy]
  refine (queries_apply _ _ _ _ _ _).trans ?_
  exact dots m c t 0 (by decide) (y 1) (y 2)

/-- What a step leaves of the keys. -/
theorem after5 (c : Dev nD) (t : Fin cfg0.N) : (dats m 0 c).after 5 t
    = k0_pay1 (k0_pay3 (iblk m c 1 t) (iblk m c 0 t) (iblk m c 2 t)) (k0_pay5 (third (iblk m c 3 t) 1024 (by decide))) (constant S256x1024 .f32 0x00000000#32) := by
  rw [after0_5]
  unfold out0_5 k0_pay6
  frame_out
  rfl

/-- What a step leaves of the values. -/
theorem after6 (c : Dev nD) (t : Fin cfg0.N) : (dats m 0 c).after 6 t
    = k0_pay2 (k0_pay3 (iblk m c 1 t) (iblk m c 0 t) (iblk m c 2 t)) (third (iblk m c 3 t) 2048 (by decide)) := by
  rw [after0_6]
  unfold out0_6 k0_pay6
  frame_out
  rfl

/-- The second result array after the run: the keys. -/
theorem final5 (c : Dev nD) : (dats m 0 c).arrAt 5 cfg0.N = FK m c 1024 (by decide) := by
  refine (dats m 0 c).arrAt_eq_of_covers 5 _ (by decide +kernel) fun t hf y => ?_
  blk_simp
  rw [after5, emb5]
  have hy : y = ix3 0 (y 1) (y 2) := (eq_ix3 y).trans (congrArg (fun z : Fin 1 => ix3 z (y 1 : Fin 256) (y 2 : Fin 1024)) (Subsingleton.elim (α := Fin 1) _ _))
  rw [hy]
  refine (keys_apply _ _ _ _).trans ?_
  exact dots m c t 1024 (by decide) (y 1) (y 2)

/-- The third result array after the run: the values. -/
theorem final6 (c : Dev nD) : (dats m 0 c).arrAt 6 cfg0.N = FK m c 2048 (by decide) := by
  refine (dats m 0 c).arrAt_eq_of_covers 6 _ (by decide +kernel) fun t hf y => ?_
  blk_simp
  rw [after6, emb6]
  have hy : y = ix3 0 (y 1) (y 2) := (eq_ix3 y).trans (congrArg (fun z : Fin 1 => ix3 z (y 1 : Fin 256) (y 2 : Fin 1024)) (Subsingleton.elim (α := Fin 1) _ _))
  rw [hy]
  refine (values_apply _ _ _ _).trans ?_
  exact dots m c t 2048 (by decide) (y 1) (y 2)

end Cert.Kernel4Ideal.Blocks
end
-- ==== Proof.QkvRef.lean ====
/- The plain queries, keys and values of the attention, read at an index. -/
module

public import proofs.«01_k».proof.Proof.MixSpec
public import proofs.«01_k».proof.Proof.Gen.Reference4Ideal.Read
public import Idealize.ShloMosaic.Lib.Pointwise
public import Idealize.ShloMosaic.Lib.ValueIdx

@[expose] public section

set_option maxRecDepth 16384

noncomputable section

namespace Cert.Reference4Ideal.At

open Cert.Reference4Ideal Cert.Reference4Ideal.Read Idealize.ShloMosaic

variable (x0 : FVec Ideal S32x2304x1024 .f32) (x1 : FVec Ideal S32x2x6x1024 .f32) (x2 : FVec Ideal S1024 .f32) (x3 : FVec Ideal S1024x3072 .f32)

/-- A context token among all. -/
def ctx (i : Fin 256) : Fin 2304 := ⟨0 + i.val, by omega⟩

theorem part_ctx (i : Fin 256) : Cert.Ffn.part (ctx i) = 0 := by
  unfold Cert.Ffn.part ctx
  simp only []
  split
  · first | rfl | (exfalso; omega)
  · first | rfl | (exfalso; omega)

/-- A latent token among all. -/
def lat (i : Fin 2048) : Fin 2304 := ⟨256 + i.val, by omega⟩

theorem part_lat (i : Fin 2048) : Cert.Ffn.part (lat i) = 1 := by
  unfold Cert.Ffn.part lat
  simp only []
  split
  · first | rfl | (exfalso; omega)
  · first | rfl | (exfalso; omega)

theorem v18 (b : Fin 32) (i : Fin 256) (k : Fin 1024) :
    val_main_v18 (F := Ideal) x0 (ix3 b i k) = (x0 (ix3 b (ctx i) k) : EReal) * Cert.Ffn.scale (fun k => x0 (ix3 b (ctx i) k)) := by
  unfold val_main_v18 val_main_v17 val_main_v16 val_main_v15 val_main_v14 val_main_cst_1 val_main_v13 val_main_v12 val_main_cst_0 val_main_v11 val_main_v10 val_main_cst val_main_v9 val_main_v2 ctx Cert.Ffn.scale
  pointwise

theorem v27 (b : Fin 32) (i : Fin 256) (k : Fin 1024) :
    val_main_v27 (F := Ideal) x0 x1 x2 (ix3 b i k) = Cert.Ffn.nrm (fun k => x0 (ix3 b (ctx i) k)) (fun k => x2 (ix1 k))
      (fun k => x1 (ix4 b 0 1 k)) (fun k => x1 (ix4 b 0 0 k)) k := by
  unfold val_main_v27 val_main_v26 val_main_v25 val_main_v24 val_main_v23 val_main_v22 val_main_cst_2 val_main_v21 val_main_v20 val_main_v19 val_main_v8 val_main_v7 val_main_v6 val_main_v5 val_main_v4 val_main_v3 val_main_v1 val_main_v0 Cert.Ffn.nrm
  pointwise
  rw [v18]

theorem v28 (b : Fin 32) (i : Fin 256) (e : Fin 3072) :
    val_main_v28 (F := Ideal) x0 x1 x2 x3 (ix3 b i e) = Cert.Mix.proj x0 x1 (fun k => x2 (ix1 k)) (fun k => x3 (ix2 k e)) b (ctx i) := by
  unfold val_main_v28 Cert.Mix.proj Cert.Ffn.up
  rw [part_ctx]
  pointwise
  exact Finset.sum_congr rfl fun k _ => by rw [v27]

theorem v47 (b : Fin 32) (i : Fin 2048) (k : Fin 1024) :
    val_main_v47 (F := Ideal) x0 (ix3 b i k) = (x0 (ix3 b (lat i) k) : EReal) * Cert.Ffn.scale (fun k => x0 (ix3 b (lat i) k)) := by
  unfold val_main_v47 val_main_v46 val_main_v45 val_main_v44 val_main_v43 val_main_cst_5 val_main_v42 val_main_v41 val_main_cst_4 val_main_v40 val_main_v39 val_main_cst_3 val_main_v38 val_main_v31 lat Cert.Ffn.scale
  pointwise

theorem v56 (b : Fin 32) (i : Fin 2048) (k : Fin 1024) :
    val_main_v56 (F := Ideal) x0 x1 x2 (ix3 b i k) = Cert.Ffn.nrm (fun k => x0 (ix3 b (lat i) k)) (fun k => x2 (ix1 k))
      (fun k => x1 (ix4 b 1 1 k)) (fun k => x1 (ix4 b 1 0 k)) k := by
  unfold val_main_v56 val_main_v55 val_main_v54 val_main_v53 val_main_v52 val_main_v51 val_main_cst_6 val_main_v50 val_main_v49 val_main_v48 val_main_v37 val_main_v36 val_main_v35 val_main_v34 val_main_v33 val_main_v32 val_main_v30 val_main_v29 Cert.Ffn.nrm
  pointwise
  rw [v47]

theorem v57 (b : Fin 32) (i : Fin 2048) (e : Fin 3072) :
    val_main_v57 (F := Ideal) x0 x1 x2 x3 (ix3 b i e) = Cert.Mix.proj x0 x1 (fun k => x2 (ix1 k)) (fun k => x3 (ix2 k e)) b (lat i) := by
  unfold val_main_v57 Cert.Mix.proj Cert.Ffn.up
  rw [part_lat]
  pointwise
  exact Finset.sum_congr rfl fun k _ => by rw [v56]

/-- All 3072 columns of the plain projections at an element. -/
theorem v58 (b : Fin 32) (i : Fin 2304) (e : Fin 3072) :
    val_main_v58 (F := Ideal) x0 x1 x2 x3 (ix3 b i e) = Cert.Mix.proj x0 x1 (fun k => x2 (ix1 k)) (fun k => x3 (ix2 k e)) b i := by
  unfold val_main_v58
  pointwise
  by_cases h : i.val < 256
  · refine (dif_pos h).trans ((v28 _ _ _ _ _ ⟨i.val, h⟩ _).trans ?_)
    exact congrArg (fun z => Cert.Mix.proj x0 x1 (fun k => x2 (ix1 k)) (fun k => x3 (ix2 k e)) b z) (Fin.ext (by simp [ctx]))
  · refine (dif_neg h).trans ((v57 _ _ _ _ _ ⟨i.val - 256, by omega⟩ _).trans ?_)
    exact congrArg (fun z => Cert.Mix.proj x0 x1 (fun k => x2 (ix1 k)) (fun k => x3 (ix2 k e)) b z) (Fin.ext (by simp [lat]; omega))

/-- The plain queries at an element. -/
theorem v59 (b : Fin 32) (i : Fin 2304) (d : Fin 1024) :
    val_main_v59 (F := Ideal) x0 x1 x2 x3 (ix3 b i d) = Cert.Mix.proj x0 x1 (fun k => x2 (ix1 k)) (fun k => x3 (ix2 k (Cert.Mix.col 0 (by decide) d))) b i := by
  rw [← v58]
  unfold val_main_v59 Cert.Mix.col
  pointwise

/-- The plain keys at an element. -/
theorem v62 (b : Fin 32) (i : Fin 2304) (d : Fin 1024) :
    val_main_v62 (F := Ideal) x0 x1 x2 x3 (ix3 b i d) = Cert.Mix.proj x0 x1 (fun k => x2 (ix1 k)) (fun k => x3 (ix2 k (Cert.Mix.col 1024 (by decide) d))) b i := by
  rw [← v58]
  unfold val_main_v62 val_main_v60 Cert.Mix.col
  pointwise

/-- The plain values at an element. -/
theorem v63 (b : Fin 32) (i : Fin 2304) (d : Fin 1024) :
    val_main_v63 (F := Ideal) x0 x1 x2 x3 (ix3 b i d) = Cert.Mix.proj x0 x1 (fun k => x2 (ix1 k)) (fun k => x3 (ix2 k (Cert.Mix.col 2048 (by decide) d))) b i := by
  rw [← v58]
  unfold val_main_v63 val_main_v61 Cert.Mix.col
  pointwise

end Cert.Reference4Ideal.At
end
-- ==== Proof.OutKernel.lean ====
/- What the kernel of the attention's output projection leaves in its result array. -/
module

public import proofs.«01_k».proof.Proof.Gen.Kernel5Ideal.Frame
public import proofs.«01_k».proof.Proof.MixSpec
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.ValueIdx

@[expose] public section

set_option maxRecDepth 16384

noncomputable section

namespace Cert.Kernel5Ideal.Blocks

open Cert.Kernel5Ideal Cert.Kernel5Ideal.Gen Idealize.ShloMosaic Idealize.ShloMosaic.TcCoe Idealize.SL.Sem

variable (m : (ℓ : Loc nD τ sig) → Buf (Elt Ideal) ℓ)

theorem ixw0 : ∀ t : Fin cfg0.N, win0_0.index t = ![(grid0.coords t 0).val, (grid0.coords t 1).val, 0] := (by decide +kernel : ∀ t : Fin grid0.N, _)
theorem ixw1 : ∀ t : Fin cfg0.N, win0_1.index t = ![(grid0.coords t 0).val, (grid0.coords t 1).val, 0] := (by decide +kernel : ∀ t : Fin grid0.N, _)
theorem ixw2 : ∀ t : Fin cfg0.N, win0_2.index t = ![(grid0.coords t 0).val, min (grid0.coords t 1).val 1, 0, 0] := (by decide +kernel : ∀ t : Fin grid0.N, _)
theorem ixw3 : ∀ t : Fin cfg0.N, win0_3.index t = ![0, 0] := (by decide +kernel : ∀ t : Fin grid0.N, _)
theorem ixw4 : ∀ t : Fin cfg0.N, win0_4.index t = ![(grid0.coords t 0).val, (grid0.coords t 1).val, 0] := (by decide +kernel : ∀ t : Fin grid0.N, _)

/-- The batch item of a step. -/
def item (t : Fin cfg0.N) : Fin 32 := grid0.coords t 0

/-- The block of tokens of a step. -/
def blk (t : Fin cfg0.N) : Fin 9 := grid0.coords t 1

/-- Row `r` of a step's block among all tokens. -/
def tok (t : Fin cfg0.N) (r : Fin 256) : Fin 2304 := ⟨256 * (blk t).val + r.val, by have := (blk t).isLt; omega⟩

theorem part_tok (t : Fin cfg0.N) (r : Fin 256) : Cert.Ffn.part (tok t r) = ⟨min (blk t).val 1, by omega⟩ := by
  unfold Cert.Ffn.part tok
  apply Fin.ext
  split <;> simp only [] at * <;> simp <;> omega

theorem read0 (c : Dev nD) (t : Fin cfg0.N) (r : Fin 256) (l : Fin 1024) : iblk m c 0 t (ix3 0 r l)
    = V m c main_arg0 (ix3 (n0 := 32) (n1 := 2304) (n2 := 1024) (item t) (tok t r) l) := by
  refine congrArg (V m c main_arg0) ?_
  unfold item tok blk
  blk_ext [ixw0 t]

theorem read1 (c : Dev nD) (t : Fin cfg0.N) (r : Fin 256) (l : Fin 1024) : iblk m c 1 t (ix3 0 r l)
    = V m c main_arg1 (ix3 (n0 := 32) (n1 := 2304) (n2 := 1024) (item t) (tok t r) l) := by
  refine congrArg (V m c main_arg1) ?_
  unfold item tok blk
  blk_ext [ixw1 t]

theorem read2 (c : Dev nD) (t : Fin cfg0.N) (r : Fin 256) (j : Fin 6) (l : Fin 1024) : iblk m c 2 t (ix4 0 0 j l)
    = V m c main_arg2 (ix4 (n0 := 32) (n1 := 2) (n2 := 6) (n3 := 1024) (item t) (Cert.Ffn.part (tok t r)) j l) := by
  refine congrArg (V m c main_arg2) ?_
  rw [part_tok]
  unfold item blk
  blk_ext [ixw2 t]

theorem read3 (c : Dev nD) (t : Fin cfg0.N) : iblk m c 3 t = V m c main_v0 := by
  funext y
  refine congrArg (V m c main_v0) ?_
  blk_ext [ixw3 t]

theorem emb4 (t : Fin cfg0.N) (y : S1x256x1024.Idx) : (win0_4.blk t).view.emb y
    = ix3 (n0 := 32) (n1 := 2304) (n2 := 1024) (item t) (tok t (y 1)) (y 2) := by
  unfold item tok blk
  blk_ext [ixw4 t]

/-- The projection's weights reach the kernel as they are. -/
theorem weights (c : Dev nD) (j : S1024x1024.Idx) :
    (Gen.V m c main_v0 : S1024x1024.Idx → EReal) j = (m ((c.tc : Thread nD τ).loc main_arg3) : S1024x1024.Idx → EReal) j := by
  entry_read
  rfl

theorem same0 (c : Dev nD) : Gen.V m c main_arg0 = m ((c.tc : Thread nD τ).loc main_arg0) := by
  entry_read
  after_reads_simp

theorem same1 (c : Dev nD) : Gen.V m c main_arg1 = m ((c.tc : Thread nD τ).loc main_arg1) := by
  entry_read
  after_reads_simp

theorem same2 (c : Dev nD) : Gen.V m c main_arg2 = m ((c.tc : Thread nD τ).loc main_arg2) := by
  entry_read
  after_reads_simp

/-- A block's value at an element. -/
theorem out_apply (X2 : Vec Ideal S1x1x6x1024 .f32) (X0 : Vec Ideal S1x256x1024 .f32) (X1 : Vec Ideal S1x256x1024 .bf16) (W : Vec Ideal S1024x1024 .bf16)
    (r : Fin 256) (d : Fin 1024) :
    (k0_pay1 X2 X0 X1 W (ix3 0 r d) : EReal) = (X0 (ix3 0 r d) : EReal) + (X2 (ix4 0 0 2 d) : EReal) * ∑ k : Fin 1024, (X1 (ix3 0 r k) : EReal) * W (ix2 k d) := by
  unfold k0_pay1
  pointwise

/-- The result as a function of what enters the kernel. -/
def FK (c : Dev nD) : FVec Ideal S32x2304x1024 .f32 := fun y =>
  Cert.Mix.add (V m c main_arg0) (V m c main_arg2) (fun k => V m c main_arg1 (ix3 (y 0 : Fin 32) (y 1 : Fin 2304) k)) (fun k d => V m c main_v0 (ix2 k d)) (y 0) (y 1) (y 2)

/-- The result array after the run. -/
theorem final (c : Dev nD) : (dats m 0 c).arrAt 4 cfg0.N = FK m c := by
  refine (dats m 0 c).arrAt_eq_of_covers 4 _ (by decide +kernel) fun t hf y => ?_
  blk_simp
  rw [after0_4, emb4]
  frame_out
  have hy : y = ix3 0 (y 1) (y 2) := (eq_ix3 y).trans (congrArg (fun z : Fin 1 => ix3 z (y 1 : Fin 256) (y 2 : Fin 1024)) (Subsingleton.elim (α := Fin 1) _ _))
  rw [hy]
  refine (out_apply _ _ _ _ _ _).trans ?_
  unfold FK Cert.Mix.add
  exact congrArg₂ (· + ·) (read0 m c t _ _) (congrArg₂ (· * ·) (read2 m c t (y 1) 2 (y 2))
    (Finset.sum_congr rfl fun k _ => congrArg₂ (· * ·) (read1 m c t _ _) (congrFun (read3 m c t) _)))

end Cert.Kernel5Ideal.Blocks
end
-- ==== Proof.OutRef.lean ====
/- The plain output projection of the attention, read at an index. -/
module

public import proofs.«01_k».proof.Proof.MixSpec
public import proofs.«01_k».proof.Proof.Gen.Reference5Ideal.Read
public import Idealize.ShloMosaic.Lib.Pointwise
public import Idealize.ShloMosaic.Lib.ValueIdx

@[expose] public section

set_option maxRecDepth 16384

noncomputable section

namespace Cert.Reference5Ideal.At

open Cert.Reference5Ideal Cert.Reference5Ideal.Read Idealize.ShloMosaic

variable (x0 : FVec Ideal S32x2304x1024 .f32) (x1 : FVec Ideal S32x2304x1024 .bf16) (x2 : FVec Ideal S32x2x6x1024 .f32) (x3 : FVec Ideal S1024x1024 .f32)

/-- A context token among all. -/
def ctx (i : Fin 256) : Fin 2304 := ⟨0 + i.val, by omega⟩

theorem part_ctx (i : Fin 256) : Cert.Ffn.part (ctx i) = 0 := by
  unfold Cert.Ffn.part ctx
  simp only []
  split
  · first | rfl | (exfalso; omega)
  · first | rfl | (exfalso; omega)

/-- A latent token among all. -/
def lat (i : Fin 2048) : Fin 2304 := ⟨256 + i.val, by omega⟩

theorem part_lat (i : Fin 2048) : Cert.Ffn.part (lat i) = 1 := by
  unfold Cert.Ffn.part lat
  simp only []
  split
  · first | rfl | (exfalso; omega)
  · first | rfl | (exfalso; omega)

theorem v11 (b : Fin 32) (i : Fin 256) (d : Fin 1024) :
    val_main_v11 (F := Ideal) x0 x1 x2 x3 (ix3 b i d) = Cert.Mix.add x0 x2 (fun k => x1 (ix3 b (ctx i) k)) (fun k d => x3 (ix2 k d)) b (ctx i) d := by
  unfold val_main_v11 val_main_v10 val_main_v9 val_main_v8 val_main_v7 val_main_v6 val_main_v5 val_main_v4 val_main_v3 val_main_v2 val_main_v1 val_main_v0 Cert.Mix.add
  rw [part_ctx]
  unfold ctx
  pointwise

theorem v23 (b : Fin 32) (i : Fin 2048) (d : Fin 1024) :
    val_main_v23 (F := Ideal) x0 x1 x2 x3 (ix3 b i d) = Cert.Mix.add x0 x2 (fun k => x1 (ix3 b (lat i) k)) (fun k d => x3 (ix2 k d)) b (lat i) d := by
  unfold val_main_v23 val_main_v22 val_main_v21 val_main_v20 val_main_v19 val_main_v18 val_main_v17 val_main_v16 val_main_v15 val_main_v14 val_main_v13 val_main_v12 Cert.Mix.add
  rw [part_lat]
  unfold lat
  pointwise

/-- The plain result at an element. -/
theorem v24 (b : Fin 32) (i : Fin 2304) (d : Fin 1024) :
    val_main_v24 (F := Ideal) x0 x1 x2 x3 (ix3 b i d) = Cert.Mix.add x0 x2 (fun k => x1 (ix3 b i k)) (fun k d => x3 (ix2 k d)) b i d := by
  unfold val_main_v24
  pointwise
  by_cases h : i.val < 256
  · refine (dif_pos h).trans ((v11 _ _ _ _ _ ⟨i.val, h⟩ _).trans ?_)
    exact congrArg (fun z => Cert.Mix.add x0 x2 (fun k => x1 (ix3 b z k)) (fun k d => x3 (ix2 k d)) b z d) (Fin.ext (by simp [ctx]))
  · refine (dif_neg h).trans ((v23 _ _ _ _ _ ⟨i.val - 256, by omega⟩ _).trans ?_)
    exact congrArg (fun z => Cert.Mix.add x0 x2 (fun k => x1 (ix3 b z k)) (fun k d => x3 (ix2 k d)) b z d) (Fin.ext (by simp [lat]; omega))

end Cert.Reference5Ideal.At
end
-- ==== Proof.PostKernel.lean ====
/- What the kernel of the mLSTM's end leaves in its result array. -/
module

public import proofs.«01_k».proof.Proof.Gen.Kernel6Ideal.Frame
public import proofs.«01_k».proof.Proof.MixSpec
public import Idealize.ShloMosaic.Lib.Pipeline.ValueKit
public import Idealize.ShloMosaic.Lib.Claim
public import Idealize.ShloMosaic.Lib.StableHlo.ReadAt
public import Idealize.ShloMosaic.Lib.Pointwise
public import Idealize.ShloMosaic.Lib.ValueIdx

@[expose] public section

set_option maxRecDepth 16384

noncomputable section

namespace Cert.Kernel6Ideal.Blocks

open Cert.Kernel6Ideal Cert.Kernel6Ideal.Gen Idealize.ShloMosaic Idealize.ShloMosaic.TcCoe Idealize.SL.Sem

variable (m : (ℓ : Loc nD τ sig) → Buf (Elt Ideal) ℓ)

theorem ixw0 : ∀ t : Fin cfg0.N, win0_0.index t = ![(grid0.coords t 0).val, (grid0.coords t 1).val, 0] := (by decide +kernel : ∀ t : Fin grid0.N, _)
theorem ixw1 : ∀ t : Fin cfg0.N, win0_1.index t = ![0, (grid0.coords t 0).val, (grid0.coords t 1).val, 0] := (by decide +kernel : ∀ t : Fin grid0.N, _)
theorem ixw2 : ∀ t : Fin cfg0.N, win0_2.index t = ![1, (grid0.coords t 0).val, (grid0.coords t 1).val, 0] := (by decide +kernel : ∀ t : Fin grid0.N, _)
theorem ixw3 : ∀ t : Fin cfg0.N, win0_3.index t = ![(grid0.coords t 0).val, (grid0.coords t 1).val, 0] := (by decide +kernel : ∀ t : Fin grid0.N, _)
theorem ixw4 : ∀ t : Fin cfg0.N, win0_4.index t = ![(grid0.coords t 0).val, min (grid0.coords t 1).val 1, 0, 0] := (by decide +kernel : ∀ t : Fin grid0.N, _)
theorem ixw5 : ∀ t : Fin cfg0.N, win0_5.index t = ![0, 0] := (by decide +kernel : ∀ t : Fin grid0.N, _)
theorem ixw6 : ∀ t : Fin cfg0.N, win0_6.index t = ![0, 0] := (by decide +kernel : ∀ t : Fin grid0.N, _)
theorem ixw7 : ∀ t : Fin cfg0.N, win0_7.index t = ![(grid0.coords t 0).val, (grid0.coords t 1).val, 0] := (by decide +kernel : ∀ t : Fin grid0.N, _)

/-- The batch item of a step. -/
def item (t : Fin cfg0.N) : Fin 32 := grid0.coords t 0

/-- The block of tokens of a step. -/
def blk (t : Fin cfg0.N) : Fin 9 := grid0.coords t 1

/-- Row `r` of a step's block among all tokens. -/
def tok (t : Fin cfg0.N) (r : Fin 256) : Fin 2304 := ⟨256 * (blk t).val + r.val, by have := (blk t).isLt; omega⟩

theorem part_tok (t : Fin cfg0.N) (r : Fin 256) : Cert.Ffn.part (tok t r) = ⟨min (blk t).val 1, by omega⟩ := by
  unfold Cert.Ffn.part tok
  apply Fin.ext
  split <;> simp only [] at * <;> simp <;> omega

theorem read0 (c : Dev nD) (t : Fin cfg0.N) (r : Fin 256) (l : Fin 1024) : iblk m c 0 t (ix3 0 r l)
    = V m c main_arg0 (ix3 (n0 := 32) (n1 := 2304) (n2 := 1024) (item t) (tok t r) l) := by
  refine congrArg (V m c main_arg0) ?_
  unfold item tok blk
  blk_ext [ixw0 t]

theorem read1 (c : Dev nD) (t : Fin cfg0.N) (r : Fin 256) (l : Fin 1024) : iblk m c 1 t (ix4 0 0 r l)
    = V m c main_arg1 (ix4 (n0 := 2) (n1 := 32) (n2 := 2304) (n3 := 1024) 0 (item t) (tok t r) l) := by
  refine congrArg (V m c main_arg1) ?_
  unfold item tok blk
  blk_ext [ixw1 t]

theorem read2 (c : Dev nD) (t : Fin cfg0.N) (r : Fin 256) (l : Fin 1024) : iblk m c 2 t (ix4 0 0 r l)
    = V m c main_arg1 (ix4 (n0 := 2) (n1 := 32) (n2 := 2304) (n3 := 1024) 1 (item t) (tok t r) l) := by
  refine congrArg (V m c main_arg1) ?_
  unfold item tok blk
  blk_ext [ixw2 t]

theorem read3 (c : Dev nD) (t : Fin cfg0.N) (r : Fin 256) (l : Fin 1024) : iblk m c 3 t (ix3 0 r l)
    = V m c main_arg2 (ix3 (n0 := 32) (n1 := 2304) (n2 := 1024) (item t) (tok t r) l) := by
  refine congrArg (V m c main_arg2) ?_
  unfold item tok blk
  blk_ext [ixw3 t]

theorem read4 (c : Dev nD) (t : Fin cfg0.N) (r : Fin 256) (j : Fin 6) (l : Fin 1024) : iblk m c 4 t (ix4 0 0 j l)
    = V m c main_arg3 (ix4 (n0 := 32) (n1 := 2) (n2 := 6) (n3 := 1024) (item t) (Cert.Ffn.part (tok t r)) j l) := by
  refine congrArg (V m c main_arg3) ?_
  rw [part_tok]
  unfold item blk
  blk_ext [ixw4 t]

theorem read5 (c : Dev nD) (t : Fin cfg0.N) : iblk m c 5 t = V m c main_v0 := by
  funext y
  refine congrArg (V m c main_v0) ?_
  blk_ext [ixw5 t]

theorem read6 (c : Dev nD) (t : Fin cfg0.N) : iblk m c 6 t = V m c main_v1 := by
  funext y
  refine congrArg (V m c main_v1) ?_
  blk_ext [ixw6 t]

theorem emb7 (t : Fin cfg0.N) (y : S1x256x1024.Idx) : (win0_7.blk t).view.emb y
    = ix3 (n0 := 32) (n1 := 2304) (n2 := 1024) (item t) (tok t (y 1)) (y 2) := by
  unfold item tok blk
  blk_ext [ixw7 t]

/-- The norm's gains reach the kernel as one row. -/
theorem gains (c : Dev nD) (k : Fin 1024) :
    (Gen.V m c main_v0 : S1x1024.Idx → EReal) (ix2 0 k) = (m ((c.tc : Thread nD τ).loc main_arg4) : S1024.Idx → EReal) (Idealize.ShloMosaic.ix1 k) := by
  entry_read
  change shapeCast S1x1024 (m (c, Proc.tc.devRef main_arg4) : FVec Ideal S1024 .f32) shapeCasts_S1024_S1x1024 (ix2 0 k) = _
  pointwise
  try rfl

/-- The projection's weights reach the kernel as they are. -/
theorem weights (c : Dev nD) (j : S1024x1024.Idx) :
    (Gen.V m c main_v1 : S1024x1024.Idx → EReal) j = (m ((c.tc : Thread nD τ).loc main_arg5) : S1024x1024.Idx → EReal) j := by
  entry_read
  rfl

theorem same0 (c : Dev nD) : Gen.V m c main_arg0 = m ((c.tc : Thread nD τ).loc main_arg0) := by
  entry_read
  after_reads_simp

theorem same1 (c : Dev nD) : Gen.V m c main_arg1 = m ((c.tc : Thread nD τ).loc main_arg1) := by
  entry_read
  after_reads_simp

theorem same2 (c : Dev nD) : Gen.V m c main_arg2 = m ((c.tc : Thread nD τ).loc main_arg2) := by
  entry_read
  after_reads_simp

theorem same3 (c : Dev nD) : Gen.V m c main_arg3 = m ((c.tc : Thread nD τ).loc main_arg3) := by
  entry_read
  after_reads_simp

/-- The sum of both directions. -/
theorem sum_apply (X1 X2 : Vec Ideal S1x1x256x1024 .bf16) (r : Fin 256) (k : Fin 1024) :
    (k0_pay3 X1 X2 (ix2 r k) : EReal) = (X1 (ix4 0 0 r k) : EReal) + X2 (ix4 0 0 r k) := by
  unfold k0_pay3
  pointwise

/-- The norm of the head from channel `o` on. -/
def head (h : Fin 1024 → EReal) (o : ℕ) (ho : o + 256 ≤ 1024) (j : Fin 256) : EReal :=
  h ⟨o + j.val, by omega⟩ * Ideal.rsqrt (Ideal.div (∑ j : Fin 256, h ⟨o + j.val, by omega⟩ * h ⟨o + j.val, by omega⟩) (Ideal.ofBits .f32 1132462080#32)
    + Ideal.ofBits .f32 897988541#32)

theorem head0 (X1 X2 : Vec Ideal S1x1x256x1024 .bf16) (r j : Fin 256) :
    (k0_pay4 X1 X2 (ix2 r j) : EReal) = head (fun k => k0_pay3 X1 X2 (ix2 r k)) 0 (by decide) j := by
  unfold k0_pay4 head
  pointwise

theorem head1 (X1 X2 : Vec Ideal S1x1x256x1024 .bf16) (r j : Fin 256) :
    (k0_pay5 X1 X2 (ix2 r j) : EReal) = head (fun k => k0_pay3 X1 X2 (ix2 r k)) 256 (by decide) j := by
  unfold k0_pay5 head
  pointwise

theorem head_eq (h : Fin 1024 → EReal) (o : ℕ) (ho : o + 256 ≤ 1024) (hd : o / 256 * 256 = o) (k : Fin 1024) (h1 : o ≤ k.val) (h2 : k.val < o + 256)
    (j : Fin 256) (hj : o + j.val = k.val) : head h o ho j = Cert.Mix.headNorm h k := by
  have em : ∀ j : Fin 256, (⟨o + j.val, by omega⟩ : Fin 1024) = Cert.Mix.mate k j := fun j => by
    unfold Cert.Mix.mate
    apply Fin.ext
    show o + j.val = k.val / 256 * 256 + j.val
    omega
  unfold head Cert.Mix.headNorm
  simp only [em]
  refine congrArg (fun z => h z * _) ?_
  unfold Cert.Mix.mate
  apply Fin.ext
  show k.val / 256 * 256 + j.val = k.val
  omega

theorem head2 (X1 X2 : Vec Ideal S1x1x256x1024 .bf16) (r j : Fin 256) :
    (k0_pay6 X1 X2 (ix2 r j) : EReal) = k0_pay3 X1 X2 (ix2 r ⟨512 + j.val, by omega⟩) := by
  unfold k0_pay6
  pointwise

theorem mean2 (X1 X2 : Vec Ideal S1x1x256x1024 .bf16) (r : Fin 256) :
    (k0_pay7 X1 X2 (ix2 r 0) : EReal) = Ideal.div (∑ j : Fin 256, k0_pay3 X1 X2 (ix2 r ⟨512 + j.val, by omega⟩) * k0_pay3 X1 X2 (ix2 r ⟨512 + j.val, by omega⟩)) (Ideal.ofBits .f32 1132462080#32) := by
  unfold k0_pay7
  pointwise
  simp only [head2]

/-- A block's value at an element, from the four heads' norms. -/
theorem out_apply (g : FVec Ideal S1x1024 .f32) (h : FVec Ideal S256x1024 .f32) (a b z : FVec Ideal S256x256 .f32) (s : FVec Ideal S256x1 .f32)
    (X5 : Vec Ideal S1x1024 .f32) (X0 : Vec Ideal S1x256x1024 .f32) (X3 : Vec Ideal S1x256x1024 .bf16) (W : Vec Ideal S1024x1024 .bf16)
    (r : Fin 256) (d : Fin 1024)
    (ha : ∀ j, (a (ix2 r j) : EReal) = head (fun k => h (ix2 r k)) 0 (by decide) j)
    (hb : ∀ j, (b (ix2 r j) : EReal) = head (fun k => h (ix2 r k)) 256 (by decide) j)
    (hz : ∀ j, (z (ix2 r j) : EReal) = h (ix2 r ⟨512 + j.val, by omega⟩))
    (hs : (s (ix2 r 0) : EReal) = Ideal.div (∑ j : Fin 256, h (ix2 r ⟨512 + j.val, by omega⟩) * h (ix2 r ⟨512 + j.val, by omega⟩)) (Ideal.ofBits .f32 1132462080#32)) :
    (k0_pay1 g h a b z s X5 X0 X3 W (ix3 0 r d) : EReal)
      = (X0 (ix3 0 r d) : EReal) + (g (ix2 0 d) : EReal) * ∑ k : Fin 1024, ((X3 (ix3 0 r k) : EReal) * (Cert.Mix.headNorm (fun k => h (ix2 r k)) k * X5 (ix2 0 k))) * W (ix2 k d) := by
  unfold k0_pay1
  pointwise
  refine congrArg₂ (· + ·) rfl (congrArg₂ (· * ·) rfl (Finset.sum_congr rfl fun k _ => congrArg₂ (· * ·) (congrArg₂ (· * ·) rfl (congrArg₂ (· * ·) ?_ rfl)) rfl))
  have hk := k.isLt
  by_cases h1 : k.val < 256
  · refine (dif_pos h1).trans ((ha _).trans (head_eq _ _ _ rfl _ (by omega) (by omega) _ ?_))
    show 0 + k.val = k.val
    omega
  refine (dif_neg h1).trans ?_
  by_cases h2 : k.val - 256 < 256
  · refine (dif_pos h2).trans ((hb _).trans (head_eq _ _ _ rfl _ (by omega) (by omega) _ ?_))
    show 256 + (k.val - 256) = k.val
    omega
  refine (dif_neg h2).trans ?_
  by_cases h3 : k.val - 256 - 256 < 256
  · refine (dif_pos h3).trans ?_
    rw [hz, hs]
    refine Eq.trans ?_ (head_eq (fun k => h (ix2 r k)) 512 (by decide) rfl k (by omega) (by omega) ⟨k.val - 256 - 256, h3⟩ ?_)
    · rfl
    · show 512 + (k.val - 256 - 256) = k.val
      omega
  refine (dif_neg h3).trans ?_
  refine Eq.trans ?_ (head_eq (fun k => h (ix2 r k)) 768 (by decide) rfl k (by omega) (by omega) ⟨k.val - 256 - 256 - 256, by omega⟩ ?_)
  · rfl
  · show 768 + (k.val - 256 - 256 - 256) = k.val
    omega

theorem gate_apply (X4 : Vec Ideal S1x1x6x1024 .f32) (d : Fin 1024) : (k0_pay2 X4 (ix2 0 d) : EReal) = X4 (ix4 0 0 2 d) := by
  unfold k0_pay2
  pointwise

/-- The result as a function of what enters the kernel. -/
def FK (c : Dev nD) : FVec Ideal S32x2304x1024 .f32 := fun y =>
  Cert.Mix.add (V m c main_arg0) (V m c main_arg3) (Cert.Mix.gatedHeads (fun k => V m c main_arg2 (ix3 (y 0 : Fin 32) (y 1 : Fin 2304) k))
    (fun k => V m c main_arg1 (ix4 0 (y 0 : Fin 32) (y 1 : Fin 2304) k)) (fun k => V m c main_arg1 (ix4 1 (y 0 : Fin 32) (y 1 : Fin 2304) k))
    (fun k => V m c main_v0 (ix2 0 k))) (fun k d => V m c main_v1 (ix2 k d)) (y 0) (y 1) (y 2)

/-- The result array after the run. -/
theorem final (c : Dev nD) : (dats m 0 c).arrAt 7 cfg0.N = FK m c := by
  refine (dats m 0 c).arrAt_eq_of_covers 7 _ (by decide +kernel) fun t hf y => ?_
  blk_simp
  rw [after0_7, emb7]
  frame_out
  have hy : y = ix3 0 (y 1) (y 2) := (eq_ix3 y).trans (congrArg (fun z : Fin 1 => ix3 z (y 1 : Fin 256) (y 2 : Fin 1024)) (Subsingleton.elim (α := Fin 1) _ _))
  rw [hy]
  refine (out_apply _ _ _ _ _ _ _ _ _ _ _ _ (head0 _ _ _) (head1 _ _ _) (head2 _ _ _) (mean2 _ _ _)).trans ?_
  unfold FK Cert.Mix.add
  refine congrArg₂ (· + ·) (read0 m c t _ _) (congrArg₂ (· * ·) ((gate_apply _ _).trans (read4 m c t (y 1) 2 (y 2)))
    (Finset.sum_congr rfl fun k _ => congrArg₂ (· * ·) ?_ (congrFun (read6 m c t) _)))
  unfold Cert.Mix.gatedHeads
  refine congrArg₂ (· * ·) (read3 m c t _ _) (congrArg₂ (· * ·) ?_ (congrFun (read5 m c t) _))
  refine congrArg (fun h => Cert.Mix.headNorm h k) (funext fun j => ?_)
  exact (sum_apply _ _ _ _).trans (congrArg₂ (· + ·) (read1 m c t _ _) (read2 m c t _ _))

end Cert.Kernel6Ideal.Blocks
end
-- ==== Proof.PostRef.lean ====
/- The plain end of the mLSTM, read at an index. -/
module

public import proofs.«01_k».proof.Proof.MixSpec
public import proofs.«01_k».proof.Proof.Gen.Reference6Ideal.Read
public import Idealize.ShloMosaic.Lib.Pointwise
public import Idealize.ShloMosaic.Lib.ValueIdx

@[expose] public section

set_option maxRecDepth 16384

noncomputable section

namespace Cert.Reference6Ideal.At

open Cert.Reference6Ideal Cert.Reference6Ideal.Read Idealize.ShloMosaic

variable (x0 : FVec Ideal S32x2304x1024 .f32) (x1 : FVec Ideal S2x32x2304x1024 .bf16) (x2 : FVec Ideal S32x2304x1024 .bf16) (x3 : FVec Ideal S32x2x6x1024 .f32)
  (x4 : FVec Ideal S1024 .f32) (x5 : FVec Ideal S1024x1024 .f32)

/-- A context token among all. -/
def ctx (i : Fin 256) : Fin 2304 := ⟨0 + i.val, by omega⟩

theorem part_ctx (i : Fin 256) : Cert.Ffn.part (ctx i) = 0 := by
  unfold Cert.Ffn.part ctx
  simp only []
  split
  · first | rfl | (exfalso; omega)
  · first | rfl | (exfalso; omega)

/-- A latent token among all. -/
def lat (i : Fin 2048) : Fin 2304 := ⟨256 + i.val, by omega⟩

theorem part_lat (i : Fin 2048) : Cert.Ffn.part (lat i) = 1 := by
  unfold Cert.Ffn.part lat
  simp only []
  split
  · first | rfl | (exfalso; omega)
  · first | rfl | (exfalso; omega)

/-- The sum of both directions. -/
theorem v12 (b : Fin 32) (i : Fin 256) (k : Fin 1024) :
    val_main_v12 (F := Ideal) x1 (ix3 b i k) = (x1 (ix4 0 b (ctx i) k) : EReal) + x1 (ix4 1 b (ctx i) k) := by
  unfold val_main_v12 val_main_v11 val_main_v10 val_main_v8 val_main_v7 val_main_v3 val_main_v2 val_main_v1 val_main_v0 ctx
  pointwise

/-- A head's entries. -/
theorem v13 (b : Fin 32) (i : Fin 256) (n : Fin 4) (j : Fin 256) :
    val_main_v13 (F := Ideal) x1 (ix4 b i n j) = val_main_v12 (F := Ideal) x1 (ix3 b i ⟨n.val * 256 + j.val, by omega⟩) := by
  unfold val_main_v13
  pointwise

/-- A head normed. -/
theorem v23 (b : Fin 32) (i : Fin 256) (n : Fin 4) (j : Fin 256) :
    val_main_v23 (F := Ideal) x1 (ix4 b i n j) = (val_main_v13 (F := Ideal) x1 (ix4 b i n j) : EReal)
      * Ideal.rsqrt (Ideal.div (∑ j : Fin 256, val_main_v13 (F := Ideal) x1 (ix4 b i n j) * val_main_v13 (F := Ideal) x1 (ix4 b i n j)) (Ideal.ofBits .f32 1132462080#32) + Ideal.ofBits .f32 897988541#32) := by
  unfold val_main_v23 val_main_v22 val_main_v21 val_main_v20 val_main_v19 val_main_cst_1 val_main_v18 val_main_v17 val_main_cst_0 val_main_v16 val_main_v15 val_main_cst val_main_v14
  pointwise

/-- The heads normed, as one row. -/
theorem v28 (b : Fin 32) (i : Fin 256) (k : Fin 1024) :
    val_main_v28 (F := Ideal) x1 (ix3 b i k) = Cert.Mix.headNorm (fun j => (x1 (ix4 0 b (ctx i) j) : EReal) + x1 (ix4 1 b (ctx i) j)) k := by
  have e : val_main_v28 (F := Ideal) x1 (ix3 b i k) = val_main_v23 (F := Ideal) x1 (ix4 b i ⟨k.val / 256, by omega⟩ ⟨k.val % 256, by omega⟩) := by
    unfold val_main_v28
    pointwise
  rw [e, v23]
  unfold Cert.Mix.headNorm Cert.Mix.mate
  simp only [v13, v12]
  have hk : (⟨k.val / 256 * 256 + k.val % 256, by omega⟩ : Fin 1024) = k := Fin.ext (by show k.val / 256 * 256 + k.val % 256 = k.val; omega)
  rw [hk]

/-- The row that is projected. -/
theorem v32 (b : Fin 32) (i : Fin 256) (k : Fin 1024) :
    val_main_v32 (F := Ideal) x1 x2 x4 (ix3 b i k) = (Cert.Mix.gatedHeads (fun k => x2 (ix3 b (ctx i) k)) (fun k => x1 (ix4 0 b (ctx i) k)) (fun k => x1 (ix4 1 b (ctx i) k)) (fun k => x4 (ix1 k))) k := by
  unfold val_main_v32 val_main_v31 val_main_v30 val_main_v29 val_main_v27 val_main_v9 Cert.Mix.gatedHeads
  pointwise
  rw [v28]
  exact congrArg (fun z => (x2 (ix3 b z k) : EReal) * _) (Fin.ext (by simp [ctx]))

theorem v36 (b : Fin 32) (i : Fin 256) (d : Fin 1024) :
    val_main_v36 (F := Ideal) x0 x1 x2 x3 x4 x5 (ix3 b i d) = Cert.Mix.add x0 x3 (Cert.Mix.gatedHeads (fun k => x2 (ix3 b (ctx i) k)) (fun k => x1 (ix4 0 b (ctx i) k)) (fun k => x1 (ix4 1 b (ctx i) k)) (fun k => x4 (ix1 k))) (fun k d => x5 (ix2 k d)) b (ctx i) d := by
  unfold val_main_v36 val_main_v35 val_main_v34 val_main_v33 val_main_v26 val_main_v25 val_main_v24 val_main_v6 val_main_v5 val_main_v4 Cert.Mix.add
  rw [part_ctx]
  pointwise
  simp only [v32]
  exact congrArg (fun z => (x0 (ix3 b z d) : EReal) + _) (Fin.ext (by simp [ctx]))

/-- The sum of both directions. -/
theorem v45 (b : Fin 32) (i : Fin 2048) (k : Fin 1024) :
    val_main_v45 (F := Ideal) x1 (ix3 b i k) = (x1 (ix4 0 b (lat i) k) : EReal) + x1 (ix4 1 b (lat i) k) := by
  unfold val_main_v45 val_main_v44 val_main_v43 val_main_v41 val_main_v40 val_main_v3 val_main_v2 val_main_v1 val_main_v0 lat
  pointwise

/-- A head's entries. -/
theorem v46 (b : Fin 32) (i : Fin 2048) (n : Fin 4) (j : Fin 256) :
    val_main_v46 (F := Ideal) x1 (ix4 b i n j) = val_main_v45 (F := Ideal) x1 (ix3 b i ⟨n.val * 256 + j.val, by omega⟩) := by
  unfold val_main_v46
  pointwise

/-- A head normed. -/
theorem v56 (b : Fin 32) (i : Fin 2048) (n : Fin 4) (j : Fin 256) :
    val_main_v56 (F := Ideal) x1 (ix4 b i n j) = (val_main_v46 (F := Ideal) x1 (ix4 b i n j) : EReal)
      * Ideal.rsqrt (Ideal.div (∑ j : Fin 256, val_main_v46 (F := Ideal) x1 (ix4 b i n j) * val_main_v46 (F := Ideal) x1 (ix4 b i n j)) (Ideal.ofBits .f32 1132462080#32) + Ideal.ofBits .f32 897988541#32) := by
  unfold val_main_v56 val_main_v55 val_main_v54 val_main_v53 val_main_v52 val_main_cst_4 val_main_v51 val_main_v50 val_main_cst_3 val_main_v49 val_main_v48 val_main_cst_2 val_main_v47
  pointwise

/-- The heads normed, as one row. -/
theorem v61 (b : Fin 32) (i : Fin 2048) (k : Fin 1024) :
    val_main_v61 (F := Ideal) x1 (ix3 b i k) = Cert.Mix.headNorm (fun j => (x1 (ix4 0 b (lat i) j) : EReal) + x1 (ix4 1 b (lat i) j)) k := by
  have e : val_main_v61 (F := Ideal) x1 (ix3 b i k) = val_main_v56 (F := Ideal) x1 (ix4 b i ⟨k.val / 256, by omega⟩ ⟨k.val % 256, by omega⟩) := by
    unfold val_main_v61
    pointwise
  rw [e, v56]
  unfold Cert.Mix.headNorm Cert.Mix.mate
  simp only [v46, v45]
  have hk : (⟨k.val / 256 * 256 + k.val % 256, by omega⟩ : Fin 1024) = k := Fin.ext (by show k.val / 256 * 256 + k.val % 256 = k.val; omega)
  rw [hk]

/-- The row that is projected. -/
theorem v65 (b : Fin 32) (i : Fin 2048) (k : Fin 1024) :
    val_main_v65 (F := Ideal) x1 x2 x4 (ix3 b i k) = (Cert.Mix.gatedHeads (fun k => x2 (ix3 b (lat i) k)) (fun k => x1 (ix4 0 b (lat i) k)) (fun k => x1 (ix4 1 b (lat i) k)) (fun k => x4 (ix1 k))) k := by
  unfold val_main_v65 val_main_v64 val_main_v63 val_main_v62 val_main_v60 val_main_v42 Cert.Mix.gatedHeads
  pointwise
  rw [v61]
  rfl

theorem v69 (b : Fin 32) (i : Fin 2048) (d : Fin 1024) :
    val_main_v69 (F := Ideal) x0 x1 x2 x3 x4 x5 (ix3 b i d) = Cert.Mix.add x0 x3 (Cert.Mix.gatedHeads (fun k => x2 (ix3 b (lat i) k)) (fun k => x1 (ix4 0 b (lat i) k)) (fun k => x1 (ix4 1 b (lat i) k)) (fun k => x4 (ix1 k))) (fun k d => x5 (ix2 k d)) b (lat i) d := by
  unfold val_main_v69 val_main_v68 val_main_v67 val_main_v66 val_main_v59 val_main_v58 val_main_v57 val_main_v39 val_main_v38 val_main_v37 Cert.Mix.add
  rw [part_lat]
  pointwise
  simp only [v65]
  rfl

/-- The plain result at an element. -/
theorem v70 (b : Fin 32) (i : Fin 2304) (d : Fin 1024) :
    val_main_v70 (F := Ideal) x0 x1 x2 x3 x4 x5 (ix3 b i d) = Cert.Mix.add x0 x3 (Cert.Mix.gatedHeads (fun k => x2 (ix3 b i k)) (fun k => x1 (ix4 0 b i k)) (fun k => x1 (ix4 1 b i k)) (fun k => x4 (ix1 k))) (fun k d => x5 (ix2 k d)) b i d := by
  unfold val_main_v70
  pointwise
  by_cases h : i.val < 256
  · refine (dif_pos h).trans ((v36 _ _ _ _ _ _ _ ⟨i.val, h⟩ _).trans ?_)
    exact congrArg (fun z => Cert.Mix.add x0 x3 (Cert.Mix.gatedHeads (fun k => x2 (ix3 b z k)) (fun k => x1 (ix4 0 b z k)) (fun k => x1 (ix4 1 b z k)) (fun k => x4 (ix1 k))) (fun k d => x5 (ix2 k d)) b z d) (Fin.ext (by simp [ctx]))
  · refine (dif_neg h).trans ((v69 _ _ _ _ _ _ _ ⟨i.val - 256, by omega⟩ _).trans ?_)
    exact congrArg (fun z => Cert.Mix.add x0 x3 (Cert.Mix.gatedHeads (fun k => x2 (ix3 b z k)) (fun k => x1 (ix4 0 b z k)) (fun k => x1 (ix4 1 b z k)) (fun k => x4 (ix1 k))) (fun k d => x5 (ix2 k d)) b z d) (Fin.ext (by simp [lat]; omega))

end Cert.Reference6Ideal.At
end
-- ==== Proof.GluSpec.lean ====
/- What the end of the S5 mixer computes, as one formula. -/
module

public import proofs.«01_k».proof.Proof.FfnSpec
public import Idealize.ShloMosaic.Lib.ValueIdx

@[expose] public section

noncomputable section

namespace Cert.Glu

open Idealize.ShloMosaic

/-- Where channel `k` of the token at place `s` of its chunk lies: 16 tokens of 16 channels for each of the 64 groups of channels. -/
def lane (s : Fin 16) (k : Fin 1024) : Fin 16384 := ⟨k.val / 16 * 256 + s.val * 16 + k.val % 16, by omega⟩

/-- Channel `k` of token `i` of the mixer's result, which holds its tokens in chunks of 16. -/
def token (y : Shape.Idx ⟨3, ![32, 144, 16384]⟩ → EReal) (b : Fin 32) (i : Fin 2304) (k : Fin 1024) : EReal :=
  y (ix3 b ⟨i.val / 16, by omega⟩ (lane ⟨i.val % 16, by omega⟩ k))

/-- One product of a token with the weights, with its bias. -/
def lin (row : Fin 1024 → EReal) (w : Fin 1024 → Fin 2048 → EReal) (bias : Fin 2048 → EReal) (f : Fin 2048) : EReal :=
  (∑ k : Fin 1024, row k * w k f) + bias f

/-- The lower half of the products times the logistic function of the upper half. -/
def glu (row : Fin 1024 → EReal) (w : Fin 1024 → Fin 2048 → EReal) (bias : Fin 2048 → EReal) (d : Fin 1024) : EReal :=
  lin row w bias ⟨d.val, by omega⟩ * Ideal.div 1 (1 + Ideal.exp (-(lin row w bias ⟨1024 + d.val, by omega⟩)))

/-- The gated result added to the token: the third of the six modulations of the token's part is the gate. -/
def add (x : Shape.Idx ⟨3, ![32, 2304, 1024]⟩ → EReal) (μ : Shape.Idx ⟨4, ![32, 2, 6, 1024]⟩ → EReal) (row : Fin 1024 → EReal)
    (w : Fin 1024 → Fin 2048 → EReal) (bias : Fin 2048 → EReal) (b : Fin 32) (i : Fin 2304) (d : Fin 1024) : EReal :=
  x (ix3 b i d) + μ (ix4 b (Cert.Ffn.part i) 2 d) * glu row w bias d

end Cert.Glu
end
-- ==== Proof.Sigmoid.lean ====
/- The logistic function by a hyperbolic tangent, on the extended reals. -/
module

public import Idealize.ShloMosaic.PureOps.Ideal

@[expose] public section

noncomputable section

namespace Cert.Sigmoid

open Idealize.ShloMosaic

/-- The bits of one half read as one half. -/
theorem half_bits : Ideal.ofBits .f32 1056964608#32 = (((2 : ℝ)⁻¹ : ℝ) : EReal) := by
  simp [Ideal.ofBits, Ideal.ieee]
  norm_num
  rw [← EReal.coe_mul]
  norm_num

/-- On the reals: half of one plus the hyperbolic tangent of the half is the logistic function. -/
theorem half_tanh (x : ℝ) : (2 : ℝ)⁻¹ * Real.tanh ((2 : ℝ)⁻¹ * x) + (2 : ℝ)⁻¹ = (1 + Real.exp (-x))⁻¹ := by
  rw [Real.tanh_eq_sinh_div_cosh, Real.sinh_eq, Real.cosh_eq]
  have h1 : Real.exp (-x) = Real.exp (-((2 : ℝ)⁻¹ * x)) * Real.exp (-((2 : ℝ)⁻¹ * x)) := by
    rw [← Real.exp_add]; congr 1; ring
  have h2 : Real.exp (-((2 : ℝ)⁻¹ * x)) = (Real.exp ((2 : ℝ)⁻¹ * x))⁻¹ := Real.exp_neg _
  rw [h1, h2]
  have p := Real.exp_pos ((2 : ℝ)⁻¹ * x)
  generalize Real.exp ((2 : ℝ)⁻¹ * x) = e at p
  have p' : e ≠ 0 := p.ne'
  have q : e * e + 1 ≠ 0 := by positivity
  field_simp
  ring

/-- The kernel's form of the logistic function is the reference's, at the infinities too. -/
theorem sigmoid (g : EReal) : Ideal.ofBits .f32 1056964608#32 * Ideal.tanh (Ideal.ofBits .f32 1056964608#32 * g) + Ideal.ofBits .f32 1056964608#32
    = Ideal.div 1 (1 + Ideal.exp (-g)) := by
  rw [half_bits]
  have hh : (0 : ℝ) < (2 : ℝ)⁻¹ := by norm_num
  induction g with
  | bot =>
    rw [EReal.coe_mul_bot_of_pos hh]
    show (((2 : ℝ)⁻¹ : ℝ) : EReal) * (-1) + (((2 : ℝ)⁻¹ : ℝ) : EReal) = Ideal.div 1 (1 + Ideal.exp (-⊥))
    rw [EReal.neg_bot]
    show _ = Ideal.div 1 (1 + ⊤)
    have e1 : (1 : EReal) + ⊤ = ⊤ := by simpa using EReal.coe_add_top 1
    rw [e1, Ideal.div, if_neg (by simp), EReal.inv_top, mul_zero]
    rw [show (-1 : EReal) = ((-1 : ℝ) : EReal) by simp, ← EReal.coe_mul, ← EReal.coe_add]
    norm_num
  | top =>
    rw [EReal.coe_mul_top_of_pos hh]
    show (((2 : ℝ)⁻¹ : ℝ) : EReal) * 1 + (((2 : ℝ)⁻¹ : ℝ) : EReal) = Ideal.div 1 (1 + Ideal.exp (-⊤))
    rw [EReal.neg_top]
    show _ = Ideal.div 1 (1 + 0)
    rw [add_zero, Ideal.div, if_neg one_ne_zero, mul_one, ← EReal.coe_add]
    rw [show (1 : EReal) = ((1 : ℝ) : EReal) by simp, ← EReal.coe_inv, ← EReal.coe_mul]
    norm_num
  | coe x =>
    rw [← EReal.coe_mul]
    show (((2 : ℝ)⁻¹ : ℝ) : EReal) * ((Real.tanh ((2 : ℝ)⁻¹ * x) : ℝ) : EReal) + (((2 : ℝ)⁻¹ : ℝ) : EReal) = Ideal.div 1 (1 + Ideal.exp (-(x : EReal)))
    rw [← EReal.coe_neg]
    show _ = Ideal.div 1 (1 + ((Real.exp (-x) : ℝ) : EReal))
    rw [show (1 : EReal) = ((1 : ℝ) : EReal) by simp, ← EReal.coe_add, Ideal.div, if_neg, ← EReal.coe_inv, ← EReal.coe_mul, ← EReal.coe_mul, ← EReal.coe_add,
      half_tanh, one_mul]
    have p := Real.exp_pos (-x)
    intro h
    rw [EReal.coe_eq_zero] at h
    linarith

end Cert.Sigmoid
end
-- ==== Proof.GluPhase.lean ====
/- How the kernel at the end of the S5 mixer brings the mixer's chunks into the order of tokens. -/
module

public import proofs.«01_k».proof.Proof.Gen.Kernel7Ideal.Skeleton
public import proofs.«01_k».proof.Proof.GluSpec
public import proofs.«01_k».proof.Proof.Sigmoid
public import Idealize.ShloMosaic.Lib.Pointwise
public import Idealize.ShloMosaic.Lib.ValueIdx

@[expose] public section

set_option maxRecDepth 16384

noncomputable section

namespace Cert.Kernel7Ideal.Blocks

open Cert.Kernel7Ideal Cert.Kernel7Ideal.Gen Idealize.ShloMosaic Idealize.ShloMosaic.TcCoe Idealize.SL.Sem

theorem seg_word : ∀ l : Fin 128, IntOp.shrsi ArithUnit.vector (BitVec.ofNat 32 l.val) 4#32 = BitVec.ofNat 32 (l.val / 16) := by decide +kernel

/-- The lanes' groups of sixteen. -/
theorem seg_apply (n : Fin 16) (l : Fin 128) : k0_pay2 (ix2 n l) = BitVec.ofNat 32 (l.val / 16) := by
  rw [← seg_word]
  unfold k0_pay2
  pointwise

/-- The lanes turned by `16 k`. -/
def turn (k : ℕ) (v : FVec Ideal S16x128 .f32) : FVec Ideal S16x128 .f32 :=
  if k = 0 then v else dynamicRotate 1 (BitVec.ofNat 32 (16 * k)) none v rotates_S16x128_d1

theorem turn_apply (k : Fin 8) (v : FVec Ideal S16x128 .f32) (n : Fin 16) (l : Fin 128) :
    turn k.val v (ix2 n l) = v (ix2 n ⟨(l.val + 128 - 16 * k.val) % 128, by omega⟩) := by
  unfold turn
  split
  · refine congrArg (fun z => v (ix2 n z)) (Fin.ext ?_)
    simp only []
    omega
  · pointwise
    refine congrArg (fun z => v (ix2 n z)) (Fin.ext ?_)
    simp only [BitVec.toNat_ofNat]
    omega

theorem same_word : ∀ q j : Fin 8, IntOp.cmpi .eq (BitVec.ofNat 32 q.val) (BitVec.ofNat 32 j.val) = if q.val = j.val then 1#1 else 0#1 := by decide +kernel

/-- The lanes of group `j` taken from `a`, the others from `b`. -/
theorem pick (j : Fin 8) (a b : FVec Ideal S16x128 .f32) (n : Fin 16) (l : Fin 128) :
    select (cmpi .eq k0_pay2 (broadcast S16x128 (BitVec.ofNat 32 j.val))) a b (ix2 n l) = if l.val / 16 = j.val then a (ix2 n l) else b (ix2 n l) := by
  have h := seg_apply n l
  generalize k0_pay2 = s at h ⊢
  pointwise
  rw [h, same_word ⟨l.val / 16, by omega⟩ j]
  simp only []
  split <;> rfl

/-- Sixteen chunks' tokens at place `s` of eight of each chunk, as 128 lanes of eight groups: group `j` is taken from the `j`th source. -/
def blend (s : ℕ) (f : Fin 8 → FVec Ideal S16x128 .f32) : FVec Ideal S16x128 .f32 :=
  select (cmpi .eq k0_pay2 (broadcast S16x128 7#32)) (turn ((7 + 8 - s) % 8) (f 7))
  (select (cmpi .eq k0_pay2 (broadcast S16x128 6#32)) (turn ((6 + 8 - s) % 8) (f 6))
  (select (cmpi .eq k0_pay2 (broadcast S16x128 5#32)) (turn ((5 + 8 - s) % 8) (f 5))
  (select (cmpi .eq k0_pay2 (broadcast S16x128 4#32)) (turn ((4 + 8 - s) % 8) (f 4))
  (select (cmpi .eq k0_pay2 (broadcast S16x128 3#32)) (turn ((3 + 8 - s) % 8) (f 3))
  (select (cmpi .eq k0_pay2 (broadcast S16x128 2#32)) (turn ((2 + 8 - s) % 8) (f 2))
  (select (cmpi .eq k0_pay2 (broadcast S16x128 1#32)) (turn ((1 + 8 - s) % 8) (f 1))
  (turn ((0 + 8 - s) % 8) (f 0))))))))

theorem turned (s j : Fin 8) (v : FVec Ideal S16x128 .f32) (n : Fin 16) (l : Fin 128) (h : l.val / 16 = j.val) :
    turn ((j.val + 8 - s.val) % 8) v (ix2 n l) = v (ix2 n ⟨16 * s.val + l.val % 16, by omega⟩) := by
  refine (turn_apply ⟨(j.val + 8 - s.val) % 8, by omega⟩ v n l).trans (congrArg (fun z => v (ix2 n z)) (Fin.ext ?_))
  simp only []
  omega

theorem blend_apply (s : Fin 8) (f : Fin 8 → FVec Ideal S16x128 .f32) (n : Fin 16) (l : Fin 128) :
    blend s.val f (ix2 n l) = f ⟨l.val / 16, by omega⟩ (ix2 n ⟨16 * s.val + l.val % 16, by omega⟩) := by
  unfold blend
  by_cases h7 : l.val / 16 = 7
  · refine ((pick 7 _ _ n l).trans (if_pos h7)).trans ((turned s 7 _ n l h7).trans ?_)
    exact congrArg (fun z => f z _) (Fin.ext h7.symm)
  refine ((pick 7 _ _ n l).trans (if_neg h7)).trans ?_
  by_cases h6 : l.val / 16 = 6
  · refine ((pick 6 _ _ n l).trans (if_pos h6)).trans ((turned s 6 _ n l h6).trans ?_)
    exact congrArg (fun z => f z _) (Fin.ext h6.symm)
  refine ((pick 6 _ _ n l).trans (if_neg h6)).trans ?_
  by_cases h5 : l.val / 16 = 5
  · refine ((pick 5 _ _ n l).trans (if_pos h5)).trans ((turned s 5 _ n l h5).trans ?_)
    exact congrArg (fun z => f z _) (Fin.ext h5.symm)
  refine ((pick 5 _ _ n l).trans (if_neg h5)).trans ?_
  by_cases h4 : l.val / 16 = 4
  · refine ((pick 4 _ _ n l).trans (if_pos h4)).trans ((turned s 4 _ n l h4).trans ?_)
    exact congrArg (fun z => f z _) (Fin.ext h4.symm)
  refine ((pick 4 _ _ n l).trans (if_neg h4)).trans ?_
  by_cases h3 : l.val / 16 = 3
  · refine ((pick 3 _ _ n l).trans (if_pos h3)).trans ((turned s 3 _ n l h3).trans ?_)
    exact congrArg (fun z => f z _) (Fin.ext h3.symm)
  refine ((pick 3 _ _ n l).trans (if_neg h3)).trans ?_
  by_cases h2 : l.val / 16 = 2
  · refine ((pick 2 _ _ n l).trans (if_pos h2)).trans ((turned s 2 _ n l h2).trans ?_)
    exact congrArg (fun z => f z _) (Fin.ext h2.symm)
  refine ((pick 2 _ _ n l).trans (if_neg h2)).trans ?_
  by_cases h1 : l.val / 16 = 1
  · refine ((pick 1 _ _ n l).trans (if_pos h1)).trans ((turned s 1 _ n l h1).trans ?_)
    exact congrArg (fun z => f z _) (Fin.ext h1.symm)
  refine ((pick 1 _ _ n l).trans (if_neg h1)).trans ?_
  have h0 : l.val / 16 = 0 := by omega
  refine (turned s 0 _ n l h0).trans ?_
  exact congrArg (fun z => f z _) (Fin.ext h0.symm)

/-- Sixteen times the remainder of `x` by sixteen plus its quotient, in the words that the kernel computes it with. -/
def placeWord (x : ℕ) : BitVec 32 :=
  IntOp.addi
      (IntOp.muli
        (Scalar.select
          (IntOp.andi
            (IntOp.xori
              (IntOp.cmpi CmpIPredicate.slt
                (IntOp.remsi ArithUnit.vector (BitVec.ofNat 32 x) (Scalar.select (Scalar.cmpi CmpIPredicate.eq 16#32 0#32) 1#32 16#32)) 0#32)
              (Scalar.cmpi CmpIPredicate.slt (Scalar.select (Scalar.cmpi CmpIPredicate.eq 16#32 0#32) 1#32 16#32) 0#32))
            (IntOp.cmpi CmpIPredicate.ne
              (IntOp.remsi ArithUnit.vector (BitVec.ofNat 32 x) (Scalar.select (Scalar.cmpi CmpIPredicate.eq 16#32 0#32) 1#32 16#32)) 0#32))
          (IntOp.addi
            (IntOp.remsi ArithUnit.vector (BitVec.ofNat 32 x) (Scalar.select (Scalar.cmpi CmpIPredicate.eq 16#32 0#32) 1#32 16#32))
            (Scalar.select (Scalar.cmpi CmpIPredicate.eq 16#32 0#32) 1#32 16#32))
          (IntOp.remsi ArithUnit.vector (BitVec.ofNat 32 x) (Scalar.select (Scalar.cmpi CmpIPredicate.eq 16#32 0#32) 1#32 16#32)))
        16#32)
      (Scalar.select
        (IntOp.andi
          (IntOp.cmpi CmpIPredicate.ne
            (IntOp.subi (BitVec.setWidth 32 (IntOp.cmpi CmpIPredicate.sgt (BitVec.ofNat 32 x) 0#32))
              (BitVec.setWidth 32 (IntOp.cmpi CmpIPredicate.slt (BitVec.ofNat 32 x) 0#32)))
            (Scalar.subi (Scalar.extui (Scalar.cmpi CmpIPredicate.sgt 16#32 0#32)) (Scalar.extui (Scalar.cmpi CmpIPredicate.slt 16#32 0#32))))
          (IntOp.cmpi CmpIPredicate.ne (IntOp.remsi ArithUnit.vector (BitVec.ofNat 32 x) 16#32) 0#32))
        (IntOp.subi (IntOp.divsi ArithUnit.vector (BitVec.ofNat 32 x) 16#32) 1#32)
        (IntOp.divsi ArithUnit.vector (BitVec.ofNat 32 x) 16#32))

theorem place_word : ∀ x : Fin 256, placeWord x.val = BitVec.ofNat 32 (x.val % 16 * 16 + x.val / 16) := by decide +kernel

theorem ne_word {a b : ℕ} (ha : a < 256) (hb : b < 256) :
    IntOp.cmpi .eq (BitVec.ofNat 32 a) (BitVec.ofNat 32 b) = if a = b then 1#1 else 0#1 := by
  by_cases h : a = b
  · subst h
    simp [IntOp.cmpi]
  · have hne : BitVec.ofNat 32 a ≠ BitVec.ofNat 32 b := fun e => h (by
      have := congrArg BitVec.toNat e
      simp only [BitVec.toNat_ofNat] at this
      omega)
    rw [if_neg h]
    simp only [IntOp.cmpi]
    rw [beq_eq_false_iff_ne.mpr hne]
    rfl

/-- An entry of the permutation: one at the row that is `x`'s place, zero elsewhere. -/
theorem entry (t x : Fin 256) : (FloatOps.sitofp (F := Ideal) .f32 (BitVec.setWidth 32 (IntOp.cmpi .eq (BitVec.ofNat 32 t.val) (placeWord x.val))) : EReal)
    = if x = ⟨t.val % 16 * 16 + t.val / 16, by omega⟩ then 1 else 0 := by
  rw [place_word, ne_word t.isLt (by omega)]
  by_cases h : t.val = x.val % 16 * 16 + x.val / 16
  · rw [if_pos h, if_pos (Fin.ext (by simp only []; omega))]
    simp [FloatOps.sitofp]
  · rw [if_neg h, if_neg (fun e => h (by have := congrArg Fin.val e; simp only [] at this; omega))]
    simp [FloatOps.sitofp]

/-- The permutation's product picks one row. -/
theorem pick_row (t : Fin 256) (v : Fin 256 → EReal) :
    (∑ x : Fin 256, (FloatOps.sitofp (F := Ideal) .f32 (BitVec.setWidth 32 (IntOp.cmpi .eq (BitVec.ofNat 32 t.val) (placeWord x.val))) : EReal) * v x)
      = v ⟨t.val % 16 * 16 + t.val / 16, by omega⟩ := by
  simp only [entry]
  rw [Finset.sum_eq_single ⟨t.val % 16 * 16 + t.val / 16, by omega⟩]
  · rw [if_pos rfl, one_mul]
  · intro b _ hb
    rw [if_neg hb, zero_mul]
  · intro h
    exact absurd (Finset.mem_univ _) h

/-- The product with the weights and its bias, of the permuted rows. -/
theorem lin_apply (Y : Vec Ideal S256x1024 .f32) (W : Vec Ideal S1024x2048 .bf16) (B : Vec Ideal S1x2048 .f32) (t : Fin 256) (f : Fin 2048) :
    (k0_pay444 (iota .tc S256x256 32 [0] iota_S256x256_d0_w32) (iota .tc S256x256 32 [1] iota_S256x256_d1_w32) k0_pay440 16#32 k0_pay441 k0_pay442
      (Scalar.extui (Scalar.cmpi .sgt 16#32 0#32)) Y W B (ix2 t f) : EReal)
      = Cert.Glu.lin (fun k => Y (ix2 ⟨t.val % 16 * 16 + t.val / 16, by omega⟩ k)) (fun k f => W (ix2 k f)) (fun f => B (ix2 0 f)) f := by
  unfold Cert.Glu.lin
  refine Eq.trans ?_ (congrArg (· + (B (ix2 0 f) : EReal)) (Finset.sum_congr rfl fun k _ => congrArg (· * (W (ix2 k f) : EReal)) (pick_row t (fun x => Y (ix2 x k)))))
  unfold placeWord
  unfold k0_pay444 k0_pay440 k0_pay441 k0_pay442
  pointwise

/-- A block's value at an element. -/
theorem out_apply (g : Vec Ideal S1x1x6x1024 .f32) (x : Vec Ideal S1x256x1024 .f32) (Y : Vec Ideal S256x1024 .f32) (W : Vec Ideal S1024x2048 .bf16)
    (B : Vec Ideal S1x2048 .f32) (t : Fin 256) (d : Fin 1024) :
    (k0_pay1 (k0_pay443 g) (k0_pay445 x)
      (k0_pay446 (iota .tc S256x256 32 [0] iota_S256x256_d0_w32) (iota .tc S256x256 32 [1] iota_S256x256_d1_w32) k0_pay440 16#32 k0_pay441 k0_pay442
        (Scalar.extui (Scalar.cmpi .sgt 16#32 0#32)) Y W B)
      (k0_pay449 (k0_pay447 (iota .tc S256x256 32 [0] iota_S256x256_d0_w32) (iota .tc S256x256 32 [1] iota_S256x256_d1_w32) k0_pay440 16#32 k0_pay441 k0_pay442
        (Scalar.extui (Scalar.cmpi .sgt 16#32 0#32)) Y W B) k0_pay448) k0_pay450 (ix3 0 t d) : EReal)
      = x (ix3 0 t d) + g (ix4 0 0 2 d)
        * Cert.Glu.glu (fun k => Y (ix2 ⟨t.val % 16 * 16 + t.val / 16, by omega⟩ k)) (fun k f => W (ix2 k f)) (fun f => B (ix2 0 f)) d := by
  unfold Cert.Glu.glu
  rw [← Cert.Sigmoid.sigmoid]
  simp only [← lin_apply]
  unfold k0_pay1 k0_pay443 k0_pay445 k0_pay446 k0_pay447 k0_pay449 k0_pay448 k0_pay450
  pointwise

end Cert.Kernel7Ideal.Blocks
end
-- ==== Proof.GluKernel.lean ====
/- What the kernel at the end of the S5 mixer leaves in a block of its result. -/
module

public import proofs.«01_k».proof.Proof.Gen.Kernel7Ideal.Frame
public import proofs.«01_k».proof.Proof.GluPhase
public import Idealize.ShloMosaic.Lib.Pipeline.ValueKit
public import Idealize.ShloMosaic.Lib.Pipeline.ReadBack
public import Idealize.ShloMosaic.Lib.Claim
public import Idealize.ShloMosaic.Lib.StableHlo.ReadAt

@[expose] public section

set_option maxRecDepth 16384

noncomputable section

namespace Cert.Kernel7Ideal.Blocks

open Cert.Kernel7Ideal Cert.Kernel7Ideal.Gen Idealize.ShloMosaic Idealize.ShloMosaic.TcCoe Idealize.SL.Sem

variable (m : (ℓ : Loc nD τ sig) → Buf (Elt Ideal) ℓ)

theorem lanes_inb (o : ℕ) (ho : o + 128 ≤ 16384) (a : Fin 3) : (![0, 0, o] : Fin 3 → Nat) a + (![1, 16, 128] : Fin 3 → Nat) a ≤ S1x16x16384.size a := by
  fin_cases a <;> simp [S1x16x16384] <;> omega

/-- 128 lanes of the sixteen chunks of a block: half the tokens of one group of channels. -/
def source (X1 : Vec Ideal S1x16x16384 .bf16) (lb : Fin 8) (sh : Fin 2) (j : Fin 8) : FVec Ideal S16x128 .f32 :=
  k0_pay3 (View.ld X1 (Rect.unit (s := S1x16x16384) ![0, 0, (lb.val * 8 + j.val) * 256 + sh.val * 128] ![1, 16, 128] (lanes_inb _ (by omega))))

theorem piece_inb (lb : Fin 8) (sh : Fin 2) (s : Fin 8) (a : Fin 2) :
    (![(sh.val * 8 + s.val) * 16, lb.val * 128] : Fin 2 → Nat) a + (![16, 128] : Fin 2 → Nat) a ≤ S256x1024.size a := by
  fin_cases a <;> simp [S256x1024] <;> omega

/-- One piece of the rearranged block: the tokens of one place in their chunks, at 128 channels. -/
def piece (X1 : Vec Ideal S1x16x16384 .bf16) (p : Fin 8 × Fin 2 × Fin 8) : View.Piece (Elt Ideal) S256x1024 .f32 :=
  ⟨Rect.unit (s := S256x1024) ![(p.2.1.val * 8 + p.2.2.val) * 16, p.1.val * 128] ![16, 128] (piece_inb p.1 p.2.1 p.2.2),
    shapeCast S16x128 (blend p.2.2.val (source X1 p.1 p.2.1)) shapeCasts_S16x128_S16x128⟩

/-- The pieces, the last written first. -/
def order : List (Fin 8 × Fin 2 × Fin 8) :=
  [(7, 1, 7), (7, 1, 6), (7, 1, 5), (7, 1, 4), (7, 1, 3), (7, 1, 2), (7, 1, 1), (7, 1, 0), (7, 0, 7), (7, 0, 6), (7, 0, 5), (7, 0, 4), (7, 0, 3), (7, 0,
   2), (7, 0, 1), (7, 0, 0), (6, 1, 7), (6, 1, 6), (6, 1, 5), (6, 1, 4), (6, 1, 3), (6, 1, 2), (6, 1, 1), (6, 1, 0), (6, 0, 7), (6, 0, 6), (6, 0, 5), (6,
   0, 4), (6, 0, 3), (6, 0, 2), (6, 0, 1), (6, 0, 0), (5, 1, 7), (5, 1, 6), (5, 1, 5), (5, 1, 4), (5, 1, 3), (5, 1, 2), (5, 1, 1), (5, 1, 0), (5, 0, 7),
   (5, 0, 6), (5, 0, 5), (5, 0, 4), (5, 0, 3), (5, 0, 2), (5, 0, 1), (5, 0, 0), (4, 1, 7), (4, 1, 6), (4, 1, 5), (4, 1, 4), (4, 1, 3), (4, 1, 2), (4, 1,
   1), (4, 1, 0), (4, 0, 7), (4, 0, 6), (4, 0, 5), (4, 0, 4), (4, 0, 3), (4, 0, 2), (4, 0, 1), (4, 0, 0), (3, 1, 7), (3, 1, 6), (3, 1, 5), (3, 1, 4), (3,
   1, 3), (3, 1, 2), (3, 1, 1), (3, 1, 0), (3, 0, 7), (3, 0, 6), (3, 0, 5), (3, 0, 4), (3, 0, 3), (3, 0, 2), (3, 0, 1), (3, 0, 0), (2, 1, 7), (2, 1, 6),
   (2, 1, 5), (2, 1, 4), (2, 1, 3), (2, 1, 2), (2, 1, 1), (2, 1, 0), (2, 0, 7), (2, 0, 6), (2, 0, 5), (2, 0, 4), (2, 0, 3), (2, 0, 2), (2, 0, 1), (2, 0,
   0), (1, 1, 7), (1, 1, 6), (1, 1, 5), (1, 1, 4), (1, 1, 3), (1, 1, 2), (1, 1, 1), (1, 1, 0), (1, 0, 7), (1, 0, 6), (1, 0, 5), (1, 0, 4), (1, 0, 3), (1,
   0, 2), (1, 0, 1), (1, 0, 0), (0, 1, 7), (0, 1, 6), (0, 1, 5), (0, 1, 4), (0, 1, 3), (0, 1, 2), (0, 1, 1), (0, 1, 0), (0, 0, 7), (0, 0, 6), (0, 0, 5),
   (0, 0, 4), (0, 0, 3), (0, 0, 2), (0, 0, 1), (0, 0, 0)]

/-- The block rearranged: a row for each place in the chunks and each chunk. -/
def rearranged (X1 : Vec Ideal S1x16x16384 .bf16) : FVec Ideal S256x1024 .f32 := fun y =>
  X1 (ix3 0 ⟨(y 0).val % 16, by omega⟩ (Cert.Glu.lane ⟨(y 0).val / 16, by have : (y 0).val < 256 := (y 0).isLt; omega⟩ (y 1)))

theorem source_apply (X1 : Vec Ideal S1x16x16384 .bf16) (lb : Fin 8) (sh : Fin 2) (j : Fin 8) (n : Fin 16) (l : Fin 128) :
    (source X1 lb sh j (ix2 n l) : EReal) = X1 (ix3 0 n ⟨(lb.val * 8 + j.val) * 256 + sh.val * 128 + l.val, by omega⟩) := by
  have e : View.ld X1 (Rect.unit (s := S1x16x16384) ![0, 0, (lb.val * 8 + j.val) * 256 + sh.val * 128] ![1, 16, 128] (lanes_inb _ (by omega))) (ix3 0 n l)
      = X1 (ix3 0 n ⟨(lb.val * 8 + j.val) * 256 + sh.val * 128 + l.val, by omega⟩) := by
    refine View.ld_unit_apply_of _ _ _ _ _ _ fun a => ?_
    fin_cases a <;> simp [ix3]
  rw [← e]
  unfold source k0_pay3
  pointwise

theorem piece_apply (X1 : Vec Ideal S1x16x16384 .bf16) (p : Fin 8 × Fin 2 × Fin 8) (x : (piece X1 p).1.shape.Idx) :
    (piece X1 p).2 x = rearranged X1 ((piece X1 p).1.emb x) := by
  obtain ⟨lb, sh, s⟩ := p
  have ex : x = ix2 (x 0 : Fin 16) (x 1 : Fin 128) := by funext a; fin_cases a <;> rfl
  generalize hn : (x 0 : Fin 16) = n at ex
  generalize hl : (x 1 : Fin 128) = l at ex
  subst ex
  have e : (piece X1 (lb, sh, s)).2 (ix2 n l) = blend s.val (source X1 lb sh) (ix2 n l) := by
    unfold piece
    simp only []
    rw [shapeCast_self]
  refine e.trans ((blend_apply s _ n l).trans ((source_apply X1 lb sh _ n _).trans ?_))
  unfold rearranged
  have hn16 : n.val < 16 := n.isLt
  have hl128 : l.val < 128 := l.isLt
  have e0 : (((piece X1 (lb, sh, s)).1.emb (ix2 n l)) 0).val = (sh.val * 8 + s.val) * 16 + n.val := by
    show (sh.val * 8 + s.val) * 16 + 1 * n.val = _
    omega
  have e1 : (((piece X1 (lb, sh, s)).1.emb (ix2 n l)) 1).val = lb.val * 128 + l.val := by
    show lb.val * 128 + 1 * l.val = _
    omega
  refine congrArg₂ (fun a b => X1 (ix3 0 a b)) (Fin.ext ?_) (Fin.ext ?_)
  · exact (by omega : n.val = ((sh.val * 8 + s.val) * 16 + n.val) % 16).trans (congrArg (· % 16) e0.symm)
  · exact (by omega : (lb.val * 8 + l.val / 16) * 256 + sh.val * 128 + (16 * s.val + l.val % 16)
      = (lb.val * 128 + l.val) / 16 * 256 + ((sh.val * 8 + s.val) * 16 + n.val) / 16 * 16 + (lb.val * 128 + l.val) % 16).trans
      (congrArg₂ (fun a b => b / 16 * 256 + a / 16 * 16 + b % 16) e0.symm e1.symm)

theorem mem_piece (X1 : Vec Ideal S1x16x16384 .bf16) (lb : Fin 8) (sh : Fin 2) (s : Fin 8) (y : S256x1024.Idx)
    (h0 : (sh.val * 8 + s.val) * 16 ≤ (y 0).val) (h0' : (y 0).val < (sh.val * 8 + s.val) * 16 + 16)
    (h1 : lb.val * 128 ≤ (y 1).val) (h1' : (y 1).val < lb.val * 128 + 128) : y ∈ (piece X1 (lb, sh, s)).1.set := by
  have h : y ∈ (Rect.unit (s := S256x1024) ![(sh.val * 8 + s.val) * 16, lb.val * 128] ![16, 128] (piece_inb lb sh s)).set := by
    refine Rect.mem_set_unit.mpr fun a => ?_
    fin_cases a
    · exact ⟨h0, h0'⟩
    · exact ⟨h1, h1'⟩
  exact h

/-- The pieces together are the rearranged block. -/
theorem canon_pieces (X1 : Vec Ideal S1x16x16384 .bf16) : View.canon (order.map (piece X1)) = rearranged X1 := by
  funext y
  refine View.canon_apply_of_pieces (Val := Elt Ideal) (e := .f32) (rearranged X1) _ ?_ y ?_
  · intro p hp
    obtain ⟨q, _, rfl⟩ := List.mem_map.mp hp
    exact piece_apply X1 q
  · have h0 : (y 0).val < 256 := (y 0).isLt
    have h1 : (y 1).val < 1024 := (y 1).isLt
    have hall : ∀ q : Fin 8 × Fin 2 × Fin 8, q ∈ order := by decide +kernel
    exact ⟨_, List.mem_map_of_mem (hall (⟨(y 1).val / 128, by omega⟩, ⟨(y 0).val / 128, by omega⟩, ⟨(y 0).val / 16 % 8, by omega⟩)),
      mem_piece X1 _ _ _ y (by simp only []; omega) (by simp only []; omega) (by simp only []; omega) (by simp only []; omega)⟩

set_option maxHeartbeats 2000000 in
/-- What a step leaves in its block of the result. -/
theorem after5 (c : Dev nD) (t : Fin cfg0.N) : (dats m 0 c).after 5 t
    = k0_pay1 (k0_pay443 (iblk m c 2 t)) (k0_pay445 (iblk m c 0 t))
      (k0_pay446 (iota .tc S256x256 32 [0] iota_S256x256_d0_w32) (iota .tc S256x256 32 [1] iota_S256x256_d1_w32) k0_pay440 16#32 k0_pay441 k0_pay442
        (Scalar.extui (Scalar.cmpi .sgt 16#32 0#32)) (View.readCov (scM0_0).view (order.map (piece (iblk m c 1 t)))
          (Rect.unit (s := S256x1024) ![0, 0] ![256, 1024] inb_S256x1024_S256x1024_0_0).toLoadRect) (iblk m c 3 t) (iblk m c 4 t))
      (k0_pay449 (k0_pay447 (iota .tc S256x256 32 [0] iota_S256x256_d0_w32) (iota .tc S256x256 32 [1] iota_S256x256_d1_w32) k0_pay440 16#32 k0_pay441 k0_pay442
        (Scalar.extui (Scalar.cmpi .sgt 16#32 0#32)) (View.readCov (scM0_0).view (order.map (piece (iblk m c 1 t)))
          (Rect.unit (s := S256x1024) ![0, 0] ![256, 1024] inb_S256x1024_S256x1024_0_0).toLoadRect) (iblk m c 3 t) (iblk m c 4 t)) k0_pay448) k0_pay450 := by
  rw [after0_5]
  unfold outsAt0 out0_A_5
  frame_out
  rfl

theorem ixw0 : ∀ t : Fin cfg0.N, win0_0.index t = ![(grid0.coords t 0).val, (grid0.coords t 1).val, 0] := (by decide +kernel : ∀ t : Fin grid0.N, _)
theorem ixw1 : ∀ t : Fin cfg0.N, win0_1.index t = ![(grid0.coords t 0).val, (grid0.coords t 1).val, 0] := (by decide +kernel : ∀ t : Fin grid0.N, _)
theorem ixw2 : ∀ t : Fin cfg0.N, win0_2.index t = ![(grid0.coords t 0).val, min (grid0.coords t 1).val 1, 0, 0] := (by decide +kernel : ∀ t : Fin grid0.N, _)
theorem ixw3 : ∀ t : Fin cfg0.N, win0_3.index t = ![0, 0] := (by decide +kernel : ∀ t : Fin grid0.N, _)
theorem ixw4 : ∀ t : Fin cfg0.N, win0_4.index t = ![0, 0] := (by decide +kernel : ∀ t : Fin grid0.N, _)
theorem ixw5 : ∀ t : Fin cfg0.N, win0_5.index t = ![(grid0.coords t 0).val, (grid0.coords t 1).val, 0] := (by decide +kernel : ∀ t : Fin grid0.N, _)

/-- The batch item of a step. -/
def item (t : Fin cfg0.N) : Fin 32 := grid0.coords t 0

/-- The block of tokens of a step. -/
def blk (t : Fin cfg0.N) : Fin 9 := grid0.coords t 1

/-- Row `r` of a step's block among all tokens. -/
def tok (t : Fin cfg0.N) (r : Fin 256) : Fin 2304 := ⟨256 * (blk t).val + r.val, by have := (blk t).isLt; omega⟩

/-- Chunk `n` of a step's block among all chunks. -/
def chunk (t : Fin cfg0.N) (n : Fin 16) : Fin 144 := ⟨16 * (blk t).val + n.val, by have := (blk t).isLt; omega⟩

theorem part_tok (t : Fin cfg0.N) (r : Fin 256) : Cert.Ffn.part (tok t r) = ⟨min (blk t).val 1, by omega⟩ := by
  unfold Cert.Ffn.part tok
  apply Fin.ext
  split <;> simp only [] at * <;> simp <;> omega

theorem read0 (c : Dev nD) (t : Fin cfg0.N) (r : Fin 256) (l : Fin 1024) : iblk m c 0 t (ix3 0 r l)
    = V m c main_arg0 (ix3 (n0 := 32) (n1 := 2304) (n2 := 1024) (item t) (tok t r) l) := by
  refine congrArg (V m c main_arg0) ?_
  unfold item tok blk
  blk_ext [ixw0 t]

theorem read1 (c : Dev nD) (t : Fin cfg0.N) (n : Fin 16) (l : Fin 16384) : iblk m c 1 t (ix3 0 n l)
    = V m c main_arg1 (ix3 (n0 := 32) (n1 := 144) (n2 := 16384) (item t) (chunk t n) l) := by
  refine congrArg (V m c main_arg1) ?_
  unfold item chunk blk
  blk_ext [ixw1 t]

theorem read2 (c : Dev nD) (t : Fin cfg0.N) (r : Fin 256) (j : Fin 6) (l : Fin 1024) : iblk m c 2 t (ix4 0 0 j l)
    = V m c main_arg2 (ix4 (n0 := 32) (n1 := 2) (n2 := 6) (n3 := 1024) (item t) (Cert.Ffn.part (tok t r)) j l) := by
  refine congrArg (V m c main_arg2) ?_
  rw [part_tok]
  unfold item blk
  blk_ext [ixw2 t]

theorem read3 (c : Dev nD) (t : Fin cfg0.N) : iblk m c 3 t = V m c main_v0 := by
  funext y
  refine congrArg (V m c main_v0) ?_
  blk_ext [ixw3 t]

theorem read4 (c : Dev nD) (t : Fin cfg0.N) : iblk m c 4 t = V m c main_v1 := by
  funext y
  refine congrArg (V m c main_v1) ?_
  blk_ext [ixw4 t]

theorem emb5 (t : Fin cfg0.N) (y : S1x256x1024.Idx) : (win0_5.blk t).view.emb y
    = ix3 (n0 := 32) (n1 := 2304) (n2 := 1024) (item t) (tok t (y 1)) (y 2) := by
  unfold item tok blk
  blk_ext [ixw5 t]

/-- The weights reach the kernel as they are. -/
theorem weights (c : Dev nD) (j : S1024x2048.Idx) :
    (Gen.V m c main_v0 : S1024x2048.Idx → EReal) j = (m ((c.tc : Thread nD τ).loc main_arg3) : S1024x2048.Idx → EReal) j := by
  entry_read
  rfl

/-- The bias reaches the kernel as one row. -/
theorem bias (c : Dev nD) (f : Fin 2048) :
    (Gen.V m c main_v1 : S1x2048.Idx → EReal) (ix2 0 f) = (m ((c.tc : Thread nD τ).loc main_arg4) : S2048.Idx → EReal) (ix1 f) := by
  entry_read
  pointwise

theorem same0 (c : Dev nD) : Gen.V m c main_arg0 = m ((c.tc : Thread nD τ).loc main_arg0) := by
  entry_read
  after_reads_simp

theorem same1 (c : Dev nD) : Gen.V m c main_arg1 = m ((c.tc : Thread nD τ).loc main_arg1) := by
  entry_read
  after_reads_simp

theorem same2 (c : Dev nD) : Gen.V m c main_arg2 = m ((c.tc : Thread nD τ).loc main_arg2) := by
  entry_read
  after_reads_simp

/-- The load of the whole scratch reads the rearranged block. -/
theorem readCov_pieces (v : View sig .tc .vmem S256x1024 .f32) (X1 : Vec Ideal S1x16x16384 .bf16) :
    v.readCov (order.map (piece X1)) (Rect.unit (s := S256x1024) ![0, 0] ![256, 1024] inb_S256x1024_S256x1024_0_0).toLoadRect = rearranged X1 := by
  rw [View.readCov_eq_canon', canon_pieces]
  funext j
  refine congrArg (rearranged X1) ?_
  funext a
  apply Fin.ext
  fin_cases a <;> simp [Rect.toLoadRect, LoadRect.idx, Rect.unit]

theorem place_div (b r : ℕ) (hr : r < 256) : 16 * b + (r % 16 * 16 + r / 16) % 16 = (256 * b + r) / 16 := by
  rw [Nat.mul_add_mod_self_right, Nat.mod_eq_of_lt (by omega : r / 16 < 16)]
  omega

theorem place_mod (b r : ℕ) (hr : r < 256) : (r % 16 * 16 + r / 16) / 16 = (256 * b + r) % 16 := by
  have h : (r % 16 * 16 + r / 16) / 16 = r % 16 + r / 16 / 16 := by
    rw [Nat.add_comm, Nat.add_mul_div_right _ _ (by norm_num), Nat.add_comm]
  rw [h, Nat.div_eq_of_lt (by omega : r / 16 < 16)]
  omega

/-- The row of the rearranged block that the permutation brings to token `r` is that token's. -/
theorem row_apply (c : Dev nD) (t : Fin cfg0.N) (r : Fin 256) (k : Fin 1024) :
    (rearranged (iblk m c 1 t) (ix2 ⟨r.val % 16 * 16 + r.val / 16, by omega⟩ k) : EReal) = Cert.Glu.token (V m c main_arg1) (item t) (tok t r) k := by
  unfold rearranged
  refine (read1 m c t _ _).trans ?_
  unfold Cert.Glu.token
  refine congrArg₂ (fun a b => V m c main_arg1 (ix3 (n0 := 32) (n1 := 144) (n2 := 16384) (item t) a b)) (Fin.ext ?_) (congrArg (fun s => Cert.Glu.lane s k) (Fin.ext ?_))
  · exact place_div _ _ r.isLt
  · exact place_mod _ _ r.isLt

/-- The result as a function of what enters the kernel. -/
def FK (c : Dev nD) : FVec Ideal S32x2304x1024 .f32 := fun y =>
  Cert.Glu.add (V m c main_arg0) (V m c main_arg2) (Cert.Glu.token (V m c main_arg1) (y 0) (y 1)) (fun k f => V m c main_v0 (ix2 k f))
    (fun f => V m c main_v1 (ix2 0 f)) (y 0) (y 1) (y 2)

/-- The result array after the run. -/
theorem final (c : Dev nD) : (dats m 0 c).arrAt 5 cfg0.N = FK m c := by
  refine (dats m 0 c).arrAt_eq_of_covers 5 _ (by decide +kernel) fun t hf y => ?_
  blk_simp
  rw [after5, emb5, readCov_pieces, read3, read4]
  have hy : y = ix3 0 (y 1) (y 2) := (eq_ix3 y).trans (congrArg (fun z : Fin 1 => ix3 z (y 1 : Fin 256) (y 2 : Fin 1024)) (Subsingleton.elim (α := Fin 1) _ _))
  rw [hy]
  refine (out_apply _ _ _ _ _ _ _).trans ?_
  unfold FK Cert.Glu.add
  exact congrArg₂ (· + ·) (read0 m c t _ _) (congrArg₂ (· * ·) (read2 m c t (y 1) 2 (y 2))
    (congrArg (fun row => Cert.Glu.glu row (fun k f => V m c main_v0 (ix2 k f)) (fun f => V m c main_v1 (ix2 0 f)) (y 2)) (funext fun k => row_apply m c t (y 1) k)))

end Cert.Kernel7Ideal.Blocks
end
-- ==== Proof.GluRef.lean ====
/- The plain end of the S5 mixer, read at an index. -/
module

public import proofs.«01_k».proof.Proof.GluSpec
public import proofs.«01_k».proof.Proof.Gen.Reference7Ideal.Read
public import Idealize.ShloMosaic.Lib.Pointwise
public import Idealize.ShloMosaic.Lib.ValueIdx

@[expose] public section

set_option maxRecDepth 16384

noncomputable section

namespace Cert.Reference7Ideal.At

open Cert.Reference7Ideal Cert.Reference7Ideal.Read Idealize.ShloMosaic

variable (x0 : FVec Ideal S32x2304x1024 .f32) (x1 : FVec Ideal S32x144x16384 .bf16) (x2 : FVec Ideal S32x2x6x1024 .f32) (x3 : FVec Ideal S1024x2048 .f32)
  (x4 : FVec Ideal S2048 .f32)

/-- A context token among all. -/
def ctx (i : Fin 256) : Fin 2304 := ⟨0 + i.val, by omega⟩

theorem part_ctx (i : Fin 256) : Cert.Ffn.part (ctx i) = 0 := by
  unfold Cert.Ffn.part ctx
  simp only []
  split
  · first | rfl | (exfalso; omega)
  · first | rfl | (exfalso; omega)

/-- A latent token among all. -/
def lat (i : Fin 2048) : Fin 2304 := ⟨256 + i.val, by omega⟩

theorem part_lat (i : Fin 2048) : Cert.Ffn.part (lat i) = 1 := by
  unfold Cert.Ffn.part lat
  simp only []
  split
  · first | rfl | (exfalso; omega)
  · first | rfl | (exfalso; omega)

/-- The rearranged input, token by token. -/
theorem v2 (b : Fin 32) (i : Fin 2304) (k : Fin 1024) :
    val_main_v2 (F := Ideal) x1 (ix3 b i k) = Cert.Glu.token x1 b i k := by
  unfold val_main_v2 val_main_v1 val_main_v0 Cert.Glu.token Cert.Glu.lane
  pointwise

/-- The product with its bias, for a context token. -/
theorem lin_ctx (b : Fin 32) (i : Fin 256) (f : Fin 2048) :
    val_main_v11 (F := Ideal) x1 x3 x4 (ix3 b i f) = Cert.Glu.lin (Cert.Glu.token x1 b (ctx i)) (fun k f => x3 (ix2 k f)) (fun f => x4 (ix1 f)) f := by
  unfold val_main_v11 val_main_v10 val_main_v9 val_main_v8 val_main_v7 val_main_v6 Cert.Glu.lin
  simp only [← v2]
  unfold ctx
  pointwise

/-- The result for a context token. -/
theorem v26 (b : Fin 32) (i : Fin 256) (d : Fin 1024) :
    val_main_v26 (F := Ideal) x0 x1 x2 x3 x4 (ix3 b i d)
      = Cert.Glu.add x0 x2 (Cert.Glu.token x1 b (ctx i)) (fun k f => x3 (ix2 k f)) (fun f => x4 (ix1 f)) b (ctx i) d := by
  unfold Cert.Glu.add Cert.Glu.glu
  simp only [← lin_ctx]
  rw [part_ctx]
  unfold ctx
  unfold val_main_v26 val_main_v25 val_main_v24 val_main_v23 val_main_v22 val_main_v21 val_main_v20 val_main_v19 val_main_v18 val_main_v17 val_main_v16 val_main_v15 val_main_v14 val_main_v13 val_main_v12 val_main_v5 val_main_v4 val_main_v3 val_main_cst val_main_cst_0
  pointwise

/-- The product with its bias, for a latent token. -/
theorem lin_lat (b : Fin 32) (i : Fin 2048) (f : Fin 2048) :
    val_main_v35 (F := Ideal) x1 x3 x4 (ix3 b i f) = Cert.Glu.lin (Cert.Glu.token x1 b (lat i)) (fun k f => x3 (ix2 k f)) (fun f => x4 (ix1 f)) f := by
  unfold val_main_v35 val_main_v34 val_main_v33 val_main_v32 val_main_v31 val_main_v30 Cert.Glu.lin
  simp only [← v2]
  unfold lat
  pointwise

/-- The result for a latent token. -/
theorem v50 (b : Fin 32) (i : Fin 2048) (d : Fin 1024) :
    val_main_v50 (F := Ideal) x0 x1 x2 x3 x4 (ix3 b i d)
      = Cert.Glu.add x0 x2 (Cert.Glu.token x1 b (lat i)) (fun k f => x3 (ix2 k f)) (fun f => x4 (ix1 f)) b (lat i) d := by
  unfold Cert.Glu.add Cert.Glu.glu
  simp only [← lin_lat]
  rw [part_lat]
  unfold lat
  unfold val_main_v50 val_main_v49 val_main_v48 val_main_v47 val_main_v46 val_main_v45 val_main_v44 val_main_v43 val_main_v42 val_main_v41 val_main_v40 val_main_v39 val_main_v38 val_main_v37 val_main_v36 val_main_v29 val_main_v28 val_main_v27 val_main_cst_1 val_main_cst_2
  pointwise

/-- The plain result at an element. -/
theorem v51 (b : Fin 32) (i : Fin 2304) (d : Fin 1024) :
    val_main_v51 (F := Ideal) x0 x1 x2 x3 x4 (ix3 b i d)
      = Cert.Glu.add x0 x2 (Cert.Glu.token x1 b i) (fun k f => x3 (ix2 k f)) (fun f => x4 (ix1 f)) b i d := by
  unfold val_main_v51
  pointwise
  by_cases h : i.val < 256
  · refine (dif_pos h).trans ((v26 _ _ _ _ _ _ ⟨i.val, h⟩ _).trans ?_)
    exact congrArg (fun z => Cert.Glu.add x0 x2 (Cert.Glu.token x1 b z) (fun k f => x3 (ix2 k f)) (fun f => x4 (ix1 f)) b z d) (Fin.ext (by simp [ctx]))
  · refine (dif_neg h).trans ((v50 _ _ _ _ _ _ ⟨i.val - 256, by omega⟩ _).trans ?_)
    exact congrArg (fun z => Cert.Glu.add x0 x2 (Cert.Glu.token x1 b z) (fun k f => x3 (ix2 k f)) (fun f => x4 (ix1 f)) b z d) (Fin.ext (by simp [lat]; omega))

end Cert.Reference7Ideal.At
end
-- ==== Proof.RefGather.lean ====
/- The reference's three gathers read at an index: the rows of the window of keys or values, and the biases. -/
module

public import proofs.«01_k».proof.Proof.Gen.ReferenceIdeal.Read
public import Idealize.ShloMosaic.Lib.ValueIdx
public import Idealize.ShloMosaic.Lib.ValueIdxRank6

@[expose] public section

set_option maxRecDepth 16384

noncomputable section

namespace Cert.ReferenceIdeal.At

open Cert.ReferenceIdeal Idealize.ShloMosaic Idealize.ShloMosaic.ValueIdx

section
variable {s si t : Shape} (d : GatherDims s si t) (j : t.Idx) {w : Nat} (idx : IVec si w) (a : Fin s.rank)

/-- On an axis taken whole the gather reads the result's coordinate on the matching axis. -/
theorem onKept (hb : a ∉ d.operandBatchingDims) (hs : a ∉ d.startIndexMap) (hk : a ∈ d.sKept) :
    (d.operandIdx j idx a).val = (j (d.offsetDims[d.sKept.idxOf a]'(by rw [d.offset_length]; exact List.idxOf_lt_length_iff.2 hk))).val := by
  show d.start j idx a + d.batchCoord j a + d.offCoord j a = _
  rw [d.batchCoord_eq_zero j a hb]
  unfold GatherDims.start GatherDims.offCoord
  rw [dif_neg hs, dif_pos hk]
  simp

/-- On a looked-up axis the gather reads the index, held inside the axis. -/
theorem onLooked (hb : a ∉ d.operandBatchingDims) (hs : a ∈ d.startIndexMap) (hk : a ∉ d.sKept) :
    (d.operandIdx j idx a).val = min (idx (d.siIdx j ⟨d.startIndexMap.idxOf a, List.idxOf_lt_length_iff.2 hs⟩)).toInt.toNat (s.size a - d.sliceSizes a) := by
  show d.start j idx a + d.batchCoord j a + d.offCoord j a = _
  rw [d.batchCoord_eq_zero j a hb, d.offCoord_eq_zero j a hk]
  unfold GatherDims.start
  rw [dif_pos hs]
  simp

end

/-- The gathered rows: row `idx[r, kr]` of the grid, held inside the grid. -/
theorem gatherRows (x : S32x16x32x64x64.Idx → EReal) (idx : IVec S32x8x1 32) (b : Fin 32) (h : Fin 16) (r : Fin 32) (kr : Fin 8) (kc d : Fin 64) :
    Host.gather gather_S32x16x32x64x64_S32x8x1_S32x16x32x8x64x64_0145_2_n_n_2_2_321616464 x idx (ix6 b h r kr kc d)
      = x (ix5 b h ⟨min (idx (ix3 r kr 0)).toInt.toNat 31, by omega⟩ kc d) := by
  unfold Host.gather
  refine congrArg x (funext fun a => Fin.ext ?_)
  match a with
  | ⟨0, _⟩ => exact (onKept _ _ _ (0) (by decide) (by decide) (by decide)).trans rfl
  | ⟨1, _⟩ => exact (onKept _ _ _ (1) (by decide) (by decide) (by decide)).trans rfl
  | ⟨2, _⟩ =>
    refine (onLooked _ _ _ (2) (by decide) (by decide) (by decide)).trans ?_
    refine congrArg (fun z => min (idx z).toInt.toNat 31) ?_
    funext b; refine Fin.ext ?_
    match b with
    | ⟨0, _⟩ => rfl
    | ⟨1, _⟩ => rfl
    | ⟨2, _⟩ => rfl
  | ⟨3, _⟩ => exact (onKept _ _ _ (3) (by decide) (by decide) (by decide)).trans rfl
  | ⟨4, _⟩ => exact (onKept _ _ _ (4) (by decide) (by decide) (by decide)).trans rfl

/-- The gathered biases. -/
theorem gatherBias (x : S16x15x31.Idx → EReal) (idx : IVec S32x64x8x64x2 32) (h : Fin 16) (r : Fin 32) (q : Fin 64) (kr : Fin 8) (kc : Fin 64) :
    Host.gather gather_S16x15x31_S32x64x8x64x2_S16x32x64x8x64_0_12_n_n_12_4_1611 x idx (ix5 h r q kr kc)
      = x (ix3 h ⟨min (idx (ix5 r q kr kc 0)).toInt.toNat 14, by omega⟩ ⟨min (idx (ix5 r q kr kc 1)).toInt.toNat 30, by omega⟩) := by
  unfold Host.gather
  refine congrArg x (funext fun a => Fin.ext ?_)
  match a with
  | ⟨0, _⟩ => exact (onKept _ _ _ (0) (by decide) (by decide) (by decide)).trans rfl
  | ⟨1, _⟩ =>
    refine (onLooked _ _ _ (1) (by decide) (by decide) (by decide)).trans ?_
    refine congrArg (fun z => min (idx z).toInt.toNat 14) ?_
    funext b; refine Fin.ext ?_
    match b with
    | ⟨0, _⟩ => rfl
    | ⟨1, _⟩ => rfl
    | ⟨2, _⟩ => rfl
    | ⟨3, _⟩ => rfl
    | ⟨4, _⟩ => rfl
  | ⟨2, _⟩ =>
    refine (onLooked _ _ _ (2) (by decide) (by decide) (by decide)).trans ?_
    refine congrArg (fun z => min (idx z).toInt.toNat 30) ?_
    funext b; refine Fin.ext ?_
    match b with
    | ⟨0, _⟩ => rfl
    | ⟨1, _⟩ => rfl
    | ⟨2, _⟩ => rfl
    | ⟨3, _⟩ => rfl
    | ⟨4, _⟩ => rfl

end Cert.ReferenceIdeal.At
-- ==== Proof.SoftmaxMath.lean ====
/- The arithmetic of a softmax-weighted mean over the extended reals: the form a kernel computes (powers of two, one division at the end) against the form a
   reference writes (exponentials, every weight normalised before it is used). -/
module

public import Idealize.ShloMosaic.PureOps.Ideal

@[expose] public section

noncomputable section

namespace Cert.SoftmaxMath

open Idealize.ShloMosaic

/-- The base-two logarithm of e, as a real number. -/
def L : ℝ := (Real.log 2)⁻¹

theorem log2_pos : (0 : ℝ) < Real.log 2 := Real.log_pos (by norm_num)

theorem L_pos : 0 < L := inv_pos.mpr log2_pos

/-- A number that is not `⊤` is `⊥` or real. -/
theorem bot_or_real {a : EReal} (h : a ≠ ⊤) : a = ⊥ ∨ ∃ r : ℝ, a = (r : EReal) := by
  induction a with
  | bot => exact .inl rfl
  | coe r => exact .inr ⟨r, rfl⟩
  | top => exact absurd rfl h

/-- A number that is neither infinity is real. -/
theorem real_of {a : EReal} (h : a ≠ ⊤) (h' : a ≠ ⊥) : ∃ r : ℝ, a = (r : EReal) :=
  (bot_or_real h).resolve_left h'

/-- Two to the power of a scaled difference is the exponential of the difference. -/
theorem exp2_scaled_sub {a : EReal} (h : a ≠ ⊤) (M : ℝ) :
    Ideal.exp2 ((L : EReal) * a - (L : EReal) * (M : EReal)) = Ideal.exp (a - (M : EReal)) := by
  rcases bot_or_real h with rfl | ⟨r, rfl⟩
  · rw [EReal.coe_mul_bot_of_pos L_pos, EReal.bot_sub, EReal.bot_sub]; rfl
  · rw [← EReal.coe_mul, ← EReal.coe_mul, ← EReal.coe_sub, ← EReal.coe_sub]
    show ((Real.rpow 2 (L * r - L * M) : ℝ) : EReal) = ((Real.exp (r - M) : ℝ) : EReal)
    congr 1
    show (2 : ℝ) ^ (L * r - L * M) = _
    rw [Real.rpow_def_of_pos (by norm_num : (0 : ℝ) < 2)]
    congr 1
    have := log2_pos.ne'
    unfold L
    field_simp

/-- Scaling by a positive real is monotone. -/
theorem scale_mono : Monotone fun a : EReal => (L : EReal) * a := fun _ _ h =>
  mul_le_mul_of_nonneg_left h (EReal.coe_nonneg.mpr L_pos.le)

variable {ι : Type} [Fintype ι]

/-- The greatest of scaled numbers is the scaled greatest. -/
theorem sup_scaled (a : ι → EReal) : (Finset.univ.sup fun i => (L : EReal) * a i) = (L : EReal) * Finset.univ.sup a := by
  refine (Finset.comp_sup_eq_sup_comp_of_is_total (fun a : EReal => (L : EReal) * a) scale_mono ?_).symm
  exact EReal.coe_mul_bot_of_pos L_pos

/-- The greatest of finitely many numbers below `⊤`, one of them above `⊥`, is real. -/
theorem sup_real (a : ι → EReal) (h : ∀ i, a i ≠ ⊤) (i₀ : ι) (h₀ : a i₀ ≠ ⊥) : ∃ M : ℝ, Finset.univ.sup a = (M : EReal) := by
  refine real_of ?_ ?_
  · refine ne_of_lt ((Finset.sup_lt_iff (by simp)).mpr fun i _ => lt_of_le_of_ne le_top (h i))
  · intro e
    have := Finset.le_sup (f := a) (Finset.mem_univ i₀)
    rw [e] at this
    exact h₀ (le_bot_iff.mp this)

/-- The exponential below a real bound is a nonnegative real. -/
theorem exp_sub_real {a : EReal} (h : a ≠ ⊤) (M : ℝ) : ∃ r : ℝ, 0 ≤ r ∧ Ideal.exp (a - (M : EReal)) = (r : EReal) := by
  rcases bot_or_real h with rfl | ⟨r, rfl⟩
  · exact ⟨0, le_rfl, by rw [EReal.bot_sub]; rfl⟩
  · exact ⟨Real.exp (r - M), (Real.exp_pos _).le, by rw [← EReal.coe_sub]; rfl⟩

/-- A finite sum of reals is the real sum. -/
theorem coe_sum (f : ι → ℝ) : (∑ i, (f i : EReal)) = ((∑ i, f i : ℝ) : EReal) := by
  classical
  refine Finset.induction_on (motive := fun s => (∑ i ∈ s, (f i : EReal)) = ((∑ i ∈ s, f i : ℝ) : EReal)) Finset.univ ?_ ?_
  · simp
  · intro i s hi ih
    rw [Finset.sum_insert hi, Finset.sum_insert hi, ih, EReal.coe_add]

/-- A nonnegative real factor comes out of a sum of extended reals. -/
theorem coe_mul_sum (c : ℝ) (hc : 0 ≤ c) (f : ι → EReal) : (∑ i, (c : EReal) * f i) = (c : EReal) * ∑ i, f i := by
  classical
  refine Finset.induction_on (motive := fun s => (∑ i ∈ s, (c : EReal) * f i) = (c : EReal) * ∑ i ∈ s, f i) Finset.univ ?_ ?_
  · simp
  · intro i s hi ih
    rw [Finset.sum_insert hi, Finset.sum_insert hi, ih,
      EReal.left_distrib_of_nonneg_of_ne_top (EReal.coe_nonneg.mpr hc) (EReal.coe_ne_top c)]

/-- The softmax-weighted mean: the weights as exponentials, each normalised, then the weighted sum. -/
def softmaxMean (a v : ι → EReal) : EReal :=
  ∑ i, Ideal.div (Ideal.exp (a i - Finset.univ.sup a)) (∑ j, Ideal.exp (a j - Finset.univ.sup a)) * v i

/-- The same with powers of two of scaled scores and the division after the sum. -/
theorem mean_eq (a v : ι → EReal) (h : ∀ i, a i ≠ ⊤) (i₀ : ι) (h₀ : a i₀ ≠ ⊥) (b : ι → EReal) (hb : ∀ i, b i = (L : EReal) * a i) :
    Ideal.div (∑ i, Ideal.exp2 (b i - Finset.univ.sup b) * v i) (∑ i, Ideal.exp2 (b i - Finset.univ.sup b)) = softmaxMean a v := by
  obtain rfl : b = fun i => (L : EReal) * a i := funext hb
  unfold softmaxMean
  rw [sup_scaled]
  obtain ⟨M, hM⟩ := sup_real a h i₀ h₀
  rw [hM]
  have e : ∀ i, Ideal.exp2 ((L : EReal) * a i - (L : EReal) * (M : EReal)) = Ideal.exp (a i - (M : EReal)) := fun i => exp2_scaled_sub (h i) M
  simp only [e]
  choose r r0 hr using fun i => exp_sub_real (h i) M
  simp only [hr]
  rw [coe_sum]
  have pos : 0 < ∑ j, r j := by
    refine Finset.sum_pos' (fun i _ => r0 i) ⟨i₀, Finset.mem_univ _, ?_⟩
    obtain ⟨x, hx⟩ := real_of (h i₀) h₀
    have := hr i₀
    rw [hx, ← EReal.coe_sub] at this
    have h2 : ((Real.exp (x - M) : ℝ) : EReal) = (r i₀ : EReal) := this
    rw [← EReal.coe_eq_coe_iff.mp h2]
    exact Real.exp_pos _
  rw [Ideal.div_coe pos.ne', mul_comm, ← coe_mul_sum _ (by positivity)]
  refine Finset.sum_congr rfl fun i _ => ?_
  rw [Ideal.div_coe pos.ne', mul_comm (r i : EReal) ((1 / ∑ j, r j : ℝ) : EReal), mul_assoc]

/-- A sum over a disjoint union of keys is the sum of the two sums. -/
theorem sum_parts {α β : Type} [Fintype α] [Fintype β] (f : α ⊕ β → EReal) : (∑ i, f i) = (∑ a, f (.inl a)) + ∑ b, f (.inr b) :=
  Fintype.sum_sum_type f

/-- The greatest over a disjoint union of keys is the greater of the two. -/
theorem sup_parts {α β : Type} [Fintype α] [Fintype β] (f : α ⊕ β → EReal) :
    Finset.univ.sup f = (Finset.univ.sup fun a => f (.inl a)) ⊔ Finset.univ.sup fun b => f (.inr b) := by
  apply le_antisymm
  · refine Finset.sup_le fun i _ => ?_
    rcases i with a | b
    · exact le_trans (Finset.le_sup (f := fun a => f (.inl a)) (Finset.mem_univ a)) le_sup_left
    · exact le_trans (Finset.le_sup (f := fun b => f (.inr b)) (Finset.mem_univ b)) le_sup_right
  · exact sup_le (Finset.sup_le fun a _ => Finset.le_sup (f := f) (Finset.mem_univ _)) (Finset.sup_le fun b _ => Finset.le_sup (f := f) (Finset.mem_univ _))

end Cert.SoftmaxMath

end
-- ==== Proof.Pair.lean ====
/- One pair of heads of one block of queries, element by element: the scores, and the weighted mean of the values that the kernel's arithmetic comes to. -/
module

public import proofs.«01_k».proof.Proof.Gen.KernelIdeal.Skeleton
public import proofs.«01_k».proof.Proof.SoftmaxMath
public import Idealize.ShloMosaic.Lib.ValueIdx
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe Idealize.SL.Sem

/-- What the kernel writes for one pair of heads at a block of context queries, from that pair's columns of the queries, keys and values. -/
def pairA (q : Vec Ideal S1x64x128 .f32) (k v : Vec Ideal S1x256x128 .bf16) : Vec Ideal S1x64x128 .bf16 :=
  k0_pay29 (iota .tc S64x128 32 [1] iota_S64x128_d1_w32) (k0_pay3 k0_pay122 q k) (k0_pay2 k0_pay122 q k) v

/-- What the kernel writes for one pair of heads at a block of latent queries: also from the window's keys, values and bias. -/
def pairB (q : Vec Ideal S1x64x128 .f32) (k v : Vec Ideal S1x256x128 .bf16) (kl vl : Vec Ideal S1x512x128 .bf16) (b : Vec Ideal S1x1x512x128 .f32) :
    Vec Ideal S1x64x128 .bf16 :=
  k0_pay101 (k0_pay100 (iota .tc S64x128 32 [1] iota_S64x128_d1_w32)
    (k0_pay56 (k0_pay53 k0_pay122 q k) (k0_pay54 k0_pay122 k0_pay123 q b kl)) (k0_pay52 k0_pay122 q k) v
    (k0_pay55 (k0_pay54 k0_pay122 k0_pay123 q b kl)) vl)

/-- The kernel's factor on the queries: (1 / log 2) · (1 / 8). -/
def sc : EReal := (((Real.log 2)⁻¹ * 8⁻¹ : ℝ) : EReal)

/-- The literal of the queries' factor is that number. -/
theorem named_scale : (Named.named κ "scale" 0x3E38AA3B#32 : Ideal .f32) = sc := IdealRules.named_const.ideal_named_scalar _ _ _ _ rfl
/-- The literal of the mask is −∞. -/
theorem named_mask : (Named.named κ "mask" 0xF149F2CA#32 : Ideal .f32) = (⊥ : EReal) := IdealRules.named_const.ideal_named_scalar _ _ _ _ rfl
/-- The literal of log₂ e is 1 / log 2. -/
theorem named_log2e : (Named.named κ "log2e" 0x3FB8AA3B#32 : Ideal .f32) = ((SoftmaxMath.L : ℝ) : EReal) := IdealRules.named_const.ideal_named_scalar _ _ _ _ rfl

theorem ofBits_bot : Ideal.ofBits .f32 4286578688#32 = ⊥ := by simp [Ideal.ofBits, Ideal.ieee]

/-- The maximum over an axis, from −∞, is the supremum. -/
theorem fold_max {n : ℕ} (f : Fin n → EReal) : Finset.fold max (Ideal.ofBits .f32 4286578688#32) f Finset.univ = Finset.univ.sup f := by
  rw [ofBits_bot]; rfl

/-- One head's dot product of a key and a query times the kernel's factor. -/
def headDot (K Q : Fin 64 → EReal) : EReal := ∑ d, K d * (Q d * sc)

/-- Column `d` of the head of a pair that the column `l` belongs to. -/
def hcol (l : Fin 128) (d : Fin 64) : Fin 128 := ⟨64 * (l.val / 64) + d.val, by omega⟩

/-- The kernel masks a pair's columns to one head: the sum over 128 columns is the sum over that head's 64. -/
theorem sum_head (ρ : Fin 128) (f : Fin 128 → EReal) :
    (∑ x : Fin 128, if ρ.val / 64 = x.val / 64 then f x else 0) = ∑ d : Fin 64, f (hcol ρ d) := by
  rw [← Finset.sum_filter]
  symm
  refine Finset.sum_bij (fun d _ => hcol ρ d) ?_ ?_ ?_ ?_
  · intro d _; simp only [Finset.mem_filter, Finset.mem_univ, true_and, hcol]; omega
  · intro a _ b _ h; simp only [hcol, Fin.mk.injEq] at h; exact Fin.ext (by omega)
  · intro b hb; simp only [Finset.mem_filter, Finset.mem_univ, true_and] at hb
    refine ⟨⟨b.val - 64 * (ρ.val / 64), by omega⟩, Finset.mem_univ _, Fin.ext ?_⟩
    simp only [hcol]; omega
  · intro _ _; rfl

theorem sameHead : ∀ ρ x : Fin 128, IntOp.cmpi CmpIPredicate.eq (IntOp.shrsi ArithUnit.vector (BitVec.ofNat 32 ρ.val) 6#32)
    (IntOp.shrsi ArithUnit.vector (BitVec.ofNat 32 x.val) 6#32) = if ρ.val / 64 = x.val / 64 then 1#1 else 0#1 := by decide +kernel

theorem select_ite {α : Type} (p : Prop) [Decidable p] (a b : α) : Scalar.select (if p then 1#1 else 0#1) a b = if p then a else b := by
  split <;> rfl

/-- The score of one key row `j` for the pair's query `ρ` (head `ρ / 64`, query `ρ % 64` of the block). -/
def sco {n : ℕ} (q : Vec Ideal S1x64x128 .f32) (k : Vec Ideal ⟨3, ![1, n, 128]⟩ .bf16) (j : Fin n) (ρ : Fin 128) : EReal :=
  headDot (fun d => k (ix3 0 j (hcol ρ d))) (fun d => q (ix3 0 ⟨ρ.val % 64, Nat.mod_lt _ (by norm_num)⟩ (hcol ρ d)))

theorem pick (q : Vec Ideal S1x64x128 .f32) (ρ x : Fin 128) (h1 : ρ.val < 64 → ρ.val < 64) (h2 : ¬ ρ.val < 64 → ρ.val - 64 < 64) :
    (if h : ρ.val < 64 then (q (ix3 0 ⟨ρ.val, h1 h⟩ x) : EReal) * sc else q (ix3 0 ⟨ρ.val - 64, h2 h⟩ x) * sc)
      = q (ix3 0 ⟨ρ.val % 64, Nat.mod_lt _ (by norm_num)⟩ x) * sc := by
  split
  · congr 3; exact Fin.ext (by simp only []; omega)
  · congr 3; exact Fin.ext (by simp only []; omega)

/-- A context score. -/
theorem ctx_apply (q : Vec Ideal S1x64x128 .f32) (k : Vec Ideal S1x256x128 .bf16) (j : Fin 256) (ρ : Fin 128) :
    k0_pay1 k0_pay122 q k (ix2 j ρ) = sco q k j ρ := by
  unfold k0_pay1 k0_pay122
  pointwise
  simp only [sameHead, select_ite, named_scale]
  exact (Finset.sum_congr rfl fun x _ => if_congr Iff.rfl (congrArg (fun z : EReal => k (ix3 0 j x) * z) (pick q ρ x _ _)) rfl).trans
    (sum_head ρ fun x => k (ix3 0 j x) * (q (ix3 0 ⟨ρ.val % 64, Nat.mod_lt _ (by norm_num)⟩ x) * sc))

/-- The columns that a query's window takes: 16 from 8 to the left, kept inside the row of 64. -/
def ColMask (kc qc : ℕ) : Prop := min 48 (qc - 8) ≤ kc ∧ kc < min 48 (qc - 8) + 16

instance (kc qc : ℕ) : Decidable (ColMask kc qc) := by unfold ColMask; infer_instance

theorem colMask_bits : ∀ a b : Fin 64, (IntOp.andi
            (IntOp.cmpi CmpIPredicate.sge (BitVec.ofNat 32 a.val)
              (IntOp.minsi (48#32) (IntOp.maxsi (0#32) (IntOp.subi (BitVec.ofNat 32 b.val) 8#32))))
            (IntOp.cmpi CmpIPredicate.slt (BitVec.ofNat 32 a.val)
              (IntOp.addi
                (IntOp.minsi (48#32) (IntOp.maxsi (0#32) (IntOp.subi (BitVec.ofNat 32 b.val) 8#32)))
                16#32))) = if ColMask a.val b.val then 1#1 else 0#1 := by decide +kernel

theorem and63 : ∀ a : Fin 512, IntOp.andi (BitVec.ofNat 32 a.val) 63#32 = BitVec.ofNat 32 (a.val % 64) := by decide +kernel
theorem and63' : ∀ a : Fin 128, IntOp.andi (BitVec.ofNat 32 a.val) 63#32 = BitVec.ofNat 32 (a.val % 64) := by decide +kernel

/-- The score of a key of the window: the dot product, and the bias where the window takes the key's column, else −∞. -/
theorem loc_apply (q : Vec Ideal S1x64x128 .f32) (b : Vec Ideal S1x1x512x128 .f32) (kl : Vec Ideal S1x512x128 .bf16) (j : Fin 512) (ρ : Fin 128) :
    k0_pay54 k0_pay122 k0_pay123 q b kl (ix2 j ρ)
      = sco q kl j ρ + (if ColMask (j.val % 64) (ρ.val % 64) then (b (ix4 0 0 j ρ) : EReal) else ⊥) * ((SoftmaxMath.L : ℝ) : EReal) := by
  unfold k0_pay54 k0_pay50 k0_pay122 k0_pay123
  pointwise
  simp only [sameHead, select_ite, named_scale, named_mask, named_log2e, and63, and63']
  rw [colMask_bits ⟨j.val % 64, Nat.mod_lt _ (by norm_num)⟩ ⟨ρ.val % 64, Nat.mod_lt _ (by norm_num)⟩, select_ite]
  congr 1
  exact (Finset.sum_congr rfl fun x _ => if_congr Iff.rfl (congrArg (fun z : EReal => kl (ix3 0 j x) * z) (pick q ρ x _ _)) rfl).trans
    (sum_head ρ fun x => kl (ix3 0 j x) * (q (ix3 0 ⟨ρ.val % 64, Nat.mod_lt _ (by norm_num)⟩ x) * sc))

/-- The kernel's mean of the values `v` under scores `s` in base two. -/
def outK {ι : Type} [Fintype ι] (s v : ι → EReal) : EReal :=
  Ideal.div (∑ i, Ideal.exp2 (s i - Finset.univ.sup s) * v i) (∑ i, Ideal.exp2 (s i - Finset.univ.sup s))

theorem m_apply (q : Vec Ideal S1x64x128 .f32) (k : Vec Ideal S1x256x128 .bf16) (ρ : Fin 128) :
    k0_pay3 k0_pay122 q k (ix3 0 0 ρ) = Finset.univ.sup fun j => sco q k j ρ := by
  have h : ∀ j ρ, k0_pay1 k0_pay122 q k (ix2 j ρ) = sco q k j ρ := fun j ρ => ctx_apply q k j ρ
  unfold k0_pay3
  generalize k0_pay1 k0_pay122 q k = A at h ⊢
  pointwise
  rw [fold_max]
  simp only [h]

theorem c_apply (q : Vec Ideal S1x64x128 .f32) (k : Vec Ideal S1x256x128 .bf16) (j : Fin 256) (ρ : Fin 128) :
    k0_pay2 k0_pay122 q k (ix3 0 j ρ) = sco q k j ρ := by
  have h : ∀ j ρ, k0_pay1 k0_pay122 q k (ix2 j ρ) = sco q k j ρ := fun j ρ => ctx_apply q k j ρ
  unfold k0_pay2
  generalize k0_pay1 k0_pay122 q k = A at h ⊢
  pointwise
  exact h j ρ

/-- The pair row of query `r` in the head that column `l` belongs to. -/
def prow (r : Fin 64) (l : Fin 128) : Fin 128 := ⟨64 * (l.val / 64) + r.val, by omega⟩

theorem slt64 : ∀ l : Fin 128, IntOp.cmpi CmpIPredicate.slt (BitVec.ofNat 32 l.val) 64#32 = if l.val < 64 then 1#1 else 0#1 := by decide +kernel

/-- A block of context queries: the mean of the context values under the context scores. -/
theorem pairA_apply (q : Vec Ideal S1x64x128 .f32) (k v : Vec Ideal S1x256x128 .bf16) (r : Fin 64) (l : Fin 128) :
    pairA q k v (ix3 0 r l) = outK (fun j => sco q k j (prow r l)) fun j => v (ix3 0 j l) := by
  have hM := m_apply q k
  have hC := c_apply q k
  unfold pairA
  generalize k0_pay3 k0_pay122 q k = M at hM ⊢
  generalize k0_pay2 k0_pay122 q k = C at hC ⊢
  unfold k0_pay29
  pointwise
  simp only [hM, hC, slt64, select_ite]
  split
  · rw [show prow r l = (⟨r.val, by omega⟩ : Fin 128) from Fin.ext (by simp only [prow]; omega)]; rfl
  · rw [show prow r l = (⟨64 + r.val, by omega⟩ : Fin 128) from Fin.ext (by simp only [prow]; omega)]; rfl

/-- The score of a key of the window as the kernel adds it up. -/
def scoL (q : Vec Ideal S1x64x128 .f32) (b : Vec Ideal S1x1x512x128 .f32) (kl : Vec Ideal S1x512x128 .bf16) (j : Fin 512) (ρ : Fin 128) : EReal :=
  sco q kl j ρ + (if ColMask (j.val % 64) (ρ.val % 64) then (b (ix4 0 0 j ρ) : EReal) else ⊥) * ((SoftmaxMath.L : ℝ) : EReal)

/-- A block of latent queries: the mean of the context's and the window's values under their scores. -/
theorem pairB_apply (q : Vec Ideal S1x64x128 .f32) (k v : Vec Ideal S1x256x128 .bf16) (kl vl : Vec Ideal S1x512x128 .bf16)
    (b : Vec Ideal S1x1x512x128 .f32) (r : Fin 64) (l : Fin 128) :
    pairB q k v kl vl b (ix3 0 r l)
      = outK (Sum.elim (fun j => sco q k j (prow r l)) fun j => scoL q b kl j (prow r l))
          (Sum.elim (fun j => (v (ix3 0 j l) : EReal)) fun j => vl (ix3 0 j l)) := by
  have hc : ∀ j ρ, k0_pay51 k0_pay122 q k (ix2 j ρ) = sco q k j ρ := fun j ρ => ctx_apply q k j ρ
  have hl : ∀ j ρ, k0_pay54 k0_pay122 k0_pay123 q b kl (ix2 j ρ) = scoL q b kl j ρ := fun j ρ => loc_apply q b kl j ρ
  have hM : ∀ ρ, k0_pay56 (k0_pay53 k0_pay122 q k) (k0_pay54 k0_pay122 k0_pay123 q b kl) (ix3 0 0 ρ)
      = (Finset.univ.sup fun j => sco q k j ρ) ⊔ Finset.univ.sup fun j => scoL q b kl j ρ := by
    intro ρ
    unfold k0_pay56 k0_pay53
    generalize k0_pay51 k0_pay122 q k = A at hc ⊢
    generalize k0_pay54 k0_pay122 k0_pay123 q b kl = B at hl ⊢
    pointwise
    rw [fold_max, fold_max]
    simp only [hc, hl]
  have hC : ∀ j ρ, k0_pay52 k0_pay122 q k (ix3 0 j ρ) = sco q k j ρ := by
    intro j ρ
    unfold k0_pay52
    generalize k0_pay51 k0_pay122 q k = A at hc ⊢
    pointwise
    all_goals exact hc j ρ
  have hL : ∀ j ρ, k0_pay55 (k0_pay54 k0_pay122 k0_pay123 q b kl) (ix3 0 j ρ) = scoL q b kl j ρ := by
    intro j ρ
    generalize k0_pay54 k0_pay122 k0_pay123 q b kl = B at hl ⊢
    unfold k0_pay55
    pointwise
    all_goals exact hl j ρ
  unfold pairB
  generalize k0_pay56 (k0_pay53 k0_pay122 q k) (k0_pay54 k0_pay122 k0_pay123 q b kl) = M at hM ⊢
  generalize k0_pay52 k0_pay122 q k = C at hC ⊢
  generalize k0_pay55 (k0_pay54 k0_pay122 k0_pay123 q b kl) = C' at hL ⊢
  unfold k0_pay101 k0_pay100
  pointwise
  simp only [hM, hC, hL, slt64, select_ite]
  unfold outK
  rw [SoftmaxMath.sup_parts, SoftmaxMath.sum_parts, SoftmaxMath.sum_parts]
  simp only [Sum.elim_inl, Sum.elim_inr]
  split
  · rw [show prow r l = (⟨r.val, by omega⟩ : Fin 128) from Fin.ext (by simp only [prow]; omega)]; rfl
  · rw [show prow r l = (⟨64 + r.val, by omega⟩ : Fin 128) from Fin.ext (by simp only [prow]; omega)]; rfl

end Cert.KernelIdeal.Blocks
-- ==== Proof.Blocks.lean ====
/- What the kernel leaves in a block of its result, element by element, at a block of context queries and at a block of latent queries. -/
module

public import proofs.«01_k».proof.Proof.Gen.KernelIdeal.Frame
public import proofs.«01_k».proof.Proof.Pair
public import Idealize.ShloMosaic.Lib.Pipeline.ValueKit
public import Idealize.ShloMosaic.Lib.Pipeline.ReadBack

@[expose] public section

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The eight pieces of a block of context queries, one for each pair of heads. -/
def piecesA (X0 : Vec Ideal S1x64x1024 .f32) (X1 X2 : Vec Ideal S1x2304x1024 .bf16) : List (View.Piece (Elt Ideal) S1x64x1024 .bf16) :=
  [⟨(Rect.unit (s := S1x64x1024) ![0, 0, 896] ![1, 64, 128] inb_S1x64x1024_S1x64x128_0_0_896), pairA (View.ld X0 (Rect.unit (s := S1x64x1024) ![0, 0, 896] ![1, 64, 128] inb_S1x64x1024_S1x64x128_0_0_896)) (View.ld X1 (Rect.unit (s := S1x2304x1024) ![0, 0, 896] ![1, 256, 128] inb_S1x2304x1024_S1x256x128_0_0_896)) (View.ld X2 (Rect.unit (s := S1x2304x1024) ![0, 0, 896] ![1, 256, 128] inb_S1x2304x1024_S1x256x128_0_0_896))⟩,
   ⟨(Rect.unit (s := S1x64x1024) ![0, 0, 768] ![1, 64, 128] inb_S1x64x1024_S1x64x128_0_0_768), pairA (View.ld X0 (Rect.unit (s := S1x64x1024) ![0, 0, 768] ![1, 64, 128] inb_S1x64x1024_S1x64x128_0_0_768)) (View.ld X1 (Rect.unit (s := S1x2304x1024) ![0, 0, 768] ![1, 256, 128] inb_S1x2304x1024_S1x256x128_0_0_768)) (View.ld X2 (Rect.unit (s := S1x2304x1024) ![0, 0, 768] ![1, 256, 128] inb_S1x2304x1024_S1x256x128_0_0_768))⟩,
   ⟨(Rect.unit (s := S1x64x1024) ![0, 0, 640] ![1, 64, 128] inb_S1x64x1024_S1x64x128_0_0_640), pairA (View.ld X0 (Rect.unit (s := S1x64x1024) ![0, 0, 640] ![1, 64, 128] inb_S1x64x1024_S1x64x128_0_0_640)) (View.ld X1 (Rect.unit (s := S1x2304x1024) ![0, 0, 640] ![1, 256, 128] inb_S1x2304x1024_S1x256x128_0_0_640)) (View.ld X2 (Rect.unit (s := S1x2304x1024) ![0, 0, 640] ![1, 256, 128] inb_S1x2304x1024_S1x256x128_0_0_640))⟩,
   ⟨(Rect.unit (s := S1x64x1024) ![0, 0, 512] ![1, 64, 128] inb_S1x64x1024_S1x64x128_0_0_512), pairA (View.ld X0 (Rect.unit (s := S1x64x1024) ![0, 0, 512] ![1, 64, 128] inb_S1x64x1024_S1x64x128_0_0_512)) (View.ld X1 (Rect.unit (s := S1x2304x1024) ![0, 0, 512] ![1, 256, 128] inb_S1x2304x1024_S1x256x128_0_0_512)) (View.ld X2 (Rect.unit (s := S1x2304x1024) ![0, 0, 512] ![1, 256, 128] inb_S1x2304x1024_S1x256x128_0_0_512))⟩,
   ⟨(Rect.unit (s := S1x64x1024) ![0, 0, 384] ![1, 64, 128] inb_S1x64x1024_S1x64x128_0_0_384), pairA (View.ld X0 (Rect.unit (s := S1x64x1024) ![0, 0, 384] ![1, 64, 128] inb_S1x64x1024_S1x64x128_0_0_384)) (View.ld X1 (Rect.unit (s := S1x2304x1024) ![0, 0, 384] ![1, 256, 128] inb_S1x2304x1024_S1x256x128_0_0_384)) (View.ld X2 (Rect.unit (s := S1x2304x1024) ![0, 0, 384] ![1, 256, 128] inb_S1x2304x1024_S1x256x128_0_0_384))⟩,
   ⟨(Rect.unit (s := S1x64x1024) ![0, 0, 256] ![1, 64, 128] inb_S1x64x1024_S1x64x128_0_0_256), pairA (View.ld X0 (Rect.unit (s := S1x64x1024) ![0, 0, 256] ![1, 64, 128] inb_S1x64x1024_S1x64x128_0_0_256)) (View.ld X1 (Rect.unit (s := S1x2304x1024) ![0, 0, 256] ![1, 256, 128] inb_S1x2304x1024_S1x256x128_0_0_256)) (View.ld X2 (Rect.unit (s := S1x2304x1024) ![0, 0, 256] ![1, 256, 128] inb_S1x2304x1024_S1x256x128_0_0_256))⟩,
   ⟨(Rect.unit (s := S1x64x1024) ![0, 0, 128] ![1, 64, 128] inb_S1x64x1024_S1x64x128_0_0_128), pairA (View.ld X0 (Rect.unit (s := S1x64x1024) ![0, 0, 128] ![1, 64, 128] inb_S1x64x1024_S1x64x128_0_0_128)) (View.ld X1 (Rect.unit (s := S1x2304x1024) ![0, 0, 128] ![1, 256, 128] inb_S1x2304x1024_S1x256x128_0_0_128)) (View.ld X2 (Rect.unit (s := S1x2304x1024) ![0, 0, 128] ![1, 256, 128] inb_S1x2304x1024_S1x256x128_0_0_128))⟩,
   ⟨(Rect.unit (s := S1x64x1024) ![0, 0, 0] ![1, 64, 128] inb_S1x64x1024_S1x64x128_0_0_0), pairA (View.ld X0 (Rect.unit (s := S1x64x1024) ![0, 0, 0] ![1, 64, 128] inb_S1x64x1024_S1x64x128_0_0_0)) (View.ld X1 (Rect.unit (s := S1x2304x1024) ![0, 0, 0] ![1, 256, 128] inb_S1x2304x1024_S1x256x128_0_0_0)) (View.ld X2 (Rect.unit (s := S1x2304x1024) ![0, 0, 0] ![1, 256, 128] inb_S1x2304x1024_S1x256x128_0_0_0))⟩]

/-- The eight pieces of a block of latent queries. -/
def piecesB (i : grid0.Coords) (h : k0_cond2 i = 1#1) (X0 : Vec Ideal S1x64x1024 .f32) (X1 X2 : Vec Ideal S1x2304x1024 .bf16)
    (X3 : Vec Ideal S1x8x512x128 .f32) : List (View.Piece (Elt Ideal) S1x64x1024 .bf16) :=
  [⟨(Rect.unit (s := S1x64x1024) ![0, 0, 896] ![1, 64, 128] inb_S1x64x1024_S1x64x128_0_0_896), pairB (View.ld X0 (Rect.unit (s := S1x64x1024) ![0, 0, 896] ![1, 64, 128] inb_S1x64x1024_S1x64x128_0_0_896)) (View.ld X1 (Rect.unit (s := S1x2304x1024) ![0, 0, 896] ![1, 256, 128] inb_S1x2304x1024_S1x256x128_0_0_896)) (View.ld X2 (Rect.unit (s := S1x2304x1024) ![0, 0, 896] ![1, 256, 128] inb_S1x2304x1024_S1x256x128_0_0_896)) (View.ld X1 (Rect.unit (s := S1x2304x1024) (k0_off8 i) ![1, 512, 128] (k0_off8_inb i h))) (View.ld X2 (Rect.unit (s := S1x2304x1024) (k0_off8 i) ![1, 512, 128] (k0_off8_inb i h))) (View.ld X3 (Rect.unit (s := S1x8x512x128) ![0, 7, 0, 0] ![1, 1, 512, 128] inb_S1x8x512x128_S1x1x512x128_0_7_0_0))⟩,
   ⟨(Rect.unit (s := S1x64x1024) ![0, 0, 768] ![1, 64, 128] inb_S1x64x1024_S1x64x128_0_0_768), pairB (View.ld X0 (Rect.unit (s := S1x64x1024) ![0, 0, 768] ![1, 64, 128] inb_S1x64x1024_S1x64x128_0_0_768)) (View.ld X1 (Rect.unit (s := S1x2304x1024) ![0, 0, 768] ![1, 256, 128] inb_S1x2304x1024_S1x256x128_0_0_768)) (View.ld X2 (Rect.unit (s := S1x2304x1024) ![0, 0, 768] ![1, 256, 128] inb_S1x2304x1024_S1x256x128_0_0_768)) (View.ld X1 (Rect.unit (s := S1x2304x1024) (k0_off7 i) ![1, 512, 128] (k0_off7_inb i h))) (View.ld X2 (Rect.unit (s := S1x2304x1024) (k0_off7 i) ![1, 512, 128] (k0_off7_inb i h))) (View.ld X3 (Rect.unit (s := S1x8x512x128) ![0, 6, 0, 0] ![1, 1, 512, 128] inb_S1x8x512x128_S1x1x512x128_0_6_0_0))⟩,
   ⟨(Rect.unit (s := S1x64x1024) ![0, 0, 640] ![1, 64, 128] inb_S1x64x1024_S1x64x128_0_0_640), pairB (View.ld X0 (Rect.unit (s := S1x64x1024) ![0, 0, 640] ![1, 64, 128] inb_S1x64x1024_S1x64x128_0_0_640)) (View.ld X1 (Rect.unit (s := S1x2304x1024) ![0, 0, 640] ![1, 256, 128] inb_S1x2304x1024_S1x256x128_0_0_640)) (View.ld X2 (Rect.unit (s := S1x2304x1024) ![0, 0, 640] ![1, 256, 128] inb_S1x2304x1024_S1x256x128_0_0_640)) (View.ld X1 (Rect.unit (s := S1x2304x1024) (k0_off6 i) ![1, 512, 128] (k0_off6_inb i h))) (View.ld X2 (Rect.unit (s := S1x2304x1024) (k0_off6 i) ![1, 512, 128] (k0_off6_inb i h))) (View.ld X3 (Rect.unit (s := S1x8x512x128) ![0, 5, 0, 0] ![1, 1, 512, 128] inb_S1x8x512x128_S1x1x512x128_0_5_0_0))⟩,
   ⟨(Rect.unit (s := S1x64x1024) ![0, 0, 512] ![1, 64, 128] inb_S1x64x1024_S1x64x128_0_0_512), pairB (View.ld X0 (Rect.unit (s := S1x64x1024) ![0, 0, 512] ![1, 64, 128] inb_S1x64x1024_S1x64x128_0_0_512)) (View.ld X1 (Rect.unit (s := S1x2304x1024) ![0, 0, 512] ![1, 256, 128] inb_S1x2304x1024_S1x256x128_0_0_512)) (View.ld X2 (Rect.unit (s := S1x2304x1024) ![0, 0, 512] ![1, 256, 128] inb_S1x2304x1024_S1x256x128_0_0_512)) (View.ld X1 (Rect.unit (s := S1x2304x1024) (k0_off5 i) ![1, 512, 128] (k0_off5_inb i h))) (View.ld X2 (Rect.unit (s := S1x2304x1024) (k0_off5 i) ![1, 512, 128] (k0_off5_inb i h))) (View.ld X3 (Rect.unit (s := S1x8x512x128) ![0, 4, 0, 0] ![1, 1, 512, 128] inb_S1x8x512x128_S1x1x512x128_0_4_0_0))⟩,
   ⟨(Rect.unit (s := S1x64x1024) ![0, 0, 384] ![1, 64, 128] inb_S1x64x1024_S1x64x128_0_0_384), pairB (View.ld X0 (Rect.unit (s := S1x64x1024) ![0, 0, 384] ![1, 64, 128] inb_S1x64x1024_S1x64x128_0_0_384)) (View.ld X1 (Rect.unit (s := S1x2304x1024) ![0, 0, 384] ![1, 256, 128] inb_S1x2304x1024_S1x256x128_0_0_384)) (View.ld X2 (Rect.unit (s := S1x2304x1024) ![0, 0, 384] ![1, 256, 128] inb_S1x2304x1024_S1x256x128_0_0_384)) (View.ld X1 (Rect.unit (s := S1x2304x1024) (k0_off4 i) ![1, 512, 128] (k0_off4_inb i h))) (View.ld X2 (Rect.unit (s := S1x2304x1024) (k0_off4 i) ![1, 512, 128] (k0_off4_inb i h))) (View.ld X3 (Rect.unit (s := S1x8x512x128) ![0, 3, 0, 0] ![1, 1, 512, 128] inb_S1x8x512x128_S1x1x512x128_0_3_0_0))⟩,
   ⟨(Rect.unit (s := S1x64x1024) ![0, 0, 256] ![1, 64, 128] inb_S1x64x1024_S1x64x128_0_0_256), pairB (View.ld X0 (Rect.unit (s := S1x64x1024) ![0, 0, 256] ![1, 64, 128] inb_S1x64x1024_S1x64x128_0_0_256)) (View.ld X1 (Rect.unit (s := S1x2304x1024) ![0, 0, 256] ![1, 256, 128] inb_S1x2304x1024_S1x256x128_0_0_256)) (View.ld X2 (Rect.unit (s := S1x2304x1024) ![0, 0, 256] ![1, 256, 128] inb_S1x2304x1024_S1x256x128_0_0_256)) (View.ld X1 (Rect.unit (s := S1x2304x1024) (k0_off3 i) ![1, 512, 128] (k0_off3_inb i h))) (View.ld X2 (Rect.unit (s := S1x2304x1024) (k0_off3 i) ![1, 512, 128] (k0_off3_inb i h))) (View.ld X3 (Rect.unit (s := S1x8x512x128) ![0, 2, 0, 0] ![1, 1, 512, 128] inb_S1x8x512x128_S1x1x512x128_0_2_0_0))⟩,
   ⟨(Rect.unit (s := S1x64x1024) ![0, 0, 128] ![1, 64, 128] inb_S1x64x1024_S1x64x128_0_0_128), pairB (View.ld X0 (Rect.unit (s := S1x64x1024) ![0, 0, 128] ![1, 64, 128] inb_S1x64x1024_S1x64x128_0_0_128)) (View.ld X1 (Rect.unit (s := S1x2304x1024) ![0, 0, 128] ![1, 256, 128] inb_S1x2304x1024_S1x256x128_0_0_128)) (View.ld X2 (Rect.unit (s := S1x2304x1024) ![0, 0, 128] ![1, 256, 128] inb_S1x2304x1024_S1x256x128_0_0_128)) (View.ld X1 (Rect.unit (s := S1x2304x1024) (k0_off2 i) ![1, 512, 128] (k0_off2_inb i h))) (View.ld X2 (Rect.unit (s := S1x2304x1024) (k0_off2 i) ![1, 512, 128] (k0_off2_inb i h))) (View.ld X3 (Rect.unit (s := S1x8x512x128) ![0, 1, 0, 0] ![1, 1, 512, 128] inb_S1x8x512x128_S1x1x512x128_0_1_0_0))⟩,
   ⟨(Rect.unit (s := S1x64x1024) ![0, 0, 0] ![1, 64, 128] inb_S1x64x1024_S1x64x128_0_0_0), pairB (View.ld X0 (Rect.unit (s := S1x64x1024) ![0, 0, 0] ![1, 64, 128] inb_S1x64x1024_S1x64x128_0_0_0)) (View.ld X1 (Rect.unit (s := S1x2304x1024) ![0, 0, 0] ![1, 256, 128] inb_S1x2304x1024_S1x256x128_0_0_0)) (View.ld X2 (Rect.unit (s := S1x2304x1024) ![0, 0, 0] ![1, 256, 128] inb_S1x2304x1024_S1x256x128_0_0_0)) (View.ld X1 (Rect.unit (s := S1x2304x1024) (k0_off1 i) ![1, 512, 128] (k0_off1_inb i h))) (View.ld X2 (Rect.unit (s := S1x2304x1024) (k0_off1 i) ![1, 512, 128] (k0_off1_inb i h))) (View.ld X3 (Rect.unit (s := S1x8x512x128) ![0, 0, 0, 0] ![1, 1, 512, 128] inb_S1x8x512x128_S1x1x512x128_0_0_0_0))⟩]

set_option maxHeartbeats 1000000 in
/-- A block of context queries is left as those pieces. -/
theorem afterA (c : Dev nD) (t : Fin cfg0.N) (h0 : t.val % 36 ≤ 3) (h1 : ¬4 ≤ t.val % 36) :
    (dats m 0 c).after 4 t = View.canon (piecesA (iblk m c 0 t) (iblk m c 1 t) (iblk m c 2 t)) := by
  rw [after0_4, Gen.outsAt0_A m c t h0 h1]
  generalize iblk m c 0 t = X0
  generalize iblk m c 1 t = X1
  generalize iblk m c 2 t = X2
  frame_open
  simp (disch := decide) only [↓ View.readCov_skip, ↓ View.readCov_cons_toLoadRect, ↓ View.readCov_fill]
  frame_out
  have e := (hs0_2 t).read_unread (Val := Elt Ideal) X2
  conv_rhs => rw [← e]
  unfold piecesA
  refine congrArg View.canon ?_
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))))))
  all_goals
    dsimp only [pairA, k0_pay29]
    iterate 13 (all_goals first | with_reducible rfl | congr 1 | skip)
    all_goals first | rfl | exact e.symm

/-- A block of latent queries is left as those pieces. -/
theorem afterB (c : Dev nD) (t : Fin cfg0.N) (h0 : ¬t.val % 36 ≤ 3) (h1 : 4 ≤ t.val % 36) :
    (dats m 0 c).after 4 t
      = View.canon (piecesB (grid0.coords t) ((hcond0_1 t).mpr h1) (iblk m c 0 t) (iblk m c 1 t) (iblk m c 2 t) (iblk m c 3 t)) := by
  rw [after0_4, Gen.outsAt0_B m c t h0 h1]
  generalize iblk m c 0 t = X0
  generalize iblk m c 1 t = X1
  generalize iblk m c 2 t = X2
  generalize iblk m c 3 t = X3
  frame_open
  simp (disch := decide) only [↓ View.readCov_skip, ↓ View.readCov_cons_toLoadRect, ↓ View.readCov_fill]
  frame_out
  have e := (hs0_2 t).read_unread (Val := Elt Ideal) X2
  conv_rhs => rw [← e]
  rfl

end Cert.KernelIdeal.Blocks
-- ==== Proof.Tiles.lean ====
/- The pieces of a block put together: each element of a block of the result from the blocks of the queries, keys, values and bias. -/
module

public import proofs.«01_k».proof.Proof.Blocks
public import Idealize.ShloMosaic.Lib.Pipeline.ValueKit

@[expose] public section

set_option maxRecDepth 16384

noncomputable section

namespace Cert.KernelIdeal.Blocks

open Cert.KernelIdeal Cert.KernelIdeal.Gen Idealize.ShloMosaic Idealize.ShloMosaic.TcCoe Idealize.SL.Sem

/-- Column `d` of the head that the column `c` belongs to. -/
def col (c : Fin 1024) (d : Fin 64) : Fin 1024 := ⟨64 * (c.val / 64) + d.val, by omega⟩

/-- The first row of the block's window among the keys: the context, then the window's rows of 64. -/
def base (a : ℕ) : ℕ := 256 + 64 * min 24 (a - 8)

theorem base_lt (a : Fin 36) (j : Fin 512) : base a.val + j.val < 2304 := by unfold base; omega

/-- An element of a block of context queries. -/
def GA (X0 : Vec Ideal S1x64x1024 .f32) (X1 X2 : Vec Ideal S1x2304x1024 .bf16) : S1x64x1024.Idx → EReal := fun y =>
  outK (fun j : Fin 256 => headDot (fun d => X1 (ix3 0 ⟨j.val, by omega⟩ (col (y 2) d))) fun d => X0 (ix3 0 (y 1) (col (y 2) d)))
    fun j => X2 (ix3 0 ⟨j.val, by omega⟩ (y 2))

/-- An element of a block of latent queries; `a` is the block's place among the blocks of its batch. -/
def GB (a : Fin 36) (X0 : Vec Ideal S1x64x1024 .f32) (X1 X2 : Vec Ideal S1x2304x1024 .bf16) (X3 : Vec Ideal S1x8x512x128 .f32) :
    S1x64x1024.Idx → EReal := fun y =>
  outK (Sum.elim
      (fun j : Fin 256 => headDot (fun d => X1 (ix3 0 ⟨j.val, by omega⟩ (col (y 2) d))) fun d => X0 (ix3 0 (y 1) (col (y 2) d)))
      fun j : Fin 512 => headDot (fun d => X1 (ix3 0 ⟨base a.val + j.val, base_lt a j⟩ (col (y 2) d))) (fun d => X0 (ix3 0 (y 1) (col (y 2) d)))
        + (if ColMask (j.val % 64) (y 1).val then (X3 (ix4 0 ⟨(y 2).val / 128, by have : (y 2).val < 1024 := (y 2).isLt; omega⟩ j
            ⟨64 * ((y 2).val / 64 % 2) + (y 1).val, by have : (y 1).val < 64 := (y 1).isLt; omega⟩) : EReal) else ⊥) * ((SoftmaxMath.L : ℝ) : EReal))
    (Sum.elim (fun j : Fin 256 => (X2 (ix3 0 ⟨j.val, by omega⟩ (y 2)) : EReal)) fun j : Fin 512 => X2 (ix3 0 ⟨base a.val + j.val, base_lt a j⟩ (y 2)))

/-- One pair's piece agrees with the block's element (context queries). -/
theorem pieceA (X0 : Vec Ideal S1x64x1024 .f32) (X1 X2 : Vec Ideal S1x2304x1024 .bf16) (o : ℕ) (ho : o % 128 = 0)
    (hq : ∀ a, (![0, 0, o] : Fin 3 → Nat) a + (![1, 64, 128] : Fin 3 → Nat) a ≤ S1x64x1024.size a)
    (hk : ∀ a, (![0, 0, o] : Fin 3 → Nat) a + (![1, 256, 128] : Fin 3 → Nat) a ≤ S1x2304x1024.size a)
    (x : (Rect.unit (s := S1x64x1024) ![0, 0, o] ![1, 64, 128] hq).shape.Idx) :
    pairA (View.ld X0 (Rect.unit (s := S1x64x1024) ![0, 0, o] ![1, 64, 128] hq)) (View.ld X1 (Rect.unit (s := S1x2304x1024) ![0, 0, o] ![1, 256, 128] hk))
      (View.ld X2 (Rect.unit (s := S1x2304x1024) ![0, 0, o] ![1, 256, 128] hk)) x
      = GA X0 X1 X2 ((Rect.unit (s := S1x64x1024) ![0, 0, o] ![1, 64, 128] hq).emb x) := by
  have ho' : o + 128 ≤ 1024 := hq 2
  obtain ⟨r, l, rfl⟩ : ∃ (r : Fin 64) (l : Fin 128), x = ix3 0 r l := ⟨x 1, x 2,
    (eq_ix3 x).trans (congrArg (fun z : Fin 1 => ix3 z (x 1 : Fin 64) (x 2 : Fin 128)) (Subsingleton.elim (α := Fin 1) _ _))⟩
  refine (pairA_apply _ _ _ r l).trans ?_
  have e : (Rect.unit (s := S1x64x1024) ![0, 0, o] ![1, 64, 128] hq).emb (ix3 0 r l) = ix3 0 r ⟨o + l.val, by omega⟩ := by
    funext a; apply Fin.ext; rw [ValueKit.rect_emb_unit_val]; fin_cases a <;> simp <;> rfl
  rw [e]
  unfold GA sco
  refine congrArg₂ outK (funext fun j => ?_) (funext fun j => ?_)
  · refine congrArg₂ headDot (funext fun d => ?_) (funext fun d => ?_)
    · refine View.ld_unit_apply_of _ _ _ _ _ _ fun a => ?_
      fin_cases a <;> simp [ix3, hcol, col, prow] <;> omega
    · refine View.ld_unit_apply_of _ _ _ _ _ _ fun a => ?_
      fin_cases a <;> simp [ix3, hcol, col, prow] <;> omega
  · refine View.ld_unit_apply_of _ _ _ _ _ _ fun a => ?_
    fin_cases a <;> simp [ix3, hcol, col, prow]

theorem pieceB (a : Fin 36) (X0 : Vec Ideal S1x64x1024 .f32) (X1 X2 : Vec Ideal S1x2304x1024 .bf16) (X3 : Vec Ideal S1x8x512x128 .f32) (p : ℕ) (hp : p < 8)
    (o : ℕ) (ho : o = 128 * p) (off : Fin 3 → ℕ) (hoff : off = ![0, base a.val, o])
    (hq : ∀ a, (![0, 0, o] : Fin 3 → Nat) a + (![1, 64, 128] : Fin 3 → Nat) a ≤ S1x64x1024.size a)
    (hk : ∀ a, (![0, 0, o] : Fin 3 → Nat) a + (![1, 256, 128] : Fin 3 → Nat) a ≤ S1x2304x1024.size a)
    (hl : ∀ a, off a + (![1, 512, 128] : Fin 3 → Nat) a ≤ S1x2304x1024.size a)
    (hb : ∀ a, (![0, p, 0, 0] : Fin 4 → Nat) a + (![1, 1, 512, 128] : Fin 4 → Nat) a ≤ S1x8x512x128.size a)
    (x : (Rect.unit (s := S1x64x1024) ![0, 0, o] ![1, 64, 128] hq).shape.Idx) :
    pairB (View.ld X0 (Rect.unit (s := S1x64x1024) ![0, 0, o] ![1, 64, 128] hq)) (View.ld X1 (Rect.unit (s := S1x2304x1024) ![0, 0, o] ![1, 256, 128] hk))
      (View.ld X2 (Rect.unit (s := S1x2304x1024) ![0, 0, o] ![1, 256, 128] hk)) (View.ld X1 (Rect.unit (s := S1x2304x1024) off ![1, 512, 128] hl))
      (View.ld X2 (Rect.unit (s := S1x2304x1024) off ![1, 512, 128] hl)) (View.ld X3 (Rect.unit (s := S1x8x512x128) ![0, p, 0, 0] ![1, 1, 512, 128] hb)) x
      = GB a X0 X1 X2 X3 ((Rect.unit (s := S1x64x1024) ![0, 0, o] ![1, 64, 128] hq).emb x) := by
  subst hoff ho
  obtain ⟨r, l, rfl⟩ : ∃ (r : Fin 64) (l : Fin 128), x = ix3 0 r l := ⟨x 1, x 2,
    (eq_ix3 x).trans (congrArg (fun z : Fin 1 => ix3 z (x 1 : Fin 64) (x 2 : Fin 128)) (Subsingleton.elim (α := Fin 1) _ _))⟩
  refine (pairB_apply _ _ _ _ _ _ r l).trans ?_
  have e : (Rect.unit (s := S1x64x1024) ![0, 0, 128 * p] ![1, 64, 128] hq).emb (ix3 0 r l) = ix3 0 r ⟨128 * p + l.val, by omega⟩ := by
    funext a; apply Fin.ext; rw [ValueKit.rect_emb_unit_val]; fin_cases a <;> simp <;> rfl
  rw [e]
  have hr : (prow r l).val % 64 = r.val := by simp only [prow]; omega
  unfold GB scoL sco
  refine congrArg₂ outK (funext fun j => ?_) (funext fun j => ?_)
  · rcases j with j | j
    · simp only [Sum.elim_inl]
      refine congrArg₂ headDot (funext fun d => ?_) (funext fun d => ?_)
      · refine View.ld_unit_apply_of _ _ _ _ _ _ fun a => ?_
        fin_cases a <;> simp [ix3, hcol, col, prow] <;> omega
      · refine View.ld_unit_apply_of _ _ _ _ _ _ fun a => ?_
        fin_cases a <;> simp [ix3, hcol, col, prow] <;> omega
    · simp only [Sum.elim_inr]
      refine congrArg₂ (fun a b : EReal => a + b) ?_ ?_
      · refine congrArg₂ headDot (funext fun d => ?_) (funext fun d => ?_)
        · refine View.ld_unit_apply_of _ _ _ _ _ _ fun a => ?_
          fin_cases a <;> simp [ix3, hcol, col, prow] <;> omega
        · refine View.ld_unit_apply_of _ _ _ _ _ _ fun a => ?_
          fin_cases a <;> simp [ix3, hcol, col, prow] <;> omega
      · refine congrArg (fun z : EReal => z * ((SoftmaxMath.L : ℝ) : EReal)) (if_congr ?_ ?_ rfl)
        · rw [hr]; rfl
        · refine View.ld_unit_apply_of _ _ _ _ _ _ fun a => ?_
          fin_cases a <;> simp [ix3, ix4, hcol, col, prow] <;> omega
  · rcases j with j | j
    · simp only [Sum.elim_inl]
      refine View.ld_unit_apply_of _ _ _ _ _ _ fun a => ?_
      fin_cases a <;> simp [ix3, hcol, col, prow]
    · simp only [Sum.elim_inr]
      refine View.ld_unit_apply_of _ _ _ _ _ _ fun a => ?_
      fin_cases a <;> simp [ix3, hcol, col, prow]

theorem off_lit (i : grid0.Coords) :
    k0_off1 i = ![0, base (i 1).val, 0] ∧ k0_off2 i = ![0, base (i 1).val, 128] ∧ k0_off3 i = ![0, base (i 1).val, 256] ∧ k0_off4 i = ![0, base (i 1).val, 384]
    ∧ k0_off5 i = ![0, base (i 1).val, 512] ∧ k0_off6 i = ![0, base (i 1).val, 640] ∧ k0_off7 i = ![0, base (i 1).val, 768] ∧ k0_off8 i = ![0, base (i 1).val, 896] := by
  have h : ∀ a : Fin 36, (Scalar.indexCast (Scalar.addi 256#32 (Scalar.muli (Scalar.minsi 24#32 (Scalar.maxsi 0#32 (Scalar.subi (Scalar.subi (BitVec.ofNat 32 a.val) 4#32) 4#32))) 64#32))).toNat
      = base a.val := by decide +kernel
  have h1 := h (i 1)
  refine ⟨?_, ?_, ?_, ?_, ?_, ?_, ?_, ?_⟩ <;> (rw [← h1]; rfl)

/-- The columns that a piece takes. -/
theorem mem_piece (o : ℕ) (hq : ∀ a, (![0, 0, o] : Fin 3 → Nat) a + (![1, 64, 128] : Fin 3 → Nat) a ≤ S1x64x1024.size a) (y : S1x64x1024.Idx)
    (h : o ≤ (y 2).val) (h' : (y 2).val < o + 128) : y ∈ (Rect.unit (s := S1x64x1024) ![0, 0, o] ![1, 64, 128] hq).set := by
  have h1 : (y 1).val < 64 := (y 1).isLt
  have h0 : (y 0).val < 1 := (y 0).isLt
  refine Rect.mem_set_unit.mpr fun a => ?_
  fin_cases a
  · exact ⟨Nat.zero_le _, by simpa using h0⟩
  · exact ⟨Nat.zero_le _, by simpa using h1⟩
  · exact ⟨h, h'⟩

/-- An element of a block of context queries, of the pieces. -/
theorem canonA (X0 : Vec Ideal S1x64x1024 .f32) (X1 X2 : Vec Ideal S1x2304x1024 .bf16) (y : S1x64x1024.Idx) :
    View.canon (piecesA X0 X1 X2) y = GA X0 X1 X2 y := by
  refine View.canon_apply_of_pieces (Val := Elt Ideal) (e := .bf16) (GA X0 X1 X2) _ ?_ y ?_
  · unfold piecesA
    simp only [List.forall_mem_cons]
    refine ⟨?_, ?_, ?_, ?_, ?_, ?_, ?_, ?_, fun _ h => absurd h List.not_mem_nil⟩
    all_goals exact fun x => pieceA X0 X1 X2 _ (by norm_num) _ _ x
  · have h2 : (y 2).val < 1024 := (y 2).isLt
    rcases (by omega : (0 ≤ (y 2).val ∧ (y 2).val < 128) ∨ (128 ≤ (y 2).val ∧ (y 2).val < 256) ∨ (256 ≤ (y 2).val ∧ (y 2).val < 384) ∨ (384 ≤ (y 2).val ∧ (y 2).val < 512) ∨ (512 ≤ (y 2).val ∧ (y 2).val < 640) ∨ (640 ≤ (y 2).val ∧ (y 2).val < 768) ∨ (768 ≤ (y 2).val ∧ (y 2).val < 896) ∨ (896 ≤ (y 2).val ∧ (y 2).val < 1024)) with h | h | h | h | h | h | h | h
    · exact ⟨_, .tail _ (.tail _ (.tail _ (.tail _ (.tail _ (.tail _ (.tail _ (.head _))))))), mem_piece 0 inb_S1x64x1024_S1x64x128_0_0_0 y h.1 h.2⟩
    · exact ⟨_, .tail _ (.tail _ (.tail _ (.tail _ (.tail _ (.tail _ (.head _)))))), mem_piece 128 inb_S1x64x1024_S1x64x128_0_0_128 y h.1 h.2⟩
    · exact ⟨_, .tail _ (.tail _ (.tail _ (.tail _ (.tail _ (.head _))))), mem_piece 256 inb_S1x64x1024_S1x64x128_0_0_256 y h.1 h.2⟩
    · exact ⟨_, .tail _ (.tail _ (.tail _ (.tail _ (.head _)))), mem_piece 384 inb_S1x64x1024_S1x64x128_0_0_384 y h.1 h.2⟩
    · exact ⟨_, .tail _ (.tail _ (.tail _ (.head _))), mem_piece 512 inb_S1x64x1024_S1x64x128_0_0_512 y h.1 h.2⟩
    · exact ⟨_, .tail _ (.tail _ (.head _)), mem_piece 640 inb_S1x64x1024_S1x64x128_0_0_640 y h.1 h.2⟩
    · exact ⟨_, .tail _ (.head _), mem_piece 768 inb_S1x64x1024_S1x64x128_0_0_768 y h.1 h.2⟩
    · exact ⟨_, .head _, mem_piece 896 inb_S1x64x1024_S1x64x128_0_0_896 y h.1 h.2⟩

/-- An element of a block of latent queries, of the pieces. -/
theorem canonB (i : grid0.Coords) (h : k0_cond2 i = 1#1) (X0 : Vec Ideal S1x64x1024 .f32) (X1 X2 : Vec Ideal S1x2304x1024 .bf16)
    (X3 : Vec Ideal S1x8x512x128 .f32) (y : S1x64x1024.Idx) :
    View.canon (piecesB i h X0 X1 X2 X3) y = GB (i 1) X0 X1 X2 X3 y := by
  obtain ⟨o1, o2, o3, o4, o5, o6, o7, o8⟩ := off_lit i
  refine View.canon_apply_of_pieces (Val := Elt Ideal) (e := .bf16) (GB (i 1) X0 X1 X2 X3) _ ?_ y ?_
  · unfold piecesB
    simp only [List.forall_mem_cons]
    refine ⟨?_, ?_, ?_, ?_, ?_, ?_, ?_, ?_, fun _ h => absurd h List.not_mem_nil⟩
    · exact fun x => pieceB (i 1) X0 X1 X2 X3 7 (by norm_num) 896 (by norm_num) _ o8 _ _ _ _ x
    · exact fun x => pieceB (i 1) X0 X1 X2 X3 6 (by norm_num) 768 (by norm_num) _ o7 _ _ _ _ x
    · exact fun x => pieceB (i 1) X0 X1 X2 X3 5 (by norm_num) 640 (by norm_num) _ o6 _ _ _ _ x
    · exact fun x => pieceB (i 1) X0 X1 X2 X3 4 (by norm_num) 512 (by norm_num) _ o5 _ _ _ _ x
    · exact fun x => pieceB (i 1) X0 X1 X2 X3 3 (by norm_num) 384 (by norm_num) _ o4 _ _ _ _ x
    · exact fun x => pieceB (i 1) X0 X1 X2 X3 2 (by norm_num) 256 (by norm_num) _ o3 _ _ _ _ x
    · exact fun x => pieceB (i 1) X0 X1 X2 X3 1 (by norm_num) 128 (by norm_num) _ o2 _ _ _ _ x
    · exact fun x => pieceB (i 1) X0 X1 X2 X3 0 (by norm_num) 0 (by norm_num) _ o1 _ _ _ _ x
  · have h2 : (y 2).val < 1024 := (y 2).isLt
    rcases (by omega : (0 ≤ (y 2).val ∧ (y 2).val < 128) ∨ (128 ≤ (y 2).val ∧ (y 2).val < 256) ∨ (256 ≤ (y 2).val ∧ (y 2).val < 384) ∨ (384 ≤ (y 2).val ∧ (y 2).val < 512) ∨ (512 ≤ (y 2).val ∧ (y 2).val < 640) ∨ (640 ≤ (y 2).val ∧ (y 2).val < 768) ∨ (768 ≤ (y 2).val ∧ (y 2).val < 896) ∨ (896 ≤ (y 2).val ∧ (y 2).val < 1024)) with h | h | h | h | h | h | h | h
    · exact ⟨_, .tail _ (.tail _ (.tail _ (.tail _ (.tail _ (.tail _ (.tail _ (.head _))))))), mem_piece 0 inb_S1x64x1024_S1x64x128_0_0_0 y h.1 h.2⟩
    · exact ⟨_, .tail _ (.tail _ (.tail _ (.tail _ (.tail _ (.tail _ (.head _)))))), mem_piece 128 inb_S1x64x1024_S1x64x128_0_0_128 y h.1 h.2⟩
    · exact ⟨_, .tail _ (.tail _ (.tail _ (.tail _ (.tail _ (.head _))))), mem_piece 256 inb_S1x64x1024_S1x64x128_0_0_256 y h.1 h.2⟩
    · exact ⟨_, .tail _ (.tail _ (.tail _ (.tail _ (.head _)))), mem_piece 384 inb_S1x64x1024_S1x64x128_0_0_384 y h.1 h.2⟩
    · exact ⟨_, .tail _ (.tail _ (.tail _ (.head _))), mem_piece 512 inb_S1x64x1024_S1x64x128_0_0_512 y h.1 h.2⟩
    · exact ⟨_, .tail _ (.tail _ (.head _)), mem_piece 640 inb_S1x64x1024_S1x64x128_0_0_640 y h.1 h.2⟩
    · exact ⟨_, .tail _ (.head _), mem_piece 768 inb_S1x64x1024_S1x64x128_0_0_768 y h.1 h.2⟩
    · exact ⟨_, .head _, mem_piece 896 inb_S1x64x1024_S1x64x128_0_0_896 y h.1 h.2⟩

end Cert.KernelIdeal.Blocks
-- ==== Proof.RefRead.lean ====
/- The reference's stages read at an index. -/
module

public import proofs.«01_k».proof.Proof.RefGather
public import proofs.«01_k».proof.Proof.Tiles
public import Idealize.ShloMosaic.Lib.Pointwise

@[expose] public section

set_option maxRecDepth 16384

noncomputable section

namespace Cert.ReferenceIdeal.At

open Cert.ReferenceIdeal Cert.ReferenceIdeal.Read Idealize.ShloMosaic

/-- Column `d` of head `h`. -/
def hc (h : Fin 16) (d : Fin 64) : Fin 1024 := ⟨h.val * 64 + d.val, by omega⟩

/-- Row of the latent token in column `q` of row `r` of the grid. -/
def lat (r : Fin 32) (q : Fin 64) : Fin 2304 := ⟨256 + (r.val * 64 + q.val), by omega⟩

/-- Row of a context token. -/
def ctx (j : Fin 256) : Fin 2304 := ⟨j.val, by omega⟩

/-- First row of the window of row `r`. -/
def first (r : Fin 32) : ℕ := min 24 (r.val - 4)

variable (x0 x1 x2 : FVec Ideal S32x2304x1024 .f32) (x3 : FVec Ideal S16x15x31 .f32)

theorem v4 (b : Fin 32) (h : Fin 16) (q : Fin 256) (d : Fin 64) :
    val_main_v4 (F := Ideal) x0 (ix4 b h q d) = x0 (ix3 b (ctx q) (hc h d)) * Ideal.ofBits .f32 0x3E000000#32 := by
  unfold val_main_v4 val_main_v3 val_main_cst val_main_v2 val_main_v1 val_main_v0 ctx hc
  pointwise

theorem v7 (b : Fin 32) (h : Fin 16) (j : Fin 256) (d : Fin 64) :
    val_main_v7 (F := Ideal) x1 (ix4 b h j d) = x1 (ix3 b (ctx j) (hc h d)) := by
  unfold val_main_v7 val_main_v6 val_main_v5 ctx hc
  pointwise

theorem v10 (b : Fin 32) (h : Fin 16) (j : Fin 256) (d : Fin 64) :
    val_main_v10 (F := Ideal) x2 (ix4 b h j d) = x2 (ix3 b (ctx j) (hc h d)) := by
  unfold val_main_v10 val_main_v9 val_main_v8 ctx hc
  pointwise

theorem v22 (b : Fin 32) (h : Fin 16) (r : Fin 32) (q d : Fin 64) :
    val_main_v22 (F := Ideal) x0 (ix5 b h r q d) = x0 (ix3 b (lat r q) (hc h d)) * Ideal.ofBits .f32 0x3E000000#32 := by
  unfold val_main_v22 val_main_v15 val_main_v14 val_main_cst_0 val_main_v13 val_main_v12 val_main_v11 lat hc
  pointwise

theorem v23 (b : Fin 32) (h : Fin 16) (r : Fin 32) (q d : Fin 64) :
    val_main_v23 (F := Ideal) x1 (ix5 b h r q d) = x1 (ix3 b (lat r q) (hc h d)) := by
  unfold val_main_v23 val_main_v18 val_main_v17 val_main_v16 lat hc
  pointwise

theorem v24 (b : Fin 32) (h : Fin 16) (r : Fin 32) (q d : Fin 64) :
    val_main_v24 (F := Ideal) x2 (ix5 b h r q d) = x2 (ix3 b (lat r q) (hc h d)) := by
  unfold val_main_v24 val_main_v21 val_main_v20 val_main_v19 lat hc
  pointwise

theorem row (r : Fin 32) (kr : Fin 8) :
    Scalar.select (IntOp.cmpi .slt (IntOp.addi (IntOp.minsi 24#32 (IntOp.maxsi 0#32 (IntOp.subi (BitVec.ofNat 32 r.val) 4#32))) (BitVec.ofNat 32 kr.val)) 0#32)
      (IntOp.addi (IntOp.addi (IntOp.minsi 24#32 (IntOp.maxsi 0#32 (IntOp.subi (BitVec.ofNat 32 r.val) 4#32))) (BitVec.ofNat 32 kr.val)) 32#32)
      (IntOp.addi (IntOp.minsi 24#32 (IntOp.maxsi 0#32 (IntOp.subi (BitVec.ofNat 32 r.val) 4#32))) (BitVec.ofNat 32 kr.val)) = BitVec.ofNat 32 (first r + kr.val) := by
  revert r kr
  decide +kernel

theorem v67 (r : Fin 32) (kr : Fin 8) : val_main_v67 (F := Ideal) (ix3 r kr 0) = BitVec.ofNat 32 (first r + kr.val) := by
  simp only [val_main_v67, val_main_v66, val_main_v65, val_main_v64, val_main_c_12, val_main_v63, val_main_v62, val_main_c_11, val_main_v61, val_main_v60,
    val_main_v59, val_main_v58, val_main_v57, val_main_v56, val_main_v55, val_main_call2_v4, val_main_call2_v3, val_main_call2_v2, val_main_call2_v1, val_main_call2_v0, val_main_c_9, val_main_c_10, val_main_v54, val_main_v53, val_main_c_8, val_main_v52]
  pointwise
  exact row r kr

theorem v74 (r : Fin 32) (kr : Fin 8) : val_main_v74 (F := Ideal) (ix3 r kr 0) = BitVec.ofNat 32 (first r + kr.val) := by
  simp only [val_main_v74, val_main_v73, val_main_v72, val_main_v71, val_main_c_14, val_main_v70, val_main_v69, val_main_c_13, val_main_v61, val_main_v60,
    val_main_v59, val_main_v58, val_main_v57, val_main_v56, val_main_v55, val_main_call2_v4, val_main_call2_v3, val_main_call2_v2, val_main_call2_v1, val_main_call2_v0, val_main_c_9, val_main_c_10, val_main_v54, val_main_v53, val_main_c_8, val_main_v52]
  pointwise
  exact row r kr

/-- Row `kr` of the window of row `r`. -/
def winRow (r : Fin 32) (kr : Fin 8) : Fin 32 := ⟨first r + kr.val, by unfold first; omega⟩

theorem held (r : Fin 32) (kr : Fin 8) : min (BitVec.ofNat 32 (first r + kr.val)).toInt.toNat 31 = first r + kr.val := by
  revert r kr
  decide +kernel

theorem v68 (b : Fin 32) (h : Fin 16) (r : Fin 32) (kr : Fin 8) (kc d : Fin 64) :
    val_main_v68 (F := Ideal) x1 (ix6 b h r kr kc d) = x1 (ix3 b (lat (winRow r kr) kc) (hc h d)) :=
  (gatherRows _ _ b h r kr kc d).trans ((v23 x1 b h _ kc d).trans (congrArg (fun z => x1 (ix3 b (lat z kc) (hc h d)))
    (Fin.ext ((congrArg (fun z : BitVec 32 => min z.toInt.toNat 31) (v67 r kr)).trans (held r kr)))))

theorem v75 (b : Fin 32) (h : Fin 16) (r : Fin 32) (kr : Fin 8) (kc d : Fin 64) :
    val_main_v75 (F := Ideal) x2 (ix6 b h r kr kc d) = x2 (ix3 b (lat (winRow r kr) kc) (hc h d)) :=
  (gatherRows _ _ b h r kr kc d).trans ((v24 x2 b h _ kc d).trans (congrArg (fun z => x2 (ix3 b (lat z kc) (hc h d)))
    (Fin.ext ((congrArg (fun z : BitVec 32 => min z.toInt.toNat 31) (v74 r kr)).trans (held r kr)))))

theorem rowDiff (r : Fin 32) (kr : Fin 8) :
    (let w := IntOp.subi (IntOp.addi (IntOp.subi (IntOp.addi (IntOp.minsi 24#32 (IntOp.maxsi 0#32 (IntOp.subi (BitVec.ofNat 32 r.val) 4#32))) (BitVec.ofNat 32 kr.val)) (BitVec.ofNat 32 r.val)) 8#32) 1#32;
      Scalar.select (IntOp.cmpi .slt w 0#32) (IntOp.addi w 15#32) w) = BitVec.ofNat 32 (first r + kr.val + 7 - r.val) := by
  revert r kr
  decide +kernel

theorem colDiff (q kc : Fin 64) :
    (let w := IntOp.subi (IntOp.addi (IntOp.minsi 15#32 (IntOp.maxsi 4294967281#32 (IntOp.subi (BitVec.ofNat 32 kc.val) (BitVec.ofNat 32 q.val)))) 16#32) 1#32;
      Scalar.select (IntOp.cmpi .slt w 0#32) (IntOp.addi w 31#32) w) = BitVec.ofNat 32 (min 30 (kc.val + 15 - q.val)) := by
  revert q kc
  decide +kernel

theorem v97 (r : Fin 32) (q : Fin 64) (kr : Fin 8) (kc : Fin 64) : val_main_v97 (F := Ideal) (ix5 r q kr kc 0) = BitVec.ofNat 32 (first r + kr.val + 7 - r.val) := by
  simp only [val_main_v97, val_main_v95, val_main_v89, val_main_v88, val_main_v87, val_main_c_18, val_main_v86, val_main_v85, val_main_c_17, val_main_v83, val_main_v82, val_main_v81, val_main_c_16,
    val_main_v80, val_main_v79, val_main_c_15, val_main_v78, val_main_v77, val_main_v76, val_main_v61, val_main_v60,
    val_main_v59, val_main_v58, val_main_v57, val_main_v56, val_main_v55, val_main_call2_v4, val_main_call2_v3, val_main_call2_v2, val_main_call2_v1, val_main_call2_v0, val_main_c_9, val_main_c_10, val_main_v54, val_main_v53, val_main_c_8, val_main_v52]
  pointwise
  exact rowDiff r kr

theorem v98 (r : Fin 32) (q : Fin 64) (kr : Fin 8) (kc : Fin 64) : val_main_v98 (F := Ideal) (ix5 r q kr kc 0) = BitVec.ofNat 32 (min 30 (kc.val + 15 - q.val)) := by
  simp only [val_main_v98, val_main_v96, val_main_v94, val_main_v93, val_main_v92, val_main_c_20, val_main_v91, val_main_v90, val_main_c_19, val_main_v84, val_main_v51, val_main_v50, val_main_c_7,
    val_main_v49, val_main_v48, val_main_c_6, val_main_v47, val_main_call1_v4, val_main_call1_v3, val_main_call1_v2, val_main_call1_v1, val_main_call1_v0, val_main_c_4, val_main_c_5,
    val_main_v46, val_main_v45, val_main_v44, val_main_v43, val_main_v42, val_main_v25]
  pointwise
  exact colDiff q kc

theorem v99_0 (r : Fin 32) (q : Fin 64) (kr : Fin 8) (kc : Fin 64) : val_main_v99 (F := Ideal) (ix5 r q kr kc 0) = BitVec.ofNat 32 (first r + kr.val + 7 - r.val) := by
  refine Eq.trans ?_ (v97 r q kr kc)
  unfold val_main_v99
  generalize val_main_v97 (F := Ideal) = y
  generalize val_main_v98 (F := Ideal) = z
  pointwise

theorem v99_1 (r : Fin 32) (q : Fin 64) (kr : Fin 8) (kc : Fin 64) : val_main_v99 (F := Ideal) (ix5 r q kr kc 1) = BitVec.ofNat 32 (min 30 (kc.val + 15 - q.val)) := by
  refine Eq.trans ?_ (v98 r q kr kc)
  unfold val_main_v99
  generalize val_main_v97 (F := Ideal) = y
  generalize val_main_v98 (F := Ideal) = z
  pointwise

theorem heldRow (r : Fin 32) (kr : Fin 8) : min (BitVec.ofNat 32 (first r + kr.val + 7 - r.val)).toInt.toNat 14 = first r + kr.val + 7 - r.val := by
  revert r kr
  decide +kernel

theorem heldCol (q kc : Fin 64) : min (BitVec.ofNat 32 (min 30 (kc.val + 15 - q.val))).toInt.toNat 30 = min 30 (kc.val + 15 - q.val) := by
  revert q kc
  decide +kernel

/-- The bias of head `h` for a query in column `q` of row `r` and a key in column `kc` of the window's row `kr`. -/
def biasAt (h : Fin 16) (r : Fin 32) (q : Fin 64) (kr : Fin 8) (kc : Fin 64) : EReal :=
  x3 (ix3 h ⟨first r + kr.val + 7 - r.val, by unfold first; omega⟩ ⟨min 30 (kc.val + 15 - q.val), by omega⟩)

theorem v100 (h : Fin 16) (r : Fin 32) (q : Fin 64) (kr : Fin 8) (kc : Fin 64) :
    val_main_v100 (F := Ideal) x3 (ix5 h r q kr kc) = biasAt x3 h r q kr kc := by
  refine (gatherBias _ _ h r q kr kc).trans (congrArg₂ (fun z w => x3 (ix3 h z w)) (Fin.ext ?_) (Fin.ext ?_))
  · exact (congrArg (fun z : BitVec 32 => min z.toInt.toNat 14) (v99_0 r q kr kc)).trans (heldRow r kr)
  · exact (congrArg (fun z : BitVec 32 => min z.toInt.toNat 30) (v99_1 r q kr kc)).trans (heldCol q kc)

/-- The score of a query's row and a key's row in one head. -/
def score (b : Fin 32) (h : Fin 16) (q k : Fin 2304) : EReal :=
  ∑ d : Fin 64, ((x0 (ix3 b q (hc h d)) : EReal) * Ideal.ofBits .f32 0x3E000000#32) * x1 (ix3 b k (hc h d))

theorem v101 (b : Fin 32) (h : Fin 16) (r : Fin 32) (q : Fin 64) (kr : Fin 8) (kc : Fin 64) :
    val_main_v101 (F := Ideal) x0 x1 (ix6 b h r q kr kc) = score x0 x1 b h (lat r q) (lat (winRow r kr) kc) := by
  have e : val_main_v101 (F := Ideal) x0 x1 (ix6 b h r q kr kc) = ∑ x, (val_main_v22 (F := Ideal) x0 (ix5 b h r q x) : EReal) * val_main_v68 (F := Ideal) x1 (ix6 b h r kr kc x) := by
    unfold val_main_v101
    generalize val_main_v22 (F := Ideal) x0 = y
    generalize val_main_v68 (F := Ideal) x1 = z
    pointwise
  refine e.trans (Finset.sum_congr rfl fun d _ => ?_)
  exact congrArg₂ (· * ·) (v22 x0 b h r q d) (v68 x1 b h r kr kc d)

theorem v104 (b : Fin 32) (h : Fin 16) (r : Fin 32) (q : Fin 64) (kr : Fin 8) (kc : Fin 64) :
    val_main_v104 (F := Ideal) x0 x1 x3 (ix6 b h r q kr kc) = score x0 x1 b h (lat r q) (lat (winRow r kr) kc) + biasAt x3 h r q kr kc := by
  have e : val_main_v104 (F := Ideal) x0 x1 x3 (ix6 b h r q kr kc) = (val_main_v101 (F := Ideal) x0 x1 (ix6 b h r q kr kc) : EReal) + val_main_v100 (F := Ideal) x3 (ix5 h r q kr kc) := by
    unfold val_main_v104 val_main_v103 val_main_v102
    generalize val_main_v101 (F := Ideal) x0 x1 = y
    generalize val_main_v100 (F := Ideal) x3 = z
    pointwise
  exact e.trans (congrArg₂ (· + ·) (v101 x0 x1 b h r q kr kc) (v100 x3 h r q kr kc))

theorem maskBits (kc q : Fin 64) : (IntOp.andi
        (IntOp.cmpi CmpIPredicate.sge (BitVec.ofNat 32 kc.val) (IntOp.minsi 48#32 (IntOp.maxsi 0#32 (IntOp.subi (BitVec.ofNat 32 q.val) 8#32))))
        (IntOp.cmpi CmpIPredicate.slt (BitVec.ofNat 32 kc.val)
          (IntOp.addi (IntOp.minsi 48#32 (IntOp.maxsi 0#32 (IntOp.subi (BitVec.ofNat 32 q.val) 8#32))) 16#32)))
    = if Cert.KernelIdeal.Blocks.ColMask kc.val q.val then 1#1 else 0#1 := by
  revert kc q
  decide +kernel

/-- The masked score of a query at column `q` of row `r` and the window's key `n`. -/
def scoreL (b : Fin 32) (h : Fin 16) (r : Fin 32) (q : Fin 64) (kr : Fin 8) (kc : Fin 64) : EReal :=
  if Cert.KernelIdeal.Blocks.ColMask kc.val q.val then score x0 x1 b h (lat r q) (lat (winRow r kr) kc) + biasAt x3 h r q kr kc else ⊥

theorem v106 (b : Fin 32) (h : Fin 16) (r : Fin 32) (q : Fin 64) (kr : Fin 8) (kc : Fin 64) :
    val_main_v106 (F := Ideal) x0 x1 x3 (ix6 b h r q kr kc) = scoreL x0 x1 x3 b h r q kr kc := by
  have e : val_main_v106 (F := Ideal) x0 x1 x3 (ix6 b h r q kr kc) = if Cert.KernelIdeal.Blocks.ColMask kc.val q.val then (val_main_v104 (F := Ideal) x0 x1 x3 (ix6 b h r q kr kc) : EReal) else ⊥ := by
    simp only [val_main_v106, val_main_call3_v2, val_main_call3_v1, val_main_call3_v0, val_main_v105, val_main_cst_21, val_main_v41, val_main_v40, val_main_v39, val_main_v38, val_main_v37, val_main_v36, val_main_c_3,
      val_main_v35, val_main_v34, val_main_v33, val_main_v32, val_main_v31, val_main_v30, val_main_v29, val_main_v28, val_main_call0_v4, val_main_call0_v3, val_main_call0_v2, val_main_call0_v1, val_main_call0_v0, val_main_c_1, val_main_c_2, val_main_v27, val_main_v26, val_main_v25, val_main_c]
    generalize val_main_v104 (F := Ideal) x0 x1 x3 = y
    pointwise
    refine (congrArg (fun z => Scalar.select z _ _) (maskBits kc q)).trans ((Cert.KernelIdeal.Blocks.select_ite _ _ _).trans ?_)
    exact if_congr Iff.rfl rfl Cert.KernelIdeal.Blocks.ofBits_bot
  rw [e, v104]
  rfl

/-- Row of the window in which its key `n` lies, and that key's column. -/
def kRow (n : Fin 512) : Fin 8 := ⟨n.val / 64, by omega⟩
def kCol (n : Fin 512) : Fin 64 := ⟨n.val % 64, by omega⟩

theorem v107 (b : Fin 32) (h : Fin 16) (r : Fin 32) (q : Fin 64) (n : Fin 512) :
    val_main_v107 (F := Ideal) x0 x1 x3 (ix5 b h r q n) = scoreL x0 x1 x3 b h r q (kRow n) (kCol n) := by
  refine Eq.trans ?_ (v106 x0 x1 x3 b h r q (kRow n) (kCol n))
  unfold val_main_v107
  generalize val_main_v106 (F := Ideal) x0 x1 x3 = y
  unfold kRow kCol
  pointwise

theorem v108 (b : Fin 32) (h : Fin 16) (r : Fin 32) (q : Fin 64) (j : Fin 256) :
    val_main_v108 (F := Ideal) x0 x1 (ix5 b h r q j) = score x0 x1 b h (lat r q) (ctx j) := by
  have e : val_main_v108 (F := Ideal) x0 x1 (ix5 b h r q j) = ∑ x, (val_main_v22 (F := Ideal) x0 (ix5 b h r q x) : EReal) * val_main_v7 (F := Ideal) x1 (ix4 b h j x) := by
    unfold val_main_v108
    generalize val_main_v22 (F := Ideal) x0 = y
    generalize val_main_v7 (F := Ideal) x1 = z
    pointwise
  refine e.trans (Finset.sum_congr rfl fun d _ => ?_)
  exact congrArg₂ (· * ·) (v22 x0 b h r q d) (v7 x1 b h j d)

/-- Place of the window's key `n`, and of the context's key `j`, among all the keys of a query. -/
def locP (n : Fin 512) : Fin 768 := ⟨n.val, by omega⟩
def ctxP (j : Fin 256) : Fin 768 := ⟨512 + j.val, by omega⟩

theorem v109_loc (b : Fin 32) (h : Fin 16) (r : Fin 32) (q : Fin 64) (n : Fin 512) :
    val_main_v109 (F := Ideal) x0 x1 x3 (ix5 b h r q (locP n)) = scoreL x0 x1 x3 b h r q (kRow n) (kCol n) := by
  refine Eq.trans ?_ (v107 x0 x1 x3 b h r q n)
  unfold val_main_v109
  generalize val_main_v107 (F := Ideal) x0 x1 x3 = y
  generalize val_main_v108 (F := Ideal) x0 x1 = z
  unfold locP
  pointwise

theorem v109_ctx (b : Fin 32) (h : Fin 16) (r : Fin 32) (q : Fin 64) (j : Fin 256) :
    val_main_v109 (F := Ideal) x0 x1 x3 (ix5 b h r q (ctxP j)) = score x0 x1 b h (lat r q) (ctx j) := by
  refine Eq.trans ?_ (v108 x0 x1 b h r q j)
  unfold val_main_v109
  generalize val_main_v107 (F := Ideal) x0 x1 x3 = y
  generalize val_main_v108 (F := Ideal) x0 x1 = z
  unfold ctxP
  pointwise

end Cert.ReferenceIdeal.At
-- ==== Proof.RefOut.lean ====
/- The reference's result at an index: the softmax mean of the values. -/
module

public import proofs.«01_k».proof.Proof.RefRead

@[expose] public section

set_option maxRecDepth 16384

noncomputable section

namespace Cert.ReferenceIdeal.At

open Cert.ReferenceIdeal Cert.ReferenceIdeal.Read Idealize.ShloMosaic

variable (x0 x1 x2 : FVec Ideal S32x2304x1024 .f32) (x3 : FVec Ideal S16x15x31 .f32)

theorem v110 (b : Fin 32) (h : Fin 16) (r : Fin 32) (q : Fin 64) :
    val_main_v110 (F := Ideal) x0 x1 x3 (ix4 b h r q) = Finset.univ.sup fun n : Fin 768 => (val_main_v109 (F := Ideal) x0 x1 x3 (ix5 b h r q n) : EReal) := by
  unfold val_main_v110 val_main_cst_22
  generalize val_main_v109 (F := Ideal) x0 x1 x3 = y
  pointwise
  exact Cert.KernelIdeal.Blocks.fold_max _

theorem v116 (b : Fin 32) (h : Fin 16) (r : Fin 32) (q : Fin 64) (n : Fin 768) :
    val_main_v116 (F := Ideal) x0 x1 x3 (ix5 b h r q n)
      = Ideal.exp ((val_main_v109 (F := Ideal) x0 x1 x3 (ix5 b h r q n) : EReal) - val_main_v110 (F := Ideal) x0 x1 x3 (ix4 b h r q)) := by
  have e : val_main_v116 (F := Ideal) x0 x1 x3 (ix5 b h r q n)
      = Ideal.exp ((val_main_v109 (F := Ideal) x0 x1 x3 (ix5 b h r q n) : EReal) - max (Ideal.ofBits .f32 4286578688#32) (val_main_v110 (F := Ideal) x0 x1 x3 (ix4 b h r q) : EReal)) := by
    rw [val_main_v116_apply, val_main_v115_apply, val_main_v114_apply, val_main_v113_apply, val_main_v112_apply, val_main_v111_apply, val_main_cst_23_apply]
    generalize val_main_v109 (F := Ideal) x0 x1 x3 = y
    generalize val_main_v110 (F := Ideal) x0 x1 x3 = z
    have hi : idx_main_v113 (idx_main_v114 (ix5 b h r q n)) = ix4 b h r q := by
      funext a
      match a with
      | ⟨0, _⟩ => rfl
      | ⟨1, _⟩ => rfl
      | ⟨2, _⟩ => rfl
      | ⟨3, _⟩ => rfl
    rw [hi]
    rfl
  rw [e, Cert.KernelIdeal.Blocks.ofBits_bot, max_eq_right bot_le]

theorem v120 (b : Fin 32) (h : Fin 16) (r : Fin 32) (q : Fin 64) (n : Fin 768) :
    val_main_v120 (F := Ideal) x0 x1 x3 (ix5 b h r q n)
      = Ideal.div (val_main_v116 (F := Ideal) x0 x1 x3 (ix5 b h r q n)) (∑ k : Fin 768, (val_main_v116 (F := Ideal) x0 x1 x3 (ix5 b h r q k) : EReal)) := by
  unfold val_main_v120 val_main_v119 val_main_v118 val_main_v117 val_main_cst_24
  generalize val_main_v116 (F := Ideal) x0 x1 x3 = y
  pointwise

/-- The head of a column, and the column inside it. -/
def hd (c : Fin 1024) : Fin 16 := ⟨c.val / 64, by omega⟩
def cl (c : Fin 1024) : Fin 64 := ⟨c.val % 64, by omega⟩

/-- The row of the grid of a latent token, and its column. -/
def gr (t : Fin 2048) : Fin 32 := ⟨t.val / 64, by omega⟩
def gc (t : Fin 2048) : Fin 64 := ⟨t.val % 64, by omega⟩

theorem v128 (b : Fin 32) (t : Fin 2048) (c : Fin 1024) :
    val_main_v128 (F := Ideal) x0 x1 x2 x3 (ix3 b t c)
      = (∑ n : Fin 512, (val_main_v120 (F := Ideal) x0 x1 x3 (ix5 b (hd c) (gr t) (gc t) (locP n)) : EReal) * val_main_v75 (F := Ideal) x2 (ix6 b (hd c) (gr t) (kRow n) (kCol n) (cl c)))
        + ∑ j : Fin 256, (val_main_v120 (F := Ideal) x0 x1 x3 (ix5 b (hd c) (gr t) (gc t) (ctxP j)) : EReal) * val_main_v10 (F := Ideal) x2 (ix4 b (hd c) j (cl c)) := by
  simp only [val_main_v128, val_main_v127, val_main_v126, val_main_v125, val_main_v124, val_main_v123, val_main_v122, val_main_v121]
  generalize val_main_v120 (F := Ideal) x0 x1 x3 = y
  generalize val_main_v10 (F := Ideal) x2 = w
  generalize val_main_v75 (F := Ideal) x2 = z
  unfold hd cl gr gc locP ctxP kRow kCol
  pointwise

theorem sum_split (f : Fin 768 → EReal) : ∑ n, f n = (∑ j : Fin 256, f (ctxP j)) + ∑ n : Fin 512, f (locP n) :=
  (Fin.sum_univ_add (a := 512) (b := 256) f).trans (add_comm _ _)

theorem sup_split (f : Fin 768 → EReal) : Finset.univ.sup f = Finset.univ.sup (Sum.elim (fun j : Fin 256 => f (ctxP j)) fun n : Fin 512 => f (locP n)) := by
  refine le_antisymm (Finset.sup_le fun n _ => ?_) (Finset.sup_le fun i _ => ?_)
  · by_cases h : n.val < 512
    · exact Finset.le_sup (f := Sum.elim (fun j : Fin 256 => f (ctxP j)) fun n : Fin 512 => f (locP n)) (b := .inr ⟨n.val, h⟩) (Finset.mem_univ _)
    · refine le_trans (le_of_eq (congrArg f (Fin.ext ?_))) (Finset.le_sup (f := Sum.elim (fun j : Fin 256 => f (ctxP j)) fun n : Fin 512 => f (locP n)) (b := .inl ⟨n.val - 512, by omega⟩) (Finset.mem_univ _))
      show n.val = 512 + (n.val - 512)
      omega
  · rcases i with j | n
    · exact Finset.le_sup (f := f) (Finset.mem_univ _)
    · exact Finset.le_sup (f := f) (Finset.mem_univ _)

/-- The scores of a latent query: the context's keys, then the window's. -/
def scores (b : Fin 32) (h : Fin 16) (r : Fin 32) (q : Fin 64) : Fin 256 ⊕ Fin 512 → EReal :=
  Sum.elim (fun j => score x0 x1 b h (lat r q) (ctx j)) fun n => scoreL x0 x1 x3 b h r q (kRow n) (kCol n)

/-- The values a latent query sees, in the same order. -/
def valuesL (b : Fin 32) (h : Fin 16) (r : Fin 32) (d : Fin 64) : Fin 256 ⊕ Fin 512 → EReal :=
  Sum.elim (fun j => x2 (ix3 b (ctx j) (hc h d))) fun n => x2 (ix3 b (lat (winRow r (kRow n)) (kCol n)) (hc h d))

/-- The reference at a latent token. -/
theorem latent (b : Fin 32) (t : Fin 2048) (c : Fin 1024) :
    val_main_v128 (F := Ideal) x0 x1 x2 x3 (ix3 b t c)
      = SoftmaxMath.softmaxMean (scores x0 x1 x3 b (hd c) (gr t) (gc t)) (valuesL x2 b (hd c) (gr t) (cl c)) := by
  rw [v128]
  have hM : (val_main_v110 (F := Ideal) x0 x1 x3 (ix4 b (hd c) (gr t) (gc t)) : EReal) = Finset.univ.sup (scores x0 x1 x3 b (hd c) (gr t) (gc t)) := by
    refine (v110 x0 x1 x3 b (hd c) (gr t) (gc t)).trans ((sup_split _).trans (congrArg (Finset.univ.sup ·) (congrArg₂ Sum.elim (funext fun j => ?_) (funext fun n => ?_))))
    · exact v109_ctx x0 x1 x3 b (hd c) (gr t) (gc t) j
    · exact v109_loc x0 x1 x3 b (hd c) (gr t) (gc t) n
  have hc' (j : Fin 256) : (val_main_v116 (F := Ideal) x0 x1 x3 (ix5 b (hd c) (gr t) (gc t) (ctxP j)) : EReal)
      = Ideal.exp (scores x0 x1 x3 b (hd c) (gr t) (gc t) (.inl j) - Finset.univ.sup (scores x0 x1 x3 b (hd c) (gr t) (gc t))) :=
    (v116 x0 x1 x3 b (hd c) (gr t) (gc t) _).trans (congrArg₂ (fun p q : EReal => Ideal.exp (p - q)) (v109_ctx x0 x1 x3 b (hd c) (gr t) (gc t) j) hM)
  have hl' (n : Fin 512) : (val_main_v116 (F := Ideal) x0 x1 x3 (ix5 b (hd c) (gr t) (gc t) (locP n)) : EReal)
      = Ideal.exp (scores x0 x1 x3 b (hd c) (gr t) (gc t) (.inr n) - Finset.univ.sup (scores x0 x1 x3 b (hd c) (gr t) (gc t))) :=
    (v116 x0 x1 x3 b (hd c) (gr t) (gc t) _).trans (congrArg₂ (fun p q : EReal => Ideal.exp (p - q)) (v109_loc x0 x1 x3 b (hd c) (gr t) (gc t) n) hM)
  have hS : (∑ k : Fin 768, (val_main_v116 (F := Ideal) x0 x1 x3 (ix5 b (hd c) (gr t) (gc t) k) : EReal))
      = ∑ i, Ideal.exp (scores x0 x1 x3 b (hd c) (gr t) (gc t) i - Finset.univ.sup (scores x0 x1 x3 b (hd c) (gr t) (gc t))) := by
    refine (sum_split _).trans (Eq.trans ?_ (SoftmaxMath.sum_parts _).symm)
    exact congrArg₂ (· + ·) (Finset.sum_congr rfl fun j _ => hc' j) (Finset.sum_congr rfl fun n _ => hl' n)
  unfold SoftmaxMath.softmaxMean
  refine (add_comm _ _).trans (Eq.trans ?_ (SoftmaxMath.sum_parts _).symm)
  refine congrArg₂ (· + ·) (Finset.sum_congr rfl fun j _ => ?_) (Finset.sum_congr rfl fun n _ => ?_)
  · exact congrArg₂ (· * ·) ((v120 x0 x1 x3 b (hd c) (gr t) (gc t) _).trans (congrArg₂ Ideal.div (hc' j) hS)) (v10 x2 b (hd c) j (cl c))
  · exact congrArg₂ (· * ·) ((v120 x0 x1 x3 b (hd c) (gr t) (gc t) _).trans (congrArg₂ Ideal.div (hl' n) hS)) (v75 x2 b (hd c) (gr t) (kRow n) (kCol n) (cl c))

theorem v129 (b : Fin 32) (h : Fin 16) (q j : Fin 256) :
    val_main_v129 (F := Ideal) x0 x1 (ix4 b h q j) = score x0 x1 b h (ctx q) (ctx j) := by
  have e : val_main_v129 (F := Ideal) x0 x1 (ix4 b h q j) = ∑ x, (val_main_v4 (F := Ideal) x0 (ix4 b h q x) : EReal) * val_main_v7 (F := Ideal) x1 (ix4 b h j x) := by
    unfold val_main_v129
    generalize val_main_v4 (F := Ideal) x0 = y
    generalize val_main_v7 (F := Ideal) x1 = z
    pointwise
  refine e.trans (Finset.sum_congr rfl fun d _ => ?_)
  exact congrArg₂ (· * ·) (v4 x0 b h q d) (v7 x1 b h j d)

theorem v130 (b : Fin 32) (h : Fin 16) (q : Fin 256) :
    val_main_v130 (F := Ideal) x0 x1 (ix3 b h q) = Finset.univ.sup fun j : Fin 256 => score x0 x1 b h (ctx q) (ctx j) := by
  have e : val_main_v130 (F := Ideal) x0 x1 (ix3 b h q) = Finset.univ.sup fun j : Fin 256 => (val_main_v129 (F := Ideal) x0 x1 (ix4 b h q j) : EReal) := by
    unfold val_main_v130 val_main_cst_25
    generalize val_main_v129 (F := Ideal) x0 x1 = y
    pointwise
    exact Cert.KernelIdeal.Blocks.fold_max _
  exact e.trans (congrArg (Finset.univ.sup ·) (funext fun j => v129 x0 x1 b h q j))

theorem v136 (b : Fin 32) (h : Fin 16) (q j : Fin 256) :
    val_main_v136 (F := Ideal) x0 x1 (ix4 b h q j)
      = Ideal.exp (score x0 x1 b h (ctx q) (ctx j) - Finset.univ.sup fun j : Fin 256 => score x0 x1 b h (ctx q) (ctx j)) := by
  have e : val_main_v136 (F := Ideal) x0 x1 (ix4 b h q j)
      = Ideal.exp ((val_main_v129 (F := Ideal) x0 x1 (ix4 b h q j) : EReal) - max (Ideal.ofBits .f32 4286578688#32) (val_main_v130 (F := Ideal) x0 x1 (ix3 b h q) : EReal)) := by
    rw [val_main_v136_apply, val_main_v135_apply, val_main_v134_apply, val_main_v133_apply, val_main_v132_apply, val_main_v131_apply, val_main_cst_26_apply]
    generalize val_main_v129 (F := Ideal) x0 x1 = y
    generalize val_main_v130 (F := Ideal) x0 x1 = z
    have hi : idx_main_v133 (idx_main_v134 (ix4 b h q j)) = ix3 b h q := by
      funext a
      match a with
      | ⟨0, _⟩ => rfl
      | ⟨1, _⟩ => rfl
      | ⟨2, _⟩ => rfl
    rw [hi]
    rfl
  rw [Cert.KernelIdeal.Blocks.ofBits_bot, max_eq_right bot_le] at e
  exact e.trans (congrArg₂ (fun p q : EReal => Ideal.exp (p - q)) (v129 x0 x1 b h q j) (v130 x0 x1 b h q))

theorem v143 (b : Fin 32) (t : Fin 256) (c : Fin 1024) :
    val_main_v143 (F := Ideal) x0 x1 x2 (ix3 b t c) = ∑ j : Fin 256,
      Ideal.div (val_main_v136 (F := Ideal) x0 x1 (ix4 b (hd c) t j)) (∑ k : Fin 256, (val_main_v136 (F := Ideal) x0 x1 (ix4 b (hd c) t k) : EReal))
        * val_main_v10 (F := Ideal) x2 (ix4 b (hd c) j (cl c)) := by
  simp only [val_main_v143, val_main_v142, val_main_v141, val_main_v140, val_main_v139, val_main_v138, val_main_v137, val_main_cst_27]
  generalize val_main_v136 (F := Ideal) x0 x1 = y
  generalize val_main_v10 (F := Ideal) x2 = z
  unfold hd cl
  pointwise

/-- The reference at a context token. -/
theorem context (b : Fin 32) (t : Fin 256) (c : Fin 1024) :
    val_main_v143 (F := Ideal) x0 x1 x2 (ix3 b t c)
      = SoftmaxMath.softmaxMean (fun j : Fin 256 => score x0 x1 b (hd c) (ctx t) (ctx j)) fun j => x2 (ix3 b (ctx j) (hc (hd c) (cl c))) := by
  rw [v143]
  unfold SoftmaxMath.softmaxMean
  refine Finset.sum_congr rfl fun j _ => congrArg₂ (· * ·) (congrArg₂ Ideal.div (v136 x0 x1 b (hd c) t j) (Finset.sum_congr rfl fun k _ => v136 x0 x1 b (hd c) t k)) (v10 x2 b (hd c) j (cl c))

/-- The result's first 256 rows are the context's. -/
theorem out_ctx (b : Fin 32) (t : Fin 2304) (ht : t.val < 256) (c : Fin 1024) :
    val_main_v145 (F := Ideal) x0 x1 x2 x3 (ix3 b t c) = (val_main_v143 (F := Ideal) x0 x1 x2 (ix3 b ⟨t.val, ht⟩ c) : EReal) := by
  have key (s : Fin 256) : val_main_v145 (F := Ideal) x0 x1 x2 x3 (ix3 b (ctx s) c) = (val_main_v143 (F := Ideal) x0 x1 x2 (ix3 b s c) : EReal) := by
    unfold val_main_v145 val_main_v144 ctx
    generalize val_main_v143 (F := Ideal) x0 x1 x2 = y
    generalize val_main_v128 (F := Ideal) x0 x1 x2 x3 = z
    pointwise
  exact key ⟨t.val, ht⟩

/-- The rows after them are the latent tokens'. -/
theorem out_lat (b : Fin 32) (t : Fin 2304) (ht : ¬ t.val < 256) (c : Fin 1024) :
    val_main_v145 (F := Ideal) x0 x1 x2 x3 (ix3 b t c) = (val_main_v128 (F := Ideal) x0 x1 x2 x3 (ix3 b ⟨t.val - 256, by omega⟩ c) : EReal) := by
  have key (s : Fin 2048) : val_main_v145 (F := Ideal) x0 x1 x2 x3 (ix3 b ⟨256 + s.val, by omega⟩ c) = (val_main_v128 (F := Ideal) x0 x1 x2 x3 (ix3 b s c) : EReal) := by
    unfold val_main_v145 val_main_v144
    generalize val_main_v143 (F := Ideal) x0 x1 x2 = y
    generalize val_main_v128 (F := Ideal) x0 x1 x2 x3 = z
    pointwise
  exact (congrArg (fun k => (val_main_v145 (F := Ideal) x0 x1 x2 x3 (ix3 b k c) : EReal)) (Fin.ext (by show t.val = 256 + (t.val - 256); omega))).trans
    (key ⟨t.val - 256, by omega⟩)

end Cert.ReferenceIdeal.At
-- ==== Proof.Final.lean ====
/- What the kernel leaves in its result: each element from the arrays of the queries, keys, values and biases. -/
module

public import proofs.«01_k».proof.Proof.Tiles

@[expose] public section

set_option maxRecDepth 16384

noncomputable section

namespace Cert.KernelIdeal.Blocks

open Cert.KernelIdeal Cert.KernelIdeal.Gen Idealize.ShloMosaic Idealize.ShloMosaic.TcCoe Idealize.SL.Sem

/-- An element of the result at a context query. -/
def FA (Q K V : S32x2304x1024.Idx → EReal) (b : Fin 32) (q : Fin 2304) (c : Fin 1024) : EReal :=
  outK (fun j : Fin 256 => headDot (fun d => K (ix3 b ⟨j.val, by omega⟩ (col c d))) fun d => Q (ix3 b q (col c d)))
    fun j => V (ix3 b ⟨j.val, by omega⟩ c)

/-- The place of the window's first row above the query's row, which names the table of biases. -/
def above (a : ℕ) : ℕ := (a - 4) - min 24 (a - 8)

theorem above_lt (q : Fin 2304) : above (q.val / 64) < 8 := by unfold above; omega

/-- An element of the result at a latent query. -/
def FB (Q K V : S32x2304x1024.Idx → EReal) (T : S8x8x512x128.Idx → EReal) (b : Fin 32) (q : Fin 2304) (c : Fin 1024) : EReal :=
  outK (Sum.elim
      (fun j : Fin 256 => headDot (fun d => K (ix3 b ⟨j.val, by omega⟩ (col c d))) fun d => Q (ix3 b q (col c d)))
      fun j : Fin 512 => headDot (fun d => K (ix3 b ⟨base (q.val / 64) + j.val, base_lt ⟨q.val / 64, by omega⟩ j⟩ (col c d))) (fun d => Q (ix3 b q (col c d)))
        + (if ColMask (j.val % 64) (q.val % 64) then T (ix4 ⟨above (q.val / 64), above_lt q⟩ ⟨c.val / 128, by omega⟩ j
            ⟨64 * (c.val / 64 % 2) + q.val % 64, by omega⟩) else ⊥) * ((SoftmaxMath.L : ℝ) : EReal))
    (Sum.elim (fun j : Fin 256 => V (ix3 b ⟨j.val, by omega⟩ c)) fun j : Fin 512 => V (ix3 b ⟨base (q.val / 64) + j.val, base_lt ⟨q.val / 64, by omega⟩ j⟩ c))

/-- An element of the result. -/
def FK (Q K V : S32x2304x1024.Idx → EReal) (T : S8x8x512x128.Idx → EReal) (y : S32x2304x1024.Idx) : EReal :=
  if (y 1).val < 256 then FA Q K V (y 0) (y 1) (y 2) else FB Q K V T (y 0) (y 1) (y 2)

variable (m : (ℓ : Loc nD τ sig) → Buf (Elt Ideal) ℓ)

theorem ix0 : ∀ t : Fin cfg0.N, win0_0.index t = ![(grid0.coords t 0).val, (grid0.coords t 1).val, 0] := (by decide +kernel : ∀ t : Fin grid0.N, _)
theorem ix1 : ∀ t : Fin cfg0.N, win0_1.index t = ![(grid0.coords t 0).val, 0, 0] := (by decide +kernel : ∀ t : Fin grid0.N, _)
theorem ix2w : ∀ t : Fin cfg0.N, win0_2.index t = ![(grid0.coords t 0).val, 0, 0] := (by decide +kernel : ∀ t : Fin grid0.N, _)
theorem ix3w : ∀ t : Fin cfg0.N, ¬ t.val % 36 ≤ 3 → win0_3.index t = ![above (grid0.coords t 1).val, 0, 0, 0] := (by decide +kernel : ∀ t : Fin grid0.N, _)
theorem ix4w : ∀ t : Fin cfg0.N, win0_4.index t = ![(grid0.coords t 0).val, (grid0.coords t 1).val, 0] := (by decide +kernel : ∀ t : Fin grid0.N, _)
theorem place : ∀ t : Fin cfg0.N, (grid0.coords t 1).val = t.val % 36 := (by decide +kernel : ∀ t : Fin grid0.N, _)

/-- Where an element of the block written at `t` lies in the result. -/
theorem emb4 (t : Fin cfg0.N) (y : S1x64x1024.Idx) : (win0_4.blk t).view.emb y
    = ix3 (n0 := 32) (n1 := 2304) (n2 := 1024) ⟨(grid0.coords t 0).val, (grid0.coords t 0).isLt⟩
      ⟨64 * (grid0.coords t 1).val + (y 1).val, by have h : (y 1).val < 64 := (y 1).isLt; have h' : (grid0.coords t 1).val < 36 := (grid0.coords t 1).isLt; omega⟩
      (y 2) := by
  blk_ext [ix4w t]

theorem read0 (c : Dev nD) (t : Fin cfg0.N) (r : Fin 64) (l : Fin 1024) : iblk m c 0 t (ix3 0 r l)
    = V m c main_arg0 (ix3 (n0 := 32) (n1 := 2304) (n2 := 1024) ⟨(grid0.coords t 0).val, (grid0.coords t 0).isLt⟩
      ⟨64 * (grid0.coords t 1).val + r.val, by have h' : (grid0.coords t 1).val < 36 := (grid0.coords t 1).isLt; omega⟩ l) := by
  refine congrArg (V m c main_arg0) ?_
  blk_ext [ix0 t]

theorem read1 (c : Dev nD) (t : Fin cfg0.N) (r : Fin 2304) (l : Fin 1024) : iblk m c 1 t (ix3 0 r l)
    = V m c main_v0 (ix3 (n0 := 32) (n1 := 2304) (n2 := 1024) ⟨(grid0.coords t 0).val, (grid0.coords t 0).isLt⟩ r l) := by
  refine congrArg (V m c main_v0) ?_
  blk_ext [ix1 t]

theorem read2 (c : Dev nD) (t : Fin cfg0.N) (r : Fin 2304) (l : Fin 1024) : iblk m c 2 t (ix3 0 r l)
    = V m c main_v1 (ix3 (n0 := 32) (n1 := 2304) (n2 := 1024) ⟨(grid0.coords t 0).val, (grid0.coords t 0).isLt⟩ r l) := by
  refine congrArg (V m c main_v1) ?_
  blk_ext [ix2w t]

theorem read3 (c : Dev nD) (t : Fin cfg0.N) (h : ¬ t.val % 36 ≤ 3) (p : Fin 8) (j : Fin 512) (l : Fin 128) : iblk m c 3 t (ix4 0 p j l)
    = V m c main_v61 (ix4 (n0 := 8) (n1 := 8) (n2 := 512) (n3 := 128) ⟨above (grid0.coords t 1).val, by
        have h' : (grid0.coords t 1).val < 36 := (grid0.coords t 1).isLt; unfold above; omega⟩ p j l) := by
  refine congrArg (V m c main_v61) ?_
  blk_ext [ix3w t h]

/-- The result buffer after the run is the function `FK` of what entered the kernel. -/
theorem final (c : Dev nD) : (dats m 0 c).arrAt 4 cfg0.N = FK (V m c main_arg0) (V m c main_v0) (V m c main_v1) (V m c main_v61) := by
  refine (dats m 0 c).arrAt_eq_of_covers 4 _ (by decide +kernel) fun t hf y => ?_
  have hp := place t
  by_cases h0 : t.val % 36 ≤ 3
  · have h1 : ¬ 4 ≤ t.val % 36 := by omega
    blk_simp
    rw [afterA m c t h0 h1, canonA]
    rw [emb4]
    have hy : (y 1).val < 64 := (y 1).isLt
    have hq : (64 * (grid0.coords t 1).val + (y 1).val) < 256 := by omega
    refine Eq.trans ?_ (if_pos hq).symm
    unfold GA FA
    refine congrArg₂ outK (funext fun j => ?_) (funext fun j => ?_)
    · exact congrArg₂ headDot (funext fun d => read1 m c t _ _) (funext fun d => read0 m c t _ _)
    · exact read2 m c t _ _
  · have h1 : 4 ≤ t.val % 36 := by omega
    blk_simp
    rw [afterB m c t h0 h1, canonB]
    rw [emb4]
    have hy : (y 1).val < 64 := (y 1).isLt
    have hq : ¬ (64 * (grid0.coords t 1).val + (y 1).val) < 256 := by omega
    refine Eq.trans ?_ (if_neg hq).symm
    have hd : (64 * (grid0.coords t 1).val + (y 1).val) / 64 = (grid0.coords t 1).val := by omega
    have hm : (64 * (grid0.coords t 1).val + (y 1).val) % 64 = (y 1).val := by omega
    unfold GB FB
    refine congrArg₂ outK (congrArg₂ Sum.elim (funext fun j => ?_) (funext fun j => ?_)) (congrArg₂ Sum.elim (funext fun j => ?_) (funext fun j => ?_))
    · exact congrArg₂ headDot (funext fun d => read1 m c t _ _) (funext fun d => read0 m c t _ _)
    · refine congrArg₂ (· + ·) (congrArg₂ headDot (funext fun d => (read1 m c t _ _).trans (congrArg (V m c main_v0) ?_)) (funext fun d => read0 m c t _ _))
        (congrArg (· * ((SoftmaxMath.L : ℝ) : EReal)) ?_)
      · simp only [ix3, hd]
      · simp only [ix3, hm]
        refine if_congr Iff.rfl ((read3 m c t h0 _ _ _).trans (congrArg (V m c main_v61) ?_)) rfl
        simp only [hd, hm]
    · exact read2 m c t _ _
    · refine (read2 m c t _ _).trans (congrArg (V m c main_v1) ?_)
      simp only [ix3, hd]

end Cert.KernelIdeal.Blocks
-- ==== Proof.HostIn.lean ====
/- What the host code before the kernel makes of the arguments: the casts, and the table of the biases. -/
module

public import proofs.«01_k».proof.Proof.Gen.KernelIdeal.Frame
public import Idealize.ShloMosaic.Lib.Claim
public import Idealize.ShloMosaic.Lib.StableHlo.ReadAt
public import Idealize.ShloMosaic.Lib.ValueIdx
public import Idealize.ShloMosaic.Lib.Pointwise

@[expose] public section

set_option maxRecDepth 16384

noncomputable section

namespace Cert.KernelIdeal.HostIn

open Cert.KernelIdeal Cert.KernelIdeal.Gen Idealize.ShloMosaic Idealize.ShloMosaic.TcCoe Idealize.SL.Sem

variable (m : (ℓ : Loc nD τ sig) → Buf (Elt Ideal) ℓ)

/-- The keys reach the kernel as they are. -/
theorem keys (c : Dev nD) (j : S32x2304x1024.Idx) :
    (Gen.V m c main_v0 : S32x2304x1024.Idx → EReal) j = (m ((c.tc : Thread nD τ).loc main_arg1) : S32x2304x1024.Idx → EReal) j := by
  entry_read
  after_reads_at
  all_goals rfl

/-- The values reach the kernel as they are. -/
theorem vals (c : Dev nD) (j : S32x2304x1024.Idx) :
    (Gen.V m c main_v1 : S32x2304x1024.Idx → EReal) j = (m ((c.tc : Thread nD τ).loc main_arg2) : S32x2304x1024.Idx → EReal) j := by
  entry_read
  after_reads_at
  all_goals rfl

/-- The queries reach the kernel as they are. -/
theorem qrys (c : Dev nD) : Gen.V m c main_arg0 = m ((c.tc : Thread nD τ).loc main_arg0) := by
  entry_read
  after_reads_simp

/-- For a key's column and a query's column, which of the 31 differences it is: one at that place, else zero. -/
def oneHot : FVec Ideal S64x64x31 .f32 :=
  uitofp .f32 (cmpi .eq
    (broadcastInDim S64x64x31 ![0, 1, 2] bcast_S64x64x1_S64x64x31_0_1_2 (broadcastInDim S64x64x1 ![0, 1] bcast_S64x64_S64x64x1_0_1
      (subi (addi
        (minsi (broadcastInDim S64x64 ![] bcast_S_S64x64 (constantI S_ 32 15#32))
          (maxsi (broadcastInDim S64x64 ![] bcast_S_S64x64 (constantI S_ 32 4294967281#32))
            (subi (broadcastInDim S64x64 ![0, 1] bcast_S64x1_S64x64_0_1 (broadcastInDim S64x1 ![0] bcast_S64_S64x1_0 (iotaInDim S64 32 0)))
              (broadcastInDim S64x64 ![0, 1] bcast_S1x64_S64x64_0_1 (broadcastInDim S1x64 ![1] bcast_S64_S1x64_1 (iotaInDim S64 32 0))))))
        (broadcastInDim S64x64 ![] bcast_S_S64x64 (constantI S_ 32 16#32)))
        (broadcastInDim S64x64 ![] bcast_S_S64x64 (constantI S_ 32 1#32)))))
    (broadcastInDim S64x64x31 ![0, 1, 2] bcast_S1x1x31_S64x64x31_0_1_2 (broadcastInDim S1x1x31 ![2] bcast_S31_S1x1x31_2 (iotaInDim S31 32 0))))

/-- The biases spread over the columns of keys and queries. -/
def full (rpb : FVec Ideal S16x15x31 .f32) : FVec Ideal S16x15x64x64 .f32 :=
  Host.dotGeneral dot_S16x15x31_S64x64x31_S16x15x64x64_2_2_01_01_n_n (some .fp32) rpb oneHot

/-- The table of a window that begins 0 rows above the query's row. -/
def tab0 (f : FVec Ideal S16x15x64x64 .f32) : FVec Ideal S1x8x512x128 .f32 :=
  broadcastInDim S1x8x512x128 ![1, 2, 3] bcast_S8x512x128_S1x8x512x128_1_2_3 (shapeCast S8x512x128
    (transpose S8x8x64x2x64 [0, 2, 3, 1, 4] (shapeCast S8x2x8x64x64
      (extractStridedSlice S16x8x64x64 ![0, 7, 0, 0] f slices_S16x15x64x64_S16x8x64x64_0_7_0_0) shapeCasts_S16x8x64x64_S8x2x8x64x64)
      transposes_S8x2x8x64x64_S8x8x64x2x64_0_2_3_1_4) shapeCasts_S8x8x64x2x64_S8x512x128)

/-- The table of a window that begins 1 rows above the query's row. -/
def tab1 (f : FVec Ideal S16x15x64x64 .f32) : FVec Ideal S1x8x512x128 .f32 :=
  broadcastInDim S1x8x512x128 ![1, 2, 3] bcast_S8x512x128_S1x8x512x128_1_2_3 (shapeCast S8x512x128
    (transpose S8x8x64x2x64 [0, 2, 3, 1, 4] (shapeCast S8x2x8x64x64
      (extractStridedSlice S16x8x64x64 ![0, 6, 0, 0] f slices_S16x15x64x64_S16x8x64x64_0_6_0_0) shapeCasts_S16x8x64x64_S8x2x8x64x64)
      transposes_S8x2x8x64x64_S8x8x64x2x64_0_2_3_1_4) shapeCasts_S8x8x64x2x64_S8x512x128)

/-- The table of a window that begins 2 rows above the query's row. -/
def tab2 (f : FVec Ideal S16x15x64x64 .f32) : FVec Ideal S1x8x512x128 .f32 :=
  broadcastInDim S1x8x512x128 ![1, 2, 3] bcast_S8x512x128_S1x8x512x128_1_2_3 (shapeCast S8x512x128
    (transpose S8x8x64x2x64 [0, 2, 3, 1, 4] (shapeCast S8x2x8x64x64
      (extractStridedSlice S16x8x64x64 ![0, 5, 0, 0] f slices_S16x15x64x64_S16x8x64x64_0_5_0_0) shapeCasts_S16x8x64x64_S8x2x8x64x64)
      transposes_S8x2x8x64x64_S8x8x64x2x64_0_2_3_1_4) shapeCasts_S8x8x64x2x64_S8x512x128)

/-- The table of a window that begins 3 rows above the query's row. -/
def tab3 (f : FVec Ideal S16x15x64x64 .f32) : FVec Ideal S1x8x512x128 .f32 :=
  broadcastInDim S1x8x512x128 ![1, 2, 3] bcast_S8x512x128_S1x8x512x128_1_2_3 (shapeCast S8x512x128
    (transpose S8x8x64x2x64 [0, 2, 3, 1, 4] (shapeCast S8x2x8x64x64
      (extractStridedSlice S16x8x64x64 ![0, 4, 0, 0] f slices_S16x15x64x64_S16x8x64x64_0_4_0_0) shapeCasts_S16x8x64x64_S8x2x8x64x64)
      transposes_S8x2x8x64x64_S8x8x64x2x64_0_2_3_1_4) shapeCasts_S8x8x64x2x64_S8x512x128)

/-- The table of a window that begins 4 rows above the query's row. -/
def tab4 (f : FVec Ideal S16x15x64x64 .f32) : FVec Ideal S1x8x512x128 .f32 :=
  broadcastInDim S1x8x512x128 ![1, 2, 3] bcast_S8x512x128_S1x8x512x128_1_2_3 (shapeCast S8x512x128
    (transpose S8x8x64x2x64 [0, 2, 3, 1, 4] (shapeCast S8x2x8x64x64
      (extractStridedSlice S16x8x64x64 ![0, 3, 0, 0] f slices_S16x15x64x64_S16x8x64x64_0_3_0_0) shapeCasts_S16x8x64x64_S8x2x8x64x64)
      transposes_S8x2x8x64x64_S8x8x64x2x64_0_2_3_1_4) shapeCasts_S8x8x64x2x64_S8x512x128)

/-- The table of a window that begins 5 rows above the query's row. -/
def tab5 (f : FVec Ideal S16x15x64x64 .f32) : FVec Ideal S1x8x512x128 .f32 :=
  broadcastInDim S1x8x512x128 ![1, 2, 3] bcast_S8x512x128_S1x8x512x128_1_2_3 (shapeCast S8x512x128
    (transpose S8x8x64x2x64 [0, 2, 3, 1, 4] (shapeCast S8x2x8x64x64
      (extractStridedSlice S16x8x64x64 ![0, 2, 0, 0] f slices_S16x15x64x64_S16x8x64x64_0_2_0_0) shapeCasts_S16x8x64x64_S8x2x8x64x64)
      transposes_S8x2x8x64x64_S8x8x64x2x64_0_2_3_1_4) shapeCasts_S8x8x64x2x64_S8x512x128)

/-- The table of a window that begins 6 rows above the query's row. -/
def tab6 (f : FVec Ideal S16x15x64x64 .f32) : FVec Ideal S1x8x512x128 .f32 :=
  broadcastInDim S1x8x512x128 ![1, 2, 3] bcast_S8x512x128_S1x8x512x128_1_2_3 (shapeCast S8x512x128
    (transpose S8x8x64x2x64 [0, 2, 3, 1, 4] (shapeCast S8x2x8x64x64
      (extractStridedSlice S16x8x64x64 ![0, 1, 0, 0] f slices_S16x15x64x64_S16x8x64x64_0_1_0_0) shapeCasts_S16x8x64x64_S8x2x8x64x64)
      transposes_S8x2x8x64x64_S8x8x64x2x64_0_2_3_1_4) shapeCasts_S8x8x64x2x64_S8x512x128)

/-- The table of a window that begins 7 rows above the query's row. -/
def tab7 (f : FVec Ideal S16x15x64x64 .f32) : FVec Ideal S1x8x512x128 .f32 :=
  broadcastInDim S1x8x512x128 ![1, 2, 3] bcast_S8x512x128_S1x8x512x128_1_2_3 (shapeCast S8x512x128
    (transpose S8x8x64x2x64 [0, 2, 3, 1, 4] (shapeCast S8x2x8x64x64
      (extractStridedSlice S16x8x64x64 ![0, 0, 0, 0] f slices_S16x15x64x64_S16x8x64x64_0_0_0_0) shapeCasts_S16x8x64x64_S8x2x8x64x64)
      transposes_S8x2x8x64x64_S8x8x64x2x64_0_2_3_1_4) shapeCasts_S8x8x64x2x64_S8x512x128)

/-- The eight tables in one array. -/
def table (f : FVec Ideal S16x15x64x64 .f32) : FVec Ideal S8x8x512x128 .f32 :=
  concatenate S8x8x512x128 0 [⟨S1x8x512x128, tab0 f⟩, ⟨S1x8x512x128, tab1 f⟩, ⟨S1x8x512x128, tab2 f⟩, ⟨S1x8x512x128, tab3 f⟩, ⟨S1x8x512x128, tab4 f⟩, ⟨S1x8x512x128, tab5 f⟩, ⟨S1x8x512x128, tab6 f⟩, ⟨S1x8x512x128, tab7 f⟩] concatenates_S1x8x512x128_S1x8x512x128_S1x8x512x128_S1x8x512x128_S1x8x512x128_S1x8x512x128_S1x8x512x128_S1x8x512x128_S8x8x512x128_d0

set_option maxHeartbeats 4000000 in
/-- The kernel's table is the eight tables of the spread biases. -/
theorem bias (c : Dev nD) : (Gen.V m c main_v61 : FVec Ideal S8x8x512x128 .f32) = table (full (m ((c.tc : Thread nD τ).loc main_arg3))) := by
  entry_read
  after_reads_simp
  unfold table
  refine StableHlo.concatenate_congr _ _ ?_ _ _
  refine congrArg₂ List.cons (congrArg (Sigma.mk _) (?_ : (StableHlo.upto [hostOps0, hostOps0_1, hostOps0_2].flatten (fun b => m (c, b)) 70 (Proc.tc.devRef main_v53) : FVec Ideal S1x8x512x128 .f32) = tab0 _)) ?_
  · after_reads_simp
    rfl
  refine congrArg₂ List.cons (congrArg (Sigma.mk _) (?_ : (StableHlo.upto [hostOps0, hostOps0_1, hostOps0_2].flatten (fun b => m (c, b)) 70 (Proc.tc.devRef main_v54) : FVec Ideal S1x8x512x128 .f32) = tab1 _)) ?_
  · after_reads_simp
    rfl
  refine congrArg₂ List.cons (congrArg (Sigma.mk _) (?_ : (StableHlo.upto [hostOps0, hostOps0_1, hostOps0_2].flatten (fun b => m (c, b)) 70 (Proc.tc.devRef main_v55) : FVec Ideal S1x8x512x128 .f32) = tab2 _)) ?_
  · after_reads_simp
    rfl
  refine congrArg₂ List.cons (congrArg (Sigma.mk _) (?_ : (StableHlo.upto [hostOps0, hostOps0_1, hostOps0_2].flatten (fun b => m (c, b)) 70 (Proc.tc.devRef main_v56) : FVec Ideal S1x8x512x128 .f32) = tab3 _)) ?_
  · after_reads_simp
    rfl
  refine congrArg₂ List.cons (congrArg (Sigma.mk _) (?_ : (StableHlo.upto [hostOps0, hostOps0_1, hostOps0_2].flatten (fun b => m (c, b)) 70 (Proc.tc.devRef main_v57) : FVec Ideal S1x8x512x128 .f32) = tab4 _)) ?_
  · after_reads_simp
    rfl
  refine congrArg₂ List.cons (congrArg (Sigma.mk _) (?_ : (StableHlo.upto [hostOps0, hostOps0_1, hostOps0_2].flatten (fun b => m (c, b)) 70 (Proc.tc.devRef main_v58) : FVec Ideal S1x8x512x128 .f32) = tab5 _)) ?_
  · after_reads_simp
    rfl
  refine congrArg₂ List.cons (congrArg (Sigma.mk _) (?_ : (StableHlo.upto [hostOps0, hostOps0_1, hostOps0_2].flatten (fun b => m (c, b)) 70 (Proc.tc.devRef main_v59) : FVec Ideal S1x8x512x128 .f32) = tab6 _)) ?_
  · after_reads_simp
    rfl
  refine congrArg₂ List.cons (congrArg (Sigma.mk _) (?_ : (StableHlo.upto [hostOps0, hostOps0_1, hostOps0_2].flatten (fun b => m (c, b)) 70 (Proc.tc.devRef main_v60) : FVec Ideal S1x8x512x128 .f32) = tab7 _)) ?_
  · after_reads_simp
    rfl
  rfl

theorem column (k q : Fin 64) :
    IntOp.subi (IntOp.addi (IntOp.minsi (15#32) (IntOp.maxsi (4294967281#32) (IntOp.subi (BitVec.ofNat 32 k.val) (BitVec.ofNat 32 q.val)))) 16#32) 1#32
      = BitVec.ofNat 32 (min 30 (k.val + 15 - q.val)) := by
  revert k q
  decide +kernel

/-- The one stands at the difference of the columns, held between −15 and 15. -/
theorem oneHot_apply (k q : Fin 64) (d : Fin 31) :
    oneHot (ix3 k q d) = if d.val = min 30 (k.val + 15 - q.val) then (1 : EReal) else 0 := by
  unfold oneHot
  pointwise
  rw [column]
  have e : (BitVec.ofNat 32 (min 30 (k.val + 15 - q.val)) = BitVec.ofNat 32 d.val) ↔ d.val = min 30 (k.val + 15 - q.val) := by
    constructor
    · intro h
      have := congrArg BitVec.toNat h
      rw [BitVec.toNat_ofNat, BitVec.toNat_ofNat, Nat.mod_eq_of_lt (by omega), Nat.mod_eq_of_lt (by omega)] at this
      exact this.symm
    · intro h; rw [h]
  by_cases h : d.val = min 30 (k.val + 15 - q.val)
  · rw [if_pos h, e.mpr h]
    simp [IntOp.cmpi, FloatOps.uitofp]
  · rw [if_neg h]
    have h' := mt e.mp h
    simp [IntOp.cmpi, FloatOps.uitofp, h']

/-- The spread bias of a key's and a query's column is the bias of the difference of the columns. -/
theorem full_apply (rpb : FVec Ideal S16x15x31 .f32) (h : Fin 16) (r : Fin 15) (k q : Fin 64) :
    full rpb (ix4 h r k q) = rpb (ix3 h r ⟨min 30 (k.val + 15 - q.val), by omega⟩) := by
  have e : full rpb (ix4 h r k q) = ∑ x : Fin 31, (rpb (ix3 h r x) : EReal) * oneHot (ix3 k q x) := by
    unfold full
    generalize oneHot = O
    pointwise
  refine e.trans ((Finset.sum_eq_single (⟨min 30 (k.val + 15 - q.val), by omega⟩ : Fin 31) (fun x _ hx => ?_) (fun h => absurd (Finset.mem_univ _) h)).trans ?_)
  · rw [oneHot_apply, if_neg (fun h => hx (Fin.ext h)), mul_zero]
  · rw [oneHot_apply, if_pos rfl, mul_one]

/-- The table at an entry. -/
theorem table_apply (f : FVec Ideal S16x15x64x64 .f32) (o p : Fin 8) (j : Fin 512) (l : Fin 128) :
    table f (ix4 o p j l) = f (ix4 ⟨p.val * 2 + l.val / 64, by omega⟩ ⟨7 - o.val + j.val / 64, by omega⟩ ⟨j.val % 64, by omega⟩ ⟨l.val % 64, by omega⟩) := by
  match o with
  | ⟨0, _⟩ =>
    unfold table tab0 tab1 tab2 tab3 tab4 tab5 tab6 tab7
    pointwise
  | ⟨1, _⟩ =>
    unfold table tab0 tab1 tab2 tab3 tab4 tab5 tab6 tab7
    pointwise
  | ⟨2, _⟩ =>
    unfold table tab0 tab1 tab2 tab3 tab4 tab5 tab6 tab7
    pointwise
  | ⟨3, _⟩ =>
    unfold table tab0 tab1 tab2 tab3 tab4 tab5 tab6 tab7
    pointwise
  | ⟨4, _⟩ =>
    unfold table tab0 tab1 tab2 tab3 tab4 tab5 tab6 tab7
    pointwise
  | ⟨5, _⟩ =>
    unfold table tab0 tab1 tab2 tab3 tab4 tab5 tab6 tab7
    pointwise
  | ⟨6, _⟩ =>
    unfold table tab0 tab1 tab2 tab3 tab4 tab5 tab6 tab7
    pointwise
  | ⟨7, _⟩ =>
    unfold table tab0 tab1 tab2 tab3 tab4 tab5 tab6 tab7
    pointwise

end Cert.KernelIdeal.HostIn
-- ==== Proof.Equal.lean ====
/- The kernel's result and the reference's are one function of the arguments, when queries, keys and biases are numbers. -/
module

public import proofs.«01_k».proof.Proof.RefOut
public import proofs.«01_k».proof.Proof.Final
public import proofs.«01_k».proof.Proof.HostIn

@[expose] public section

set_option maxRecDepth 16384

noncomputable section

namespace Cert.Proof

open Cert.ReferenceIdeal.At Cert.KernelIdeal.Blocks Idealize.ShloMosaic

variable (x0 x1 x2 : FVec Ideal ⟨3, ![32, 2304, 1024]⟩ .f32) (x3 : FVec Ideal ⟨3, ![16, 15, 31]⟩ .f32)

theorem eighth : Ideal.ofBits .f32 0x3E000000#32 = (((8 : ℝ)⁻¹ : ℝ) : EReal) := by
  simp [Ideal.ofBits, Ideal.ieee]
  norm_num
  rw [← EReal.coe_mul]
  norm_num

theorem sc_eq : sc = ((SoftmaxMath.L : ℝ) : EReal) * (((8 : ℝ)⁻¹ : ℝ) : EReal) := EReal.coe_mul _ _

theorem col_hc (c : Fin 1024) (d : Fin 64) : col c d = hc (hd c) d := Fin.ext (by show 64 * (c.val / 64) + d.val = c.val / 64 * 64 + d.val; omega)

theorem hc_self (c : Fin 1024) : hc (hd c) (cl c) = c := Fin.ext (by show c.val / 64 * 64 + c.val % 64 = c.val; omega)

/-- The kernel's scaled score is the reference's, times the logarithm's factor. -/
theorem dot_eq (b : Fin 32) (q k : Fin 2304) (c : Fin 1024) :
    headDot (fun d => x1 (ix3 b k (col c d))) (fun d => x0 (ix3 b q (col c d))) = ((SoftmaxMath.L : ℝ) : EReal) * score x0 x1 b (hd c) q k := by
  unfold headDot score
  rw [← SoftmaxMath.coe_mul_sum _ SoftmaxMath.L_pos.le]
  refine Finset.sum_congr rfl fun d _ => ?_
  dsimp only
  rw [col_hc, eighth, sc_eq]
  ac_rfl

variable (h0 : ∀ i, ∃ r : ℝ, (x0 i : EReal) = (r : EReal)) (h1 : ∀ i, ∃ r : ℝ, (x1 i : EReal) = (r : EReal)) (h3 : ∀ i, ∃ r : ℝ, (x3 i : EReal) = (r : EReal))

include h0 h1 in
theorem score_real (b : Fin 32) (h : Fin 16) (q k : Fin 2304) : ∃ r : ℝ, score x0 x1 b h q k = (r : EReal) := by
  choose f0 e0 using h0
  choose f1 e1 using h1
  refine ⟨∑ d : Fin 64, f0 (ix3 b q (hc h d)) * 8⁻¹ * f1 (ix3 b k (hc h d)), ?_⟩
  rw [← SoftmaxMath.coe_sum]
  unfold score
  refine Finset.sum_congr rfl fun d _ => ?_
  rw [e0, e1, eighth, ← EReal.coe_mul, ← EReal.coe_mul]

include h0 h1 in
/-- A context token. -/
theorem equal_ctx (b : Fin 32) (q : Fin 256) (c : Fin 1024) :
    FA x0 x1 x2 b (ctx q) c = SoftmaxMath.softmaxMean (fun j : Fin 256 => score x0 x1 b (hd c) (ctx q) (ctx j)) fun j => x2 (ix3 b (ctx j) (hc (hd c) (cl c))) := by
  rw [hc_self]
  refine SoftmaxMath.mean_eq _ _ (fun j => ?_) 0 ?_ _ (fun j => dot_eq x0 x1 b (ctx q) (ctx j) c)
  · obtain ⟨r, e⟩ := score_real x0 x1 h0 h1 b (hd c) (ctx q) (ctx j)
    rw [e]; exact EReal.coe_ne_top r
  · obtain ⟨r, e⟩ := score_real x0 x1 h0 h1 b (hd c) (ctx q) (ctx 0)
    rw [e]; exact EReal.coe_ne_bot r

/-- The row of a latent token among all rows. -/
theorem lat_self (q : Fin 2304) (hq : ¬ q.val < 256) : lat (gr ⟨q.val - 256, by omega⟩) (gc ⟨q.val - 256, by omega⟩) = q :=
  Fin.ext (by show 256 + ((q.val - 256) / 64 * 64 + (q.val - 256) % 64) = q.val; omega)

/-- The kernel's row of the window's key is the reference's. -/
theorem row_eq (q : Fin 2304) (hq : ¬ q.val < 256) (j : Fin 512) :
    (⟨base (q.val / 64) + j.val, base_lt ⟨q.val / 64, by omega⟩ j⟩ : Fin 2304) = lat (winRow (gr ⟨q.val - 256, by omega⟩) (kRow j)) (kCol j) := by
  refine Fin.ext ?_
  show 256 + 64 * min 24 (q.val / 64 - 8) + j.val = 256 + ((min 24 ((q.val - 256) / 64 - 4) + j.val / 64) * 64 + j.val % 64)
  omega

/-- The kernel's bias is the reference's. -/
theorem bias_eq (q : Fin 2304) (hq : ¬ q.val < 256) (c : Fin 1024) (j : Fin 512) :
    Cert.KernelIdeal.HostIn.table (Cert.KernelIdeal.HostIn.full x3) (ix4 ⟨above (q.val / 64), above_lt q⟩ ⟨c.val / 128, by omega⟩ j ⟨64 * (c.val / 64 % 2) + q.val % 64, by omega⟩)
      = biasAt x3 (hd c) (gr ⟨q.val - 256, by omega⟩) (gc ⟨q.val - 256, by omega⟩) (kRow j) (kCol j) := by
  rw [Cert.KernelIdeal.HostIn.table_apply, Cert.KernelIdeal.HostIn.full_apply]
  unfold biasAt
  have e1 : c.val / 128 * 2 + (64 * (c.val / 64 % 2) + q.val % 64) / 64 = c.val / 64 := by omega
  have e2 : 7 - above (q.val / 64) + j.val / 64 = first (gr ⟨q.val - 256, by omega⟩) + (kRow j).val + 7 - (gr ⟨q.val - 256, by omega⟩).val := by
    show 7 - ((q.val / 64 - 4) - min 24 (q.val / 64 - 8)) + j.val / 64 = min 24 ((q.val - 256) / 64 - 4) + j.val / 64 + 7 - (q.val - 256) / 64
    omega
  have e3 : min 30 (j.val % 64 + 15 - (64 * (c.val / 64 % 2) + q.val % 64) % 64) = min 30 ((kCol j).val + 15 - (gc ⟨q.val - 256, by omega⟩).val) := by
    show min 30 (j.val % 64 + 15 - (64 * (c.val / 64 % 2) + q.val % 64) % 64) = min 30 (j.val % 64 + 15 - (q.val - 256) % 64)
    omega
  refine congrArg x3 ?_
  funext a
  match a with
  | ⟨0, _⟩ => exact Fin.ext e1
  | ⟨1, _⟩ => exact Fin.ext e2
  | ⟨2, _⟩ => exact Fin.ext e3

theorem bot_add' (a : EReal) : a + ⊥ * ((SoftmaxMath.L : ℝ) : EReal) = ((SoftmaxMath.L : ℝ) : EReal) * ⊥ := by
  rw [mul_comm, EReal.coe_mul_bot_of_pos SoftmaxMath.L_pos, EReal.add_bot]

include h0 h1 h3 in
/-- A latent token. -/
theorem equal_lat (b : Fin 32) (q : Fin 2304) (hq : ¬ q.val < 256) (c : Fin 1024) :
    FB x0 x1 x2 (Cert.KernelIdeal.HostIn.table (Cert.KernelIdeal.HostIn.full x3)) b q c
      = SoftmaxMath.softmaxMean (scores x0 x1 x3 b (hd c) (gr ⟨q.val - 256, by omega⟩) (gc ⟨q.val - 256, by omega⟩)) (valuesL x2 b (hd c) (gr ⟨q.val - 256, by omega⟩) (cl c)) := by
  have hv : valuesL x2 b (hd c) (gr ⟨q.val - 256, by omega⟩) (cl c) = Sum.elim (fun j : Fin 256 => (x2 (ix3 b ⟨j.val, by omega⟩ c) : EReal))
      fun j : Fin 512 => x2 (ix3 b ⟨base (q.val / 64) + j.val, base_lt ⟨q.val / 64, by omega⟩ j⟩ c) := by
    unfold valuesL
    rw [hc_self]
    refine congrArg₂ Sum.elim rfl (funext fun j => ?_)
    rw [row_eq q hq j]
  rw [hv]
  refine SoftmaxMath.mean_eq _ _ (fun i => ?_) (.inl 0) ?_ _ (fun i => ?_)
  · rcases i with j | j
    · obtain ⟨r, e⟩ := score_real x0 x1 h0 h1 b (hd c) (lat (gr ⟨q.val - 256, by omega⟩) (gc ⟨q.val - 256, by omega⟩)) (ctx j)
      show score x0 x1 b (hd c) (lat (gr ⟨q.val - 256, by omega⟩) (gc ⟨q.val - 256, by omega⟩)) (ctx j) ≠ ⊤
      rw [e]; exact EReal.coe_ne_top r
    · show scoreL x0 x1 x3 b (hd c) (gr ⟨q.val - 256, by omega⟩) (gc ⟨q.val - 256, by omega⟩) (kRow j) (kCol j) ≠ ⊤
      unfold scoreL
      split
      · obtain ⟨r, e⟩ := score_real x0 x1 h0 h1 b (hd c) (lat (gr ⟨q.val - 256, by omega⟩) (gc ⟨q.val - 256, by omega⟩)) (lat (winRow (gr ⟨q.val - 256, by omega⟩) (kRow j)) (kCol j))
        obtain ⟨s, e'⟩ : ∃ s : ℝ, biasAt x3 (hd c) (gr ⟨q.val - 256, by omega⟩) (gc ⟨q.val - 256, by omega⟩) (kRow j) (kCol j) = (s : EReal) := by unfold biasAt; exact h3 _
        rw [e, e', ← EReal.coe_add]; exact EReal.coe_ne_top _
      · exact bot_ne_top
  · obtain ⟨r, e⟩ := score_real x0 x1 h0 h1 b (hd c) (lat (gr ⟨q.val - 256, by omega⟩) (gc ⟨q.val - 256, by omega⟩)) (ctx 0)
    show score x0 x1 b (hd c) (lat (gr ⟨q.val - 256, by omega⟩) (gc ⟨q.val - 256, by omega⟩)) (ctx 0) ≠ ⊥
    rw [e]; exact EReal.coe_ne_bot r
  · rcases i with j | j
    · show headDot (fun d => x1 (ix3 b (ctx j) (col c d))) (fun d => x0 (ix3 b q (col c d)))
        = ((SoftmaxMath.L : ℝ) : EReal) * score x0 x1 b (hd c) (lat (gr ⟨q.val - 256, by omega⟩) (gc ⟨q.val - 256, by omega⟩)) (ctx j)
      rw [lat_self q hq]
      exact dot_eq x0 x1 b q (ctx j) c
    · show headDot (fun d => x1 (ix3 b ⟨base (q.val / 64) + j.val, _⟩ (col c d))) (fun d => x0 (ix3 b q (col c d)))
          + (if ColMask (j.val % 64) (q.val % 64) then Cert.KernelIdeal.HostIn.table (Cert.KernelIdeal.HostIn.full x3) (ix4 ⟨above (q.val / 64), _⟩ ⟨c.val / 128, _⟩ j
            ⟨64 * (c.val / 64 % 2) + q.val % 64, _⟩) else ⊥) * ((SoftmaxMath.L : ℝ) : EReal)
        = ((SoftmaxMath.L : ℝ) : EReal) * scoreL x0 x1 x3 b (hd c) (gr ⟨q.val - 256, by omega⟩) (gc ⟨q.val - 256, by omega⟩) (kRow j) (kCol j)
      rw [row_eq q hq j, bias_eq x3 q hq c j, dot_eq]
      unfold scoreL
      rw [lat_self q hq]
      have em : (gc ⟨q.val - 256, by omega⟩).val = q.val % 64 := by
        show (q.val - 256) % 64 = q.val % 64
        omega
      rw [em]
      show _ + (if ColMask (kCol j).val (q.val % 64) then _ else ⊥) * _ = _
      split
      · rw [EReal.left_distrib_of_nonneg_of_ne_top (EReal.coe_nonneg.mpr SoftmaxMath.L_pos.le) (EReal.coe_ne_top _)]
        exact congrArg₂ (· + ·) rfl (mul_comm _ _)
      · exact bot_add' _

include h0 h1 h3 in
/-- The reference's result is the kernel's function of the arguments. -/
theorem equal : Cert.ReferenceIdeal.Read.val_main_v145 (F := Ideal) x0 x1 x2 x3
    = FK x0 x1 x2 (Cert.KernelIdeal.HostIn.table (Cert.KernelIdeal.HostIn.full x3)) := by
  funext y
  obtain ⟨b, q, c, rfl⟩ : ∃ (b : Fin 32) (q : Fin 2304) (c : Fin 1024), y = ix3 b q c := ⟨y 0, y 1, y 2, eq_ix3 y⟩
  unfold FK
  by_cases hq : q.val < 256
  · refine ((out_ctx x0 x1 x2 x3 b q hq c).trans (context x0 x1 x2 b ⟨q.val, hq⟩ c)).trans (Eq.trans ?_ (if_pos hq).symm)
    exact (equal_ctx x0 x1 x2 h0 h1 b ⟨q.val, hq⟩ c).symm
  · refine ((out_lat x0 x1 x2 x3 b q hq c).trans (latent x0 x1 x2 x3 b ⟨q.val - 256, by omega⟩ c)).trans (Eq.trans ?_ (if_neg hq).symm)
    exact (equal_lat x0 x1 x2 x3 h0 h1 h3 b q hq c).symm

end Cert.Proof
-- ==== Proof.Finite.lean ====
/- What the precondition says: an array all of whose absolute values lie below infinity holds real numbers. -/
module

public import proofs.«01_k».proof.Proof.SoftmaxMath
public import Idealize.ShloMosaic.Lib.StableHlo
public import Idealize.ShloMosaic.PureOps

@[expose] public section

noncomputable section

namespace Cert.Finite

open Idealize.ShloMosaic

/-- The bits of the 32-bit infinity read as the greatest extended real. -/
theorem inf_bits : Ideal.ofBits .f32 0x7F800000#32 = (⊤ : EReal) := by
  simp [Ideal.ofBits, Ideal.ieee]

/-- An array whose entries all compare, in absolute value, below infinity has a real number at each index. -/
theorem real {s : Shape} (b : (⟨0, ![]⟩ : Shape).BroadcastsInDim s (![] : Fin 0 → Fin s.rank)) (x : FVec Ideal s .f32)
    (h : cmpf .olt (Host.absf x) (broadcastInDim s ![] b (constant (F := Ideal) ⟨0, ![]⟩ .f32 0x7F800000#32)) = fun _ => 1#1)
    (i : s.Idx) : ∃ r : ℝ, (x i : EReal) = r := by
  have e : BitVec.ofBool (decide ((max (x i) (-(x i) : EReal) : EReal) < Ideal.ofBits .f32 0x7F800000#32)) = 1#1 := congrFun h i
  rw [inf_bits] at e
  have l : (max (x i) (-(x i) : EReal) : EReal) < ⊤ := by
    by_contra g
    rw [decide_eq_false g] at e
    exact absurd e (by decide)
  refine Cert.SoftmaxMath.real_of (fun t => ?_) (fun t => ?_)
  · rw [show (x i : EReal) = ⊤ from t] at l; simp at l
  · rw [show (x i : EReal) = ⊥ from t] at l; simp at l

end Cert.Finite

end
-- ==== Proof.FfnBlocks.lean ====
/- What the feed-forward kernel leaves in a block of its result. -/
module

public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Kernel2Ideal.Blocks

open Cert.Kernel2Ideal Cert.Kernel2Ideal.Gen Idealize.ShloMosaic Idealize.ShloMosaic.TcCoe Idealize.SL.Sem

variable (m : (ℓ : Loc nD τ sig) → Buf (Elt Ideal) ℓ)

theorem rows_inb (o : ℕ) (ho : o + 256 ≤ 272) (a : Fin 3) : (![0, o, 0] : Fin 3 → Nat) a + (![1, 256, 256] : Fin 3 → Nat) a ≤ S1x272x256.size a := by
  fin_cases a <;> simp [S1x272x256] <;> omega

/-- The 256 rows of a chunk's 272 from row `o` on. -/
def rows (o : ℕ) (ho : o + 256 ≤ 272) (w : Vec Ideal S1x272x256 .f32) : Vec Ideal S1x256x256 .f32 :=
  View.ld w (Rect.unit (s := S1x272x256) ![0, o, 0] ![1, 256, 256] (rows_inb o ho))

/-- A load of 256 rows of the chunk stored last reads those rows of it. -/
theorem readCov_rows (v : View sig .tc .vmem S11x272x256 .f32) (c o : ℕ) (ho : o + 256 ≤ 272)
    (h : ∀ a, (![c, 0, 0] : Fin 3 → Nat) a + (![1, 272, 256] : Fin 3 → Nat) a ≤ S11x272x256.size a)
    (h' : ∀ a, (![c, o, 0] : Fin 3 → Nat) a + (![1, 256, 256] : Fin 3 → Nat) a ≤ S11x272x256.size a)
    (w : Vec Ideal S1x272x256 .f32) (L : List (View.Piece (Elt Ideal) S11x272x256 .f32)) :
    v.readCov ((⟨Rect.unit (s := S11x272x256) ![c, 0, 0] ![1, 272, 256] h, w⟩ : View.Piece (Elt Ideal) S11x272x256 .f32) :: L)
      (Rect.unit (s := S11x272x256) ![c, o, 0] ![1, 256, 256] h').toLoadRect = rows o ho w := by
  rw [View.readCov_eq_canon']
  funext j
  have e : (Rect.unit (s := S11x272x256) ![c, o, 0] ![1, 256, 256] h').toLoadRect.idx j
      = (Rect.unit (s := S11x272x256) ![c, 0, 0] ![1, 272, 256] h).emb ((Rect.unit (s := S1x272x256) ![0, o, 0] ![1, 256, 256] (rows_inb o ho)).emb j) := by
    funext a
    apply Fin.ext
    fin_cases a <;> simp [Rect.toLoadRect, LoadRect.idx, Rect.emb, Rect.unit]
  rw [e, View.canon_cons_emb]
  rfl

theorem cols_inb (o : ℕ) (ho : o + 256 ≤ 5632) (a : Fin 2) : (![0, o] : Fin 2 → Nat) a + (![1024, 256] : Fin 2 → Nat) a ≤ S1024x5632.size a := by
  fin_cases a <;> simp [S1024x5632] <;> omega

theorem taps_inb (o : ℕ) (ho : o + 256 ≤ 5632) (a : Fin 2) : (![0, o] : Fin 2 → Nat) a + (![3, 256] : Fin 2 → Nat) a ≤ S3x5632.size a := by
  fin_cases a <;> simp [S3x5632] <;> omega

/-- 256 columns of the up-projection's weights. -/
def cols (X5 : Vec Ideal S1024x5632 .bf16) (o : ℕ) (ho : o + 256 ≤ 5632) : Vec Ideal S1024x256 .bf16 :=
  View.ld X5 (Rect.unit (s := S1024x5632) ![0, o] ![1024, 256] (cols_inb o ho))

/-- The convolution's three taps for 256 columns. -/
def taps (X6 : Vec Ideal S3x5632 .f32) (o : ℕ) (ho : o + 256 ≤ 5632) : Vec Ideal S3x256 .f32 :=
  View.ld X6 (Rect.unit (s := S3x5632) ![0, o] ![3, 256] (taps_inb o ho))

/-- The normed rows that a step works on: those of its block, eight before them and eight after. -/
def normed (i : grid0.Coords) (X0 : Vec Ideal S1x256x1024 .f32) (X1 X2 : Vec Ideal S1x8x1024 .f32) (X3 : Vec Ideal S1x1x6x1024 .f32)
    (X4 : Vec Ideal S1x1024 .f32) : FVec Ideal S272x1024 .bf16 :=
  k0_pay12 (k0_pay4 X3) (k0_pay5 X3) (k0_pay8 X4) (k0_pay9 X0 X1 X2) (k0_pay10 i) (k0_pay11 X0 X1 X2) (FloatOps.ofBits FTy.f32 897988541#32)

/-- What the kernel keeps of 256 hidden columns: their gated activation. -/
def chunk (H : FVec Ideal S272x1024 .bf16) (wa wg : Vec Ideal S1024x256 .bf16) (ca cg : Vec Ideal S3x256 .f32) : FVec Ideal S256x256 .bf16 :=
  k0_pay22 (k0_pay21 ca (rows 7 (by decide) (k0_pay19 H wa)) (rows 8 (by decide) (k0_pay19 H wa)) (rows 9 (by decide) (k0_pay19 H wa)))
    cg (rows 7 (by decide) (k0_pay20 H wg)) (rows 8 (by decide) (k0_pay20 H wg)) (rows 9 (by decide) (k0_pay20 H wg))

/-- The eleven chunks of hidden columns, as stored. -/
def pieces (H : FVec Ideal S272x1024 .bf16) (X5 : Vec Ideal S1024x5632 .bf16) (X6 : Vec Ideal S3x5632 .f32) :
    List (View.Piece (Elt Ideal) S256x2816 .bf16) :=
  [⟨(Rect.unit (s := S256x2816) ![0, 2560] ![256, 256] inb_S256x2816_S256x256_0_2560), chunk H (cols X5 2560 (by decide)) (cols X5 5376 (by decide)) (taps X6 2560 (by decide)) (taps X6 5376 (by decide))⟩,
   ⟨(Rect.unit (s := S256x2816) ![0, 2304] ![256, 256] inb_S256x2816_S256x256_0_2304), chunk H (cols X5 2304 (by decide)) (cols X5 5120 (by decide)) (taps X6 2304 (by decide)) (taps X6 5120 (by decide))⟩,
   ⟨(Rect.unit (s := S256x2816) ![0, 2048] ![256, 256] inb_S256x2816_S256x256_0_2048), chunk H (cols X5 2048 (by decide)) (cols X5 4864 (by decide)) (taps X6 2048 (by decide)) (taps X6 4864 (by decide))⟩,
   ⟨(Rect.unit (s := S256x2816) ![0, 1792] ![256, 256] inb_S256x2816_S256x256_0_1792), chunk H (cols X5 1792 (by decide)) (cols X5 4608 (by decide)) (taps X6 1792 (by decide)) (taps X6 4608 (by decide))⟩,
   ⟨(Rect.unit (s := S256x2816) ![0, 1536] ![256, 256] inb_S256x2816_S256x256_0_1536), chunk H (cols X5 1536 (by decide)) (cols X5 4352 (by decide)) (taps X6 1536 (by decide)) (taps X6 4352 (by decide))⟩,
   ⟨(Rect.unit (s := S256x2816) ![0, 1280] ![256, 256] inb_S256x2816_S256x256_0_1280), chunk H (cols X5 1280 (by decide)) (cols X5 4096 (by decide)) (taps X6 1280 (by decide)) (taps X6 4096 (by decide))⟩,
   ⟨(Rect.unit (s := S256x2816) ![0, 1024] ![256, 256] inb_S256x2816_S256x256_0_1024), chunk H (cols X5 1024 (by decide)) (cols X5 3840 (by decide)) (taps X6 1024 (by decide)) (taps X6 3840 (by decide))⟩,
   ⟨(Rect.unit (s := S256x2816) ![0, 768] ![256, 256] inb_S256x2816_S256x256_0_768), chunk H (cols X5 768 (by decide)) (cols X5 3584 (by decide)) (taps X6 768 (by decide)) (taps X6 3584 (by decide))⟩,
   ⟨(Rect.unit (s := S256x2816) ![0, 512] ![256, 256] inb_S256x2816_S256x256_0_512), chunk H (cols X5 512 (by decide)) (cols X5 3328 (by decide)) (taps X6 512 (by decide)) (taps X6 3328 (by decide))⟩,
   ⟨(Rect.unit (s := S256x2816) ![0, 256] ![256, 256] inb_S256x2816_S256x256_0_256), chunk H (cols X5 256 (by decide)) (cols X5 3072 (by decide)) (taps X6 256 (by decide)) (taps X6 3072 (by decide))⟩,
   ⟨(Rect.unit (s := S256x2816) ![0, 0] ![256, 256] inb_S256x2816_S256x256_0_0), chunk H (cols X5 0 (by decide)) (cols X5 2816 (by decide)) (taps X6 0 (by decide)) (taps X6 2816 (by decide))⟩]

set_option maxHeartbeats 1000000 in
/-- A block of the result is left as the down-projection of the eleven chunks, gated and added to the block's rows. -/
theorem after (c : Dev nD) (t : Fin cfg0.N) :
    (dats m 0 c).after 8 t
      = k0_pay2 (k0_pay6 (iblk m c 3 t)) (k0_pay7 (iblk m c 0 t))
          (View.canon (pieces (normed (grid0.coords t) (iblk m c 0 t) (iblk m c 1 t) (iblk m c 2 t) (iblk m c 3 t) (iblk m c 4 t)) (iblk m c 5 t) (iblk m c 6 t)))
          (iblk m c 7 t) := by
  rw [after0_8, Gen.outsAt0]
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  frame_open
  simp (disch := decide) only [↓ View.readCov_skip, ↓ View.readCov_cons_toLoadRect, ↓ View.readCov_fill]
  frame_out
  simp (disch := first | decide | omega) only [readCov_rows, View.readCov_cons_toLoadRect]
  rw [View.readCov_eq_canon']
  refine congrArg₂ (k0_pay2 (k0_pay6 X3) (k0_pay7 X0)) ?_ ?_
  · funext j
    have e : (Rect.unit (s := S256x2816) ![0, 0] ![256, 2816] inb_S256x2816_S256x2816_0_0).toLoadRect.idx j = j := by
      funext a
      apply Fin.ext
      fin_cases a <;> simp [Rect.toLoadRect, LoadRect.idx, Rect.unit]
    refine (congrArg _ e).trans ?_
    unfold pieces
    rfl
  · rfl

end Cert.Kernel2Ideal.Blocks
-- ==== Proof.FfnRead.lean ====
/- The feed-forward kernel's values, element by element. -/
module

public import proofs.«01_k».proof.Proof.FfnBlocks
public import proofs.«01_k».proof.Proof.FfnSpec
public import proofs.«01_k».proof.Proof.Sigmoid
public import Idealize.ShloMosaic.Lib.Pointwise
public import Idealize.ShloMosaic.Lib.ValueIdx

@[expose] public section

set_option maxRecDepth 16384

noncomputable section

namespace Cert.Kernel2Ideal.Blocks

open Cert.Kernel2Ideal Cert.Kernel2Ideal.Gen Idealize.ShloMosaic Idealize.ShloMosaic.TcCoe Idealize.SL.Sem

/-- A row of the up-projection at one column. -/
theorem up_apply (H : FVec Ideal S272x1024 .bf16) (w : Vec Ideal S1024x256 .bf16) (e : Fin 272) (f : Fin 256) :
    (k0_pay19 H w (ix3 0 e f) : EReal) = ∑ k : Fin 1024, (H (ix2 e k) : EReal) * w (ix2 k f) := by
  unfold k0_pay19
  pointwise

/-- The same of the gate's half. -/
theorem up_apply' (H : FVec Ideal S272x1024 .bf16) (w : Vec Ideal S1024x256 .bf16) (e : Fin 272) (f : Fin 256) :
    (k0_pay20 H w (ix3 0 e f) : EReal) = ∑ k : Fin 1024, (H (ix2 e k) : EReal) * w (ix2 k f) := by
  unfold k0_pay20
  pointwise

/-- Row `r` of the rows from `o` on is row `o + r`. -/
theorem rows_apply (o : ℕ) (ho : o + 256 ≤ 272) (w : Vec Ideal S1x272x256 .f32) (r f : Fin 256) :
    rows o ho w (ix3 0 r f) = w (ix3 0 ⟨o + r.val, by omega⟩ f) := by
  unfold rows
  refine View.ld_unit_apply_of _ _ _ _ _ _ fun a => ?_
  fin_cases a <;> simp [ix3]

/-- The convolution of three rows. -/
theorem conv_apply (c : Vec Ideal S3x256 .f32) (u v w : Vec Ideal S1x256x256 .f32) (r f : Fin 256) :
    (k0_pay21 c u v w (ix2 r f) : EReal) = c (ix2 0 f) * u (ix3 0 r f) + c (ix2 1 f) * v (ix3 0 r f) + c (ix2 2 f) * w (ix3 0 r f) := by
  unfold k0_pay21
  pointwise

/-- The gated product. -/
theorem act_apply (a : FVec Ideal S256x256 .f32) (c : Vec Ideal S3x256 .f32) (u v w : Vec Ideal S1x256x256 .f32) (r f : Fin 256) :
    (k0_pay22 a c u v w (ix2 r f) : EReal) = Cert.Ffn.gated (a (ix2 r f)) (k0_pay21 c u v w (ix2 r f)) := by
  unfold Cert.Ffn.gated
  rw [← Cert.Sigmoid.sigmoid]
  unfold k0_pay22 k0_pay21
  pointwise

/-- The down-projection, gated and added to the block's rows. -/
theorem out_apply (g : FVec Ideal S1x1024 .f32) (x : FVec Ideal S256x1024 .f32) (a : FVec Ideal S256x2816 .bf16) (w : Vec Ideal S2816x1024 .bf16) (r : Fin 256) (d : Fin 1024) :
    (k0_pay2 g x a w (ix3 0 r d) : EReal) = x (ix2 r d) + g (ix2 0 d) * ∑ k : Fin 2816, (a (ix2 r k) : EReal) * w (ix2 k d) := by
  unfold k0_pay2
  pointwise

/-- The convolution over the normed rows of a step, at one of the 5632 hidden columns. -/
def cv (H : FVec Ideal S272x1024 .bf16) (X5 : Vec Ideal S1024x5632 .bf16) (X6 : Vec Ideal S3x5632 .f32) (r : Fin 256) (f : Fin 5632) : EReal :=
  (X6 (ix2 0 f) : EReal) * (∑ k : Fin 1024, (H (ix2 ⟨7 + r.val, by omega⟩ k) : EReal) * X5 (ix2 k f))
    + (X6 (ix2 1 f) : EReal) * (∑ k : Fin 1024, (H (ix2 ⟨8 + r.val, by omega⟩ k) : EReal) * X5 (ix2 k f))
    + (X6 (ix2 2 f) : EReal) * (∑ k : Fin 1024, (H (ix2 ⟨9 + r.val, by omega⟩ k) : EReal) * X5 (ix2 k f))

theorem cols_apply (X5 : Vec Ideal S1024x5632 .bf16) (o : ℕ) (ho : o + 256 ≤ 5632) (k : Fin 1024) (f : Fin 256) :
    cols X5 o ho (ix2 k f) = X5 (ix2 k ⟨o + f.val, by omega⟩) := by
  unfold cols
  refine View.ld_unit_apply_of _ _ _ _ _ _ fun a => ?_
  fin_cases a <;> simp [ix2]

theorem taps_apply (X6 : Vec Ideal S3x5632 .f32) (o : ℕ) (ho : o + 256 ≤ 5632) (k : Fin 3) (f : Fin 256) :
    taps X6 o ho (ix2 k f) = X6 (ix2 k ⟨o + f.val, by omega⟩) := by
  unfold taps
  refine View.ld_unit_apply_of _ _ _ _ _ _ fun a => ?_
  fin_cases a <;> simp [ix2]

/-- An element of a chunk. -/
theorem chunk_apply (H : FVec Ideal S272x1024 .bf16) (X5 : Vec Ideal S1024x5632 .bf16) (X6 : Vec Ideal S3x5632 .f32) (o : ℕ) (ho : o + 256 ≤ 2816)
    (h1 : o + 256 ≤ 5632) (h2 : o + 2816 + 256 ≤ 5632) (r f : Fin 256) :
    (chunk H (cols X5 o h1) (cols X5 (o + 2816) h2) (taps X6 o h1) (taps X6 (o + 2816) h2) (ix2 r f) : EReal)
      = Cert.Ffn.gated (cv H X5 X6 r ⟨o + f.val, by omega⟩) (cv H X5 X6 r ⟨o + 2816 + f.val, by omega⟩) := by
  unfold chunk
  rw [act_apply, conv_apply, conv_apply]
  simp only [rows_apply, up_apply, up_apply', cols_apply, taps_apply]
  rfl

/-- The activations of a step, at a row and a hidden column. -/
def acts (H : FVec Ideal S272x1024 .bf16) (X5 : Vec Ideal S1024x5632 .bf16) (X6 : Vec Ideal S3x5632 .f32) : FVec Ideal S256x2816 .bf16 :=
  fun y => Cert.Ffn.gated (cv H X5 X6 (y 0) (Cert.Ffn.lower (y 1))) (cv H X5 X6 (y 0) (Cert.Ffn.upper (y 1)))

theorem piece_apply (H : FVec Ideal S272x1024 .bf16) (X5 : Vec Ideal S1024x5632 .bf16) (X6 : Vec Ideal S3x5632 .f32) (o o' : ℕ) (ho : o + 256 ≤ 2816)
    (e : o' = o + 2816) (h1 : o + 256 ≤ 5632) (h2 : o' + 256 ≤ 5632)
    (hq : ∀ a, (![0, o] : Fin 2 → Nat) a + (![256, 256] : Fin 2 → Nat) a ≤ S256x2816.size a) (x : S256x256.Idx) :
    chunk H (cols X5 o h1) (cols X5 o' h2) (taps X6 o h1) (taps X6 o' h2) x
      = acts H X5 X6 ((Rect.unit (s := S256x2816) ![0, o] ![256, 256] hq).emb x) := by
  subst e
  have ex : x = ix2 (x 0) (x 1) := by funext a; fin_cases a <;> rfl
  rw [ex]
  refine (chunk_apply H X5 X6 o ho h1 h2 (x 0) (x 1)).trans ?_
  unfold acts
  refine congrArg₂ Cert.Ffn.gated (congrArg₂ (cv H X5 X6) ?_ ?_) (congrArg₂ (cv H X5 X6) ?_ ?_)
  all_goals
    apply Fin.ext
    simp [Rect.emb, Rect.unit, Cert.Ffn.lower, Cert.Ffn.upper, ix2]
  all_goals omega

theorem mem_piece (o : ℕ) (hq : ∀ a, (![0, o] : Fin 2 → Nat) a + (![256, 256] : Fin 2 → Nat) a ≤ S256x2816.size a) (y : S256x2816.Idx)
    (h : o ≤ (y 1).val) (h' : (y 1).val < o + 256) : y ∈ (Rect.unit (s := S256x2816) ![0, o] ![256, 256] hq).set := by
  have h0 : (y 0).val < 256 := (y 0).isLt
  refine Rect.mem_set_unit.mpr fun a => ?_
  fin_cases a
  · exact ⟨Nat.zero_le _, by simpa using h0⟩
  · exact ⟨h, h'⟩

/-- The eleven chunks together are the activations. -/
theorem canon_pieces (H : FVec Ideal S272x1024 .bf16) (X5 : Vec Ideal S1024x5632 .bf16) (X6 : Vec Ideal S3x5632 .f32) :
    View.canon (pieces H X5 X6) = acts H X5 X6 := by
  funext y
  refine View.canon_apply_of_pieces (Val := Elt Ideal) (e := .bf16) (acts H X5 X6) _ ?_ y ?_
  · unfold pieces
    simp only [List.forall_mem_cons]
    refine ⟨?_, ?_, ?_, ?_, ?_, ?_, ?_, ?_, ?_, ?_, ?_, fun _ h => absurd h List.not_mem_nil⟩
    all_goals exact fun x => piece_apply H X5 X6 _ _ (by norm_num) (by norm_num) _ _ _ x
  · have h2 : (y 1).val < 2816 := (y 1).isLt
    rcases (by omega : (0 ≤ (y 1).val ∧ (y 1).val < 0 + 256) ∨ (256 ≤ (y 1).val ∧ (y 1).val < 256 + 256) ∨ (512 ≤ (y 1).val ∧ (y 1).val < 512 + 256) ∨ (768 ≤ (y 1).val ∧ (y 1).val < 768 + 256) ∨ (1024 ≤ (y 1).val ∧ (y 1).val < 1024 + 256) ∨ (1280 ≤ (y 1).val ∧ (y 1).val < 1280 + 256) ∨ (1536 ≤ (y 1).val ∧ (y 1).val < 1536 + 256) ∨ (1792 ≤ (y 1).val ∧ (y 1).val < 1792 + 256) ∨ (2048 ≤ (y 1).val ∧ (y 1).val < 2048 + 256) ∨ (2304 ≤ (y 1).val ∧ (y 1).val < 2304 + 256) ∨ (2560 ≤ (y 1).val ∧ (y 1).val < 2560 + 256)) with h | h | h | h | h | h | h | h | h | h | h
    · exact ⟨_, .tail _ (.tail _ (.tail _ (.tail _ (.tail _ (.tail _ (.tail _ (.tail _ (.tail _ (.tail _ (.head _)))))))))), mem_piece 0 inb_S256x2816_S256x256_0_0 y h.1 h.2⟩
    · exact ⟨_, .tail _ (.tail _ (.tail _ (.tail _ (.tail _ (.tail _ (.tail _ (.tail _ (.tail _ (.head _))))))))), mem_piece 256 inb_S256x2816_S256x256_0_256 y h.1 h.2⟩
    · exact ⟨_, .tail _ (.tail _ (.tail _ (.tail _ (.tail _ (.tail _ (.tail _ (.tail _ (.head _)))))))), mem_piece 512 inb_S256x2816_S256x256_0_512 y h.1 h.2⟩
    · exact ⟨_, .tail _ (.tail _ (.tail _ (.tail _ (.tail _ (.tail _ (.tail _ (.head _))))))), mem_piece 768 inb_S256x2816_S256x256_0_768 y h.1 h.2⟩
    · exact ⟨_, .tail _ (.tail _ (.tail _ (.tail _ (.tail _ (.tail _ (.head _)))))), mem_piece 1024 inb_S256x2816_S256x256_0_1024 y h.1 h.2⟩
    · exact ⟨_, .tail _ (.tail _ (.tail _ (.tail _ (.tail _ (.head _))))), mem_piece 1280 inb_S256x2816_S256x256_0_1280 y h.1 h.2⟩
    · exact ⟨_, .tail _ (.tail _ (.tail _ (.tail _ (.head _)))), mem_piece 1536 inb_S256x2816_S256x256_0_1536 y h.1 h.2⟩
    · exact ⟨_, .tail _ (.tail _ (.tail _ (.head _))), mem_piece 1792 inb_S256x2816_S256x256_0_1792 y h.1 h.2⟩
    · exact ⟨_, .tail _ (.tail _ (.head _)), mem_piece 2048 inb_S256x2816_S256x256_0_2048 y h.1 h.2⟩
    · exact ⟨_, .tail _ (.head _), mem_piece 2304 inb_S256x2816_S256x256_0_2304 y h.1 h.2⟩
    · exact ⟨_, .head _, mem_piece 2560 inb_S256x2816_S256x256_0_2560 y h.1 h.2⟩

end Cert.Kernel2Ideal.Blocks
end
-- ==== Proof.FfnRows.lean ====
/- The normed rows of a step of the feed-forward kernel: its own 256, the one before and the one after. -/
module

public import proofs.«01_k».proof.Proof.FfnRead

@[expose] public section

set_option maxRecDepth 16384

noncomputable section

namespace Cert.Kernel2Ideal.Blocks

open Cert.Kernel2Ideal Cert.Kernel2Ideal.Gen Idealize.ShloMosaic Idealize.ShloMosaic.TcCoe Idealize.SL.Sem

variable (i : grid0.Coords) (X0 : Vec Ideal S1x256x1024 .f32) (X1 X2 : Vec Ideal S1x8x1024 .f32) (X3 : Vec Ideal S1x1x6x1024 .f32)
    (X4 : Vec Ideal S1x1024 .f32)

/-- A row normed with the step's scale and shift. -/
def rowOf (x : Fin 1024 → EReal) (k : Fin 1024) : EReal :=
  Cert.Ffn.nrm x (fun k => X4 (ix2 0 k)) (fun k => X3 (ix4 0 0 4 k)) (fun k => X3 (ix4 0 0 3 k)) k

/-- A row of the scratch: the row before it normed, times one or zero. -/
theorem normed_apply (e : Fin 272) (k : Fin 1024) :
    (normed i X0 X1 X2 X3 X4 (ix2 e k) : EReal)
      = rowOf X3 X4 (fun k => k0_pay9 X0 X1 X2 (ix2 e k)) k * FloatOps.sitofp (F := Ideal) FTy.f32 (BitVec.setWidth 32 (k0_pay10 i (ix2 e 0))) := by
  unfold normed k0_pay12 k0_pay11 k0_pay4 k0_pay5 k0_pay8 k0_pay3 rowOf Cert.Ffn.nrm Cert.Ffn.scale
  pointwise

theorem raw_before (k : Fin 1024) : (k0_pay9 X0 X1 X2 (ix2 7 k) : EReal) = X1 (ix3 0 7 k) := by
  unfold k0_pay9
  pointwise

theorem raw_after (k : Fin 1024) : (k0_pay9 X0 X1 X2 (ix2 264 k) : EReal) = X2 (ix3 0 0 k) := by
  unfold k0_pay9
  pointwise

theorem block_apply (r : Fin 256) (k : Fin 1024) : (k0_pay7 X0 (ix2 r k) : EReal) = X0 (ix3 0 r k) := by
  unfold k0_pay7
  pointwise

theorem raw_in (r : Fin 256) (k : Fin 1024) : (k0_pay9 X0 X1 X2 (ix2 ⟨8 + r.val, by omega⟩ k) : EReal) = X0 (ix3 0 r k) := by
  unfold k0_pay9
  pointwise
  exact block_apply X0 r k

theorem mask_in (i : grid0.Coords) (r : Fin 256) : k0_pay10 i (ix2 (n0 := 272) ⟨8 + r.val, by omega⟩ 0) = 1#1 := by
  unfold k0_pay10
  pointwise
  generalize i 1 = t
  revert t r
  decide +kernel

theorem mask_before (i : grid0.Coords) : k0_pay10 i (ix2 (n0 := 272) 7 0) = if 2 ≤ (i 1).val then 1#1 else 0#1 := by
  unfold k0_pay10
  pointwise
  generalize i 1 = t
  revert t
  decide +kernel

theorem mask_after (i : grid0.Coords) : k0_pay10 i (ix2 (n0 := 272) 264 0) = if 1 ≤ (i 1).val ∧ (i 1).val ≤ 7 then 1#1 else 0#1 := by
  unfold k0_pay10
  pointwise
  generalize i 1 = t
  revert t
  decide +kernel

theorem one_real : FloatOps.sitofp (F := Ideal) FTy.f32 (BitVec.setWidth 32 (1#1)) = (1 : EReal) := by
  show (((BitVec.setWidth 32 (1#1)).toInt : ℝ) : EReal) = 1
  rw [show (BitVec.setWidth 32 (1#1)).toInt = 1 by decide]
  simp

theorem zero_real : FloatOps.sitofp (F := Ideal) FTy.f32 (BitVec.setWidth 32 (0#1)) = (0 : EReal) := by
  show (((BitVec.setWidth 32 (0#1)).toInt : ℝ) : EReal) = 0
  rw [show (BitVec.setWidth 32 (0#1)).toInt = 0 by decide]
  simp

/-- The step's own rows, normed. -/
theorem normed_in (r : Fin 256) (k : Fin 1024) :
    (normed i X0 X1 X2 X3 X4 (ix2 ⟨8 + r.val, by omega⟩ k) : EReal) = rowOf X3 X4 (fun k => X0 (ix3 0 r k)) k := by
  rw [normed_apply, mask_in, one_real, mul_one]
  simp only [raw_in]

/-- The row before the step's rows: zero unless the step lies inside its part of the tokens. -/
theorem normed_before (k : Fin 1024) :
    (normed i X0 X1 X2 X3 X4 (ix2 7 k) : EReal) = if 2 ≤ (i 1).val then rowOf X3 X4 (fun k => X1 (ix3 0 7 k)) k else 0 := by
  rw [normed_apply, mask_before]
  by_cases h : 2 ≤ (i 1).val
  · rw [if_pos h, if_pos h, one_real, mul_one]
    simp only [raw_before]
  · rw [if_neg h, if_neg h, zero_real, mul_zero]

/-- The row after the step's rows: zero unless the part of the tokens goes on. -/
theorem normed_after (k : Fin 1024) :
    (normed i X0 X1 X2 X3 X4 (ix2 264 k) : EReal)
      = if 1 ≤ (i 1).val ∧ (i 1).val ≤ 7 then rowOf X3 X4 (fun k => X2 (ix3 0 0 k)) k else 0 := by
  rw [normed_apply, mask_after]
  by_cases h : 1 ≤ (i 1).val ∧ (i 1).val ≤ 7
  · rw [if_pos h, if_pos h, one_real, mul_one]
    simp only [raw_after]
  · rw [if_neg h, if_neg h, zero_real, mul_zero]

theorem gate_apply (d : Fin 1024) : (k0_pay6 X3 (ix2 0 d) : EReal) = X3 (ix4 0 0 5 d) := by
  unfold k0_pay6 k0_pay3
  pointwise

end Cert.Kernel2Ideal.Blocks
end
-- ==== Proof.FfnFinal.lean ====
/- What the feed-forward kernel leaves in its result array. -/
module

public import proofs.«01_k».proof.Proof.FfnRows
public import Idealize.ShloMosaic.Lib.Claim
public import Idealize.ShloMosaic.Lib.StableHlo.ReadAt

@[expose] public section

set_option maxRecDepth 16384

noncomputable section

namespace Cert.Kernel2Ideal.Blocks

open Cert.Kernel2Ideal Cert.Kernel2Ideal.Gen Idealize.ShloMosaic Idealize.ShloMosaic.TcCoe Idealize.SL.Sem

variable (m : (ℓ : Loc nD τ sig) → Buf (Elt Ideal) ℓ)

theorem ix0 : ∀ t : Fin cfg0.N, win0_0.index t = ![(grid0.coords t 0).val, (grid0.coords t 1).val, 0] := (by decide +kernel : ∀ t : Fin grid0.N, _)
theorem ix1 : ∀ t : Fin cfg0.N, win0_1.index t = ![(grid0.coords t 0).val, 32 * (grid0.coords t 1).val - 1, 0] := (by decide +kernel : ∀ t : Fin grid0.N, _)
theorem ix2w : ∀ t : Fin cfg0.N, win0_2.index t = ![(grid0.coords t 0).val, min (32 * ((grid0.coords t 1).val + 1)) 287, 0] := (by decide +kernel : ∀ t : Fin grid0.N, _)
theorem ix3w : ∀ t : Fin cfg0.N, win0_3.index t = ![(grid0.coords t 0).val, min (grid0.coords t 1).val 1, 0, 0] := (by decide +kernel : ∀ t : Fin grid0.N, _)
theorem ix4w : ∀ t : Fin cfg0.N, win0_4.index t = ![0, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![0, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![(grid0.coords t 0).val, (grid0.coords t 1).val, 0] := (by decide +kernel : ∀ t : Fin grid0.N, _)

/-- The batch item of a step. -/
def item (t : Fin cfg0.N) : Fin 32 := grid0.coords t 0

/-- The block of tokens of a step. -/
def blk (t : Fin cfg0.N) : Fin 9 := grid0.coords t 1

/-- Row `r` of a step's block among all tokens. -/
def tok (t : Fin cfg0.N) (r : Fin 256) : Fin 2304 := ⟨256 * (blk t).val + r.val, by have := (blk t).isLt; omega⟩

theorem emb8 (t : Fin cfg0.N) (y : S1x256x1024.Idx) : (win0_8.blk t).view.emb y
    = ix3 (n0 := 32) (n1 := 2304) (n2 := 1024) (item t) (tok t (y 1)) (y 2) := by
  unfold item tok blk
  blk_ext [ix8 t]

theorem read0 (c : Dev nD) (t : Fin cfg0.N) (r : Fin 256) (l : Fin 1024) : iblk m c 0 t (ix3 0 r l)
    = V m c main_arg0 (ix3 (n0 := 32) (n1 := 2304) (n2 := 1024) (item t) (tok t r) l) := by
  refine congrArg (V m c main_arg0) ?_
  unfold item tok blk
  blk_ext [ix0 t]

theorem read1 (c : Dev nD) (t : Fin cfg0.N) (h : 1 ≤ (blk t).val) (l : Fin 1024) : iblk m c 1 t (ix3 0 7 l)
    = V m c main_arg0 (ix3 (n0 := 32) (n1 := 2304) (n2 := 1024) (item t) ⟨256 * (blk t).val - 1, by have := (blk t).isLt; omega⟩ l) := by
  refine congrArg (V m c main_arg0) ?_
  unfold blk at h
  unfold item blk
  blk_ext [ix1 t]

theorem read2 (c : Dev nD) (t : Fin cfg0.N) (h : (blk t).val ≤ 7) (l : Fin 1024) : iblk m c 2 t (ix3 0 0 l)
    = V m c main_arg0 (ix3 (n0 := 32) (n1 := 2304) (n2 := 1024) (item t) ⟨256 * ((blk t).val + 1), by omega⟩ l) := by
  refine congrArg (V m c main_arg0) ?_
  unfold blk at h
  unfold item blk
  blk_ext [ix2w t]

theorem read3 (c : Dev nD) (t : Fin cfg0.N) (j : Fin 6) (l : Fin 1024) : iblk m c 3 t (ix4 0 0 j l)
    = V m c main_arg1 (ix4 (n0 := 32) (n1 := 2) (n2 := 6) (n3 := 1024) (item t) ⟨min (blk t).val 1, by omega⟩ j l) := by
  refine congrArg (V m c main_arg1) ?_
  unfold item blk
  blk_ext [ix3w t]

theorem read4 (c : Dev nD) (t : Fin cfg0.N) : iblk m c 4 t = V m c main_v0 := by
  funext y
  refine congrArg (V m c main_v0) ?_
  blk_ext [ix4w t]

theorem read5 (c : Dev nD) (t : Fin cfg0.N) : iblk m c 5 t = V m c main_v1 := by
  funext y
  refine congrArg (V m c main_v1) ?_
  blk_ext [ix5 t]

theorem read6 (c : Dev nD) (t : Fin cfg0.N) : iblk m c 6 t = V m c main_arg4 := by
  funext y
  refine congrArg (V m c main_arg4) ?_
  blk_ext [ix6 t]

theorem read7 (c : Dev nD) (t : Fin cfg0.N) : iblk m c 7 t = V m c main_v2 := by
  funext y
  refine congrArg (V m c main_v2) ?_
  blk_ext [ix7 t]

/-- The norm's gains reach the kernel as one row. -/
theorem gains (c : Dev nD) (k : Fin 1024) :
    (Gen.V m c main_v0 : S1x1024.Idx → EReal) (ix2 0 k) = (m ((c.tc : Thread nD τ).loc main_arg2) : S1024.Idx → EReal) (Idealize.ShloMosaic.ix1 k) := by
  entry_read
  change shapeCast S1x1024 (m (c, Proc.tc.devRef main_arg2) : FVec Ideal S1024 .f32) shapeCasts_S1024_S1x1024 (ix2 0 k) = _
  pointwise
  try rfl

/-- The weights of the up-projection reach the kernel as they are. -/
theorem ups (c : Dev nD) (j : S1024x5632.Idx) :
    (Gen.V m c main_v1 : S1024x5632.Idx → EReal) j = (m ((c.tc : Thread nD τ).loc main_arg3) : S1024x5632.Idx → EReal) j := by
  entry_read
  rfl

/-- The weights of the down-projection reach the kernel as they are. -/
theorem downs (c : Dev nD) (j : S2816x1024.Idx) :
    (Gen.V m c main_v2 : S2816x1024.Idx → EReal) j = (m ((c.tc : Thread nD τ).loc main_arg5) : S2816x1024.Idx → EReal) j := by
  entry_read
  rfl

theorem toks (c : Dev nD) : Gen.V m c main_arg0 = m ((c.tc : Thread nD τ).loc main_arg0) := by
  entry_read
  after_reads_simp

theorem mods (c : Dev nD) : Gen.V m c main_arg1 = m ((c.tc : Thread nD τ).loc main_arg1) := by
  entry_read
  after_reads_simp

theorem convs (c : Dev nD) : Gen.V m c main_arg4 = m ((c.tc : Thread nD τ).loc main_arg4) := by
  entry_read
  after_reads_simp

/-- The feed-forward part, as a function of what enters the kernel. -/
def FK (c : Dev nD) : FVec Ideal S32x2304x1024 .f32 := fun y =>
  Cert.Ffn.ffn (V m c main_arg0) (V m c main_arg1) (fun k => V m c main_v0 (ix2 0 k)) (fun k f => V m c main_v1 (ix2 k f))
    (V m c main_arg4) (fun f d => V m c main_v2 (ix2 f d)) (y 0) (y 1) (y 2)

theorem part_tok (t : Fin cfg0.N) (r : Fin 256) : Cert.Ffn.part (tok t r) = ⟨min (blk t).val 1, by omega⟩ := by
  unfold Cert.Ffn.part tok
  apply Fin.ext
  split <;> simp only [] at * <;> simp <;> omega

/-- The normed rows of a step. -/
def rowsOf (c : Dev nD) (t : Fin cfg0.N) : FVec Ideal S272x1024 .bf16 :=
  normed (grid0.coords t) (iblk m c 0 t) (iblk m c 1 t) (iblk m c 2 t) (iblk m c 3 t) (iblk m c 4 t)

/-- One column's hidden value of a token in a step's part. -/
def hidOf (c : Dev nD) (t : Fin cfg0.N) (i : Fin 2304) (f : Fin 5632) : EReal :=
  Cert.Ffn.hid (V m c main_arg0) (V m c main_arg1) (fun k => V m c main_v0 (ix2 0 k)) (fun k f => V m c main_v1 (ix2 k f)) (item t) i f

/-- A row of the scratch that is a token normed gives that token's hidden value. -/
theorem hid_of (c : Dev nD) (t : Fin cfg0.N) (e : Fin 272) (i : Fin 2304) (hi : Cert.Ffn.part i = ⟨min (blk t).val 1, by omega⟩)
    (h : ∀ k, (rowsOf m c t (ix2 e k) : EReal) = rowOf (iblk m c 3 t) (iblk m c 4 t) (fun k => V m c main_arg0 (ix3 (item t) i k)) k) (f : Fin 5632) :
    (∑ k : Fin 1024, (rowsOf m c t (ix2 e k) : EReal) * iblk m c 5 t (ix2 k f)) = hidOf m c t i f := by
  unfold hidOf Cert.Ffn.hid Cert.Ffn.up
  refine Finset.sum_congr rfl fun k _ => ?_
  rw [h, hi]
  refine congrArg₂ (· * ·) ?_ (congrFun (read5 m c t) _)
  unfold rowOf
  simp only [read3]
  rw [read4]

theorem hid_in (c : Dev nD) (t : Fin cfg0.N) (r : Fin 256) (f : Fin 5632) :
    (∑ k : Fin 1024, (rowsOf m c t (ix2 ⟨8 + r.val, by omega⟩ k) : EReal) * iblk m c 5 t (ix2 k f)) = hidOf m c t (tok t r) f := by
  refine hid_of m c t _ _ (part_tok t r) (fun k => ?_) f
  unfold rowsOf
  rw [normed_in]
  simp only [read0]

theorem zero_row (c : Dev nD) (t : Fin cfg0.N) (e : Fin 272) (h : ∀ k, (rowsOf m c t (ix2 e k) : EReal) = 0) (f : Fin 5632) :
    (∑ k : Fin 1024, (rowsOf m c t (ix2 e k) : EReal) * iblk m c 5 t (ix2 k f)) = 0 :=
  Finset.sum_eq_zero fun k _ => by rw [h, zero_mul]

theorem hid_before (c : Dev nD) (t : Fin cfg0.N) (r : Fin 256) (f : Fin 5632) :
    (∑ k : Fin 1024, (rowsOf m c t (ix2 ⟨7 + r.val, by omega⟩ k) : EReal) * iblk m c 5 t (ix2 k f))
      = if (tok t r).val = 0 ∨ (tok t r).val = 256 then 0 else hidOf m c t ⟨(tok t r).val - 1, by omega⟩ f := by
  have hb := (blk t).isLt
  have ht : (tok t r).val = 256 * (blk t).val + r.val := rfl
  by_cases hr : r.val = 0
  · have er : (⟨7 + r.val, by omega⟩ : Fin 272) = 7 := Fin.ext (by show 7 + r.val = 7; omega)
    rw [er]
    by_cases h2 : 2 ≤ (blk t).val
    · rw [if_neg (by omega)]
      refine hid_of m c t _ _ ?_ (fun k => ?_) f
      · unfold Cert.Ffn.part
        rw [if_neg (by simp only []; omega)]
        apply Fin.ext
        simp
        omega
      · unfold rowsOf
        rw [normed_before]
        refine (if_pos h2).trans ?_
        simp only [read1 m c t (by omega)]
        refine congrArg (fun z => rowOf (iblk m c 3 t) (iblk m c 4 t) z k) (funext fun k => congrArg (V m c main_arg0) ?_)
        simp only [ht, hr, Nat.add_zero]
    · rw [if_pos (by omega)]
      refine zero_row m c t _ (fun k => ?_) f
      unfold rowsOf
      rw [normed_before]
      exact if_neg h2
  · rw [if_neg (by omega)]
    have er : (⟨7 + r.val, by omega⟩ : Fin 272) = ⟨8 + (⟨r.val - 1, by omega⟩ : Fin 256).val, by have := r.isLt; simp only []; omega⟩ := Fin.ext (by simp only []; omega)
    rw [er, hid_in]
    refine congrArg (fun z => hidOf m c t z f) (Fin.ext ?_)
    show 256 * (blk t).val + (r.val - 1) = (tok t r).val - 1
    omega

theorem hid_after (c : Dev nD) (t : Fin cfg0.N) (r : Fin 256) (f : Fin 5632) :
    (∑ k : Fin 1024, (rowsOf m c t (ix2 ⟨9 + r.val, by omega⟩ k) : EReal) * iblk m c 5 t (ix2 k f))
      = if h : (tok t r).val = 255 ∨ (tok t r).val = 2303 then 0 else hidOf m c t ⟨(tok t r).val + 1, by omega⟩ f := by
  have hb := (blk t).isLt
  have ht : (tok t r).val = 256 * (blk t).val + r.val := rfl
  by_cases hr : r.val = 255
  · have er : (⟨9 + r.val, by omega⟩ : Fin 272) = 264 := Fin.ext (by show 9 + r.val = 264; omega)
    rw [er]
    by_cases h2 : 1 ≤ (blk t).val ∧ (blk t).val ≤ 7
    · rw [dif_neg (by omega)]
      refine hid_of m c t _ _ ?_ (fun k => ?_) f
      · unfold Cert.Ffn.part
        rw [if_neg (by simp only []; omega)]
        apply Fin.ext
        simp
        omega
      · unfold rowsOf
        rw [normed_after]
        refine (if_pos h2).trans ?_
        simp only [read2 m c t h2.2]
        refine congrArg (fun z => rowOf (iblk m c 3 t) (iblk m c 4 t) z k) (funext fun k => congrArg (V m c main_arg0) ?_)
        refine congrArg (fun z => ix3 (item t) z k) (Fin.ext ?_)
        simp only []
        omega
    · rw [dif_pos (by omega)]
      refine zero_row m c t _ (fun k => ?_) f
      unfold rowsOf
      rw [normed_after]
      exact if_neg h2
  · rw [dif_neg (by omega)]
    have er : (⟨9 + r.val, by omega⟩ : Fin 272) = ⟨8 + (⟨r.val + 1, by omega⟩ : Fin 256).val, by have := r.isLt; simp only []; omega⟩ := Fin.ext (by simp only []; omega)
    rw [er, hid_in]
    refine congrArg (fun z => hidOf m c t z f) (Fin.ext ?_)
    show 256 * (blk t).val + (r.val + 1) = (tok t r).val + 1
    omega

/-- The convolution of a step is the convolution of the tokens' hidden values. -/
theorem cv_eq (c : Dev nD) (t : Fin cfg0.N) (r : Fin 256) (f : Fin 5632) :
    cv (rowsOf m c t) (iblk m c 5 t) (iblk m c 6 t) r f
      = Cert.Ffn.conv (V m c main_arg0) (V m c main_arg1) (fun k => V m c main_v0 (ix2 0 k)) (fun k f => V m c main_v1 (ix2 k f))
          (V m c main_arg4) (item t) (tok t r) f := by
  unfold cv
  rw [hid_before, hid_in, hid_after, read6]
  rfl

/-- The result array after the run is the feed-forward part of what entered the kernel. -/
theorem final (c : Dev nD) : (dats m 0 c).arrAt 8 cfg0.N = FK m c := by
  refine (dats m 0 c).arrAt_eq_of_covers 8 _ (by decide +kernel) fun t hf y => ?_
  blk_simp
  rw [after m c t, canon_pieces, emb8]
  have hy : y = ix3 0 (y 1) (y 2) := (eq_ix3 y).trans (congrArg (fun z : Fin 1 => ix3 z (y 1 : Fin 256) (y 2 : Fin 1024)) (Subsingleton.elim (α := Fin 1) _ _))
  rw [hy]
  refine (out_apply _ _ _ _ _ _).trans ?_
  unfold FK Cert.Ffn.ffn
  refine congrArg₂ (· + ·) ((block_apply _ _ _).trans (read0 m c t _ _)) (congrArg₂ (· * ·) ?_ (Finset.sum_congr rfl fun f _ => congrArg₂ (· * ·) ?_ ?_))
  · refine (gate_apply _ _).trans ((read3 m c t _ _).trans (congrArg (V m c main_arg1) ?_))
    refine congrArg (fun z => ix4 (item t) z 5 (y 2)) (part_tok t (y 1)).symm
  · exact congrArg₂ Cert.Ffn.gated (cv_eq m c t (y 1) _) (cv_eq m c t (y 1) _)
  · exact congrFun (read7 m c t) _

end Cert.Kernel2Ideal.Blocks
end
-- ==== Proof.FfnRef.lean ====
/- The plain feed-forward part's stages, read at an index. -/
module

public import proofs.«01_k».proof.Proof.FfnSpec
public import proofs.«01_k».proof.Proof.Gen.Reference2Ideal.Read
public import Idealize.ShloMosaic.Lib.Pointwise
public import Idealize.ShloMosaic.Lib.ValueIdx

@[expose] public section

set_option maxRecDepth 16384

noncomputable section

namespace Cert.Reference2Ideal.At

open Cert.Reference2Ideal Cert.Reference2Ideal.Read Idealize.ShloMosaic

variable (x0 : FVec Ideal S32x2304x1024 .f32) (x1 : FVec Ideal S32x2x6x1024 .f32) (x2 : FVec Ideal S1024 .f32)
  (x3 : FVec Ideal S1024x5632 .f32) (x4 : FVec Ideal S3x5632 .f32) (x5 : FVec Ideal S2816x1024 .f32)

/-! ### The context tokens -/

/-- A context token among all. -/
def ctx (i : Fin 256) : Fin 2304 := ⟨0 + i.val, by omega⟩

theorem v21 (b : Fin 32) (i : Fin 256) (k : Fin 1024) :
    val_main_v21 (F := Ideal) x0 (ix3 b i k) = (x0 (ix3 b (ctx i) k) : EReal) * Cert.Ffn.scale (fun k => x0 (ix3 b (ctx i) k)) := by
  unfold val_main_v21 val_main_v20 val_main_v19 val_main_v18 val_main_v17 val_main_cst_1 val_main_v16 val_main_v15 val_main_cst_0 val_main_v14 val_main_v13 val_main_v12 val_main_cst val_main_v0 ctx Cert.Ffn.scale
  pointwise

theorem v30 (b : Fin 32) (i : Fin 256) (k : Fin 1024) :
    val_main_v30 (F := Ideal) x0 x1 x2 (ix3 b i k) = Cert.Ffn.nrm (fun k => x0 (ix3 b (ctx i) k)) (fun k => x2 (ix1 k))
      (fun k => x1 (ix4 b 0 4 k)) (fun k => x1 (ix4 b 0 3 k)) k := by
  unfold val_main_v30 val_main_v29 val_main_v28 val_main_v27 val_main_v26 val_main_v25 val_main_cst_2 val_main_v24 val_main_v23 val_main_v22 val_main_v8 val_main_v7 val_main_v6 val_main_v5 val_main_v4 val_main_v3 val_main_v2 val_main_v1 Cert.Ffn.nrm
  pointwise
  rw [v21]

theorem part_ctx (i : Fin 256) : Cert.Ffn.part (ctx i) = 0 := by
  unfold Cert.Ffn.part ctx
  simp only []
  split
  · first | rfl | (exfalso; omega)
  · first | rfl | (exfalso; omega)

/-- A token's hidden values. -/
theorem v31 (b : Fin 32) (i : Fin 256) (f : Fin 5632) :
    val_main_v31 (F := Ideal) x0 x1 x2 x3 (ix3 b i f) = Cert.Ffn.hid x0 x1 (fun k => x2 (ix1 k)) (fun k f => x3 (ix2 k f)) b (ctx i) f := by
  unfold val_main_v31 Cert.Ffn.hid Cert.Ffn.up
  rw [part_ctx]
  pointwise
  exact Finset.sum_congr rfl fun k _ => by rw [v30]

theorem v35 (b : Fin 32) (i : Fin 256) (f : Fin 5632) :
    val_main_v35 (F := Ideal) x0 x1 x2 x3 (ix3 b i f) = Cert.Ffn.before x0 x1 (fun k => x2 (ix1 k)) (fun k f => x3 (ix2 k f)) b (ctx i) f := by
  unfold val_main_v35 val_main_v34 val_main_v33 val_main_cst_3 Cert.Ffn.before
  pointwise
  have ht : (ctx i).val = 0 + i.val := rfl
  by_cases h : i.val < 1
  · exact (dif_pos h).trans (if_pos (by omega)).symm
  · refine (dif_neg h).trans ((v31 _ _ _ _ _ ⟨i.val - 1, by omega⟩ _).trans (Eq.trans ?_ (if_neg (by omega)).symm))
    refine congrArg (fun z => Cert.Ffn.hid x0 x1 (fun k => x2 (ix1 k)) (fun k f => x3 (ix2 k f)) b z f) (Fin.ext ?_)
    show 0 + (i.val - 1) = (ctx i).val - 1
    omega

theorem v37 (b : Fin 32) (i : Fin 256) (f : Fin 5632) :
    val_main_v37 (F := Ideal) x0 x1 x2 x3 (ix3 b i f) = Cert.Ffn.after x0 x1 (fun k => x2 (ix1 k)) (fun k f => x3 (ix2 k f)) b (ctx i) f := by
  unfold val_main_v37 val_main_v36 val_main_v33 val_main_cst_3 Cert.Ffn.after
  pointwise
  have ht : (ctx i).val = 0 + i.val := rfl
  by_cases h : i.val < 256 - 1
  · refine (dif_pos h).trans ((v31 _ _ _ _ _ ⟨1 + i.val, by omega⟩ _).trans (Eq.trans ?_ (dif_neg (by omega)).symm))
    refine congrArg (fun z => Cert.Ffn.hid x0 x1 (fun k => x2 (ix1 k)) (fun k f => x3 (ix2 k f)) b z f) (Fin.ext ?_)
    show 0 + (1 + i.val) = (ctx i).val + 1
    omega
  · have hi := i.isLt
    have hl : (ctx i).val = 255 ∨ (ctx i).val = 2303 := by omega
    refine (dif_neg h).trans ?_
    rw [dif_pos hl]

/-- The convolution over the tokens. -/
theorem v54 (b : Fin 32) (i : Fin 256) (f : Fin 5632) :
    val_main_v54 (F := Ideal) x0 x1 x2 x3 x4 (ix3 b i f) = Cert.Ffn.conv x0 x1 (fun k => x2 (ix1 k)) (fun k f => x3 (ix2 k f)) x4 b (ctx i) f := by
  unfold val_main_v54 val_main_v53 val_main_v52 val_main_v51 val_main_v50 val_main_v49 val_main_v48 val_main_v47 val_main_v46 val_main_v45 val_main_v44 val_main_v43 val_main_v42 val_main_v41 val_main_v40 val_main_v39 val_main_v38 Cert.Ffn.conv
  pointwise
  rw [v31, v35, v37]

/-- The gated activations. -/
theorem v58 (b : Fin 32) (i : Fin 256) (f : Fin 2816) :
    val_main_v58 (F := Ideal) x0 x1 x2 x3 x4 (ix3 b i f) = Cert.Ffn.gated
      (Cert.Ffn.conv x0 x1 (fun k => x2 (ix1 k)) (fun k f => x3 (ix2 k f)) x4 b (ctx i) (Cert.Ffn.lower f))
      (Cert.Ffn.conv x0 x1 (fun k => x2 (ix1 k)) (fun k f => x3 (ix2 k f)) x4 b (ctx i) (Cert.Ffn.upper f)) := by
  rw [← v54, ← v54]
  unfold val_main_v58 val_main_v57 val_main_call0_v5 val_main_call0_v4 val_main_call0_cst_0 val_main_call0_v3 val_main_call0_v2 val_main_call0_cst val_main_call0_v1 val_main_call0_v0 val_main_v56 val_main_v55 Cert.Ffn.gated Cert.Ffn.lower Cert.Ffn.upper
  pointwise

theorem v62 (b : Fin 32) (i : Fin 256) (d : Fin 1024) :
    val_main_v62 (F := Ideal) x0 x1 x2 x3 x4 x5 (ix3 b i d)
      = Cert.Ffn.ffn x0 x1 (fun k => x2 (ix1 k)) (fun k f => x3 (ix2 k f)) x4 (fun f d => x5 (ix2 f d)) b (ctx i) d := by
  unfold val_main_v62 val_main_v61 val_main_v60 val_main_v59 val_main_v11 val_main_v10 val_main_v9 val_main_v2 val_main_v1 val_main_v0 Cert.Ffn.ffn
  rw [part_ctx]
  pointwise
  simp only [v58]
  exact congrArg (fun z => (x0 (ix3 b z d) : EReal) + _) (Fin.ext (by simp [ctx]))

/-! ### The latent tokens -/

/-- A latent token among all. -/
def lat (i : Fin 2048) : Fin 2304 := ⟨256 + i.val, by omega⟩

theorem v84 (b : Fin 32) (i : Fin 2048) (k : Fin 1024) :
    val_main_v84 (F := Ideal) x0 (ix3 b i k) = (x0 (ix3 b (lat i) k) : EReal) * Cert.Ffn.scale (fun k => x0 (ix3 b (lat i) k)) := by
  unfold val_main_v84 val_main_v83 val_main_v82 val_main_v81 val_main_v80 val_main_cst_6 val_main_v79 val_main_v78 val_main_cst_5 val_main_v77 val_main_v76 val_main_v75 val_main_cst_4 val_main_v63 lat Cert.Ffn.scale
  pointwise

theorem v93 (b : Fin 32) (i : Fin 2048) (k : Fin 1024) :
    val_main_v93 (F := Ideal) x0 x1 x2 (ix3 b i k) = Cert.Ffn.nrm (fun k => x0 (ix3 b (lat i) k)) (fun k => x2 (ix1 k))
      (fun k => x1 (ix4 b 1 4 k)) (fun k => x1 (ix4 b 1 3 k)) k := by
  unfold val_main_v93 val_main_v92 val_main_v91 val_main_v90 val_main_v89 val_main_v88 val_main_cst_7 val_main_v87 val_main_v86 val_main_v85 val_main_v71 val_main_v70 val_main_v69 val_main_v68 val_main_v67 val_main_v66 val_main_v65 val_main_v64 Cert.Ffn.nrm
  pointwise
  rw [v84]

theorem part_lat (i : Fin 2048) : Cert.Ffn.part (lat i) = 1 := by
  unfold Cert.Ffn.part lat
  simp only []
  split
  · first | rfl | (exfalso; omega)
  · first | rfl | (exfalso; omega)

/-- A token's hidden values. -/
theorem v94 (b : Fin 32) (i : Fin 2048) (f : Fin 5632) :
    val_main_v94 (F := Ideal) x0 x1 x2 x3 (ix3 b i f) = Cert.Ffn.hid x0 x1 (fun k => x2 (ix1 k)) (fun k f => x3 (ix2 k f)) b (lat i) f := by
  unfold val_main_v94 Cert.Ffn.hid Cert.Ffn.up
  rw [part_lat]
  pointwise
  exact Finset.sum_congr rfl fun k _ => by rw [v93]

theorem v98 (b : Fin 32) (i : Fin 2048) (f : Fin 5632) :
    val_main_v98 (F := Ideal) x0 x1 x2 x3 (ix3 b i f) = Cert.Ffn.before x0 x1 (fun k => x2 (ix1 k)) (fun k f => x3 (ix2 k f)) b (lat i) f := by
  unfold val_main_v98 val_main_v97 val_main_v96 val_main_cst_8 Cert.Ffn.before
  pointwise
  have ht : (lat i).val = 256 + i.val := rfl
  by_cases h : i.val < 1
  · exact (dif_pos h).trans (if_pos (by omega)).symm
  · refine (dif_neg h).trans ((v94 _ _ _ _ _ ⟨i.val - 1, by omega⟩ _).trans (Eq.trans ?_ (if_neg (by omega)).symm))
    refine congrArg (fun z => Cert.Ffn.hid x0 x1 (fun k => x2 (ix1 k)) (fun k f => x3 (ix2 k f)) b z f) (Fin.ext ?_)
    show 256 + (i.val - 1) = (lat i).val - 1
    omega

theorem v100 (b : Fin 32) (i : Fin 2048) (f : Fin 5632) :
    val_main_v100 (F := Ideal) x0 x1 x2 x3 (ix3 b i f) = Cert.Ffn.after x0 x1 (fun k => x2 (ix1 k)) (fun k f => x3 (ix2 k f)) b (lat i) f := by
  unfold val_main_v100 val_main_v99 val_main_v96 val_main_cst_8 Cert.Ffn.after
  pointwise
  have ht : (lat i).val = 256 + i.val := rfl
  by_cases h : i.val < 2048 - 1
  · refine (dif_pos h).trans ((v94 _ _ _ _ _ ⟨1 + i.val, by omega⟩ _).trans (Eq.trans ?_ (dif_neg (by omega)).symm))
    refine congrArg (fun z => Cert.Ffn.hid x0 x1 (fun k => x2 (ix1 k)) (fun k f => x3 (ix2 k f)) b z f) (Fin.ext ?_)
    show 256 + (1 + i.val) = (lat i).val + 1
    omega
  · have hi := i.isLt
    have hl : (lat i).val = 255 ∨ (lat i).val = 2303 := by omega
    refine (dif_neg h).trans ?_
    rw [dif_pos hl]

/-- The convolution over the tokens. -/
theorem v117 (b : Fin 32) (i : Fin 2048) (f : Fin 5632) :
    val_main_v117 (F := Ideal) x0 x1 x2 x3 x4 (ix3 b i f) = Cert.Ffn.conv x0 x1 (fun k => x2 (ix1 k)) (fun k f => x3 (ix2 k f)) x4 b (lat i) f := by
  unfold val_main_v117 val_main_v116 val_main_v115 val_main_v114 val_main_v113 val_main_v112 val_main_v111 val_main_v110 val_main_v109 val_main_v108 val_main_v107 val_main_v106 val_main_v105 val_main_v104 val_main_v103 val_main_v102 val_main_v101 Cert.Ffn.conv
  pointwise
  rw [v94, v98, v100]

/-- The gated activations. -/
theorem v121 (b : Fin 32) (i : Fin 2048) (f : Fin 2816) :
    val_main_v121 (F := Ideal) x0 x1 x2 x3 x4 (ix3 b i f) = Cert.Ffn.gated
      (Cert.Ffn.conv x0 x1 (fun k => x2 (ix1 k)) (fun k f => x3 (ix2 k f)) x4 b (lat i) (Cert.Ffn.lower f))
      (Cert.Ffn.conv x0 x1 (fun k => x2 (ix1 k)) (fun k f => x3 (ix2 k f)) x4 b (lat i) (Cert.Ffn.upper f)) := by
  rw [← v117, ← v117]
  unfold val_main_v121 val_main_v120 val_main_call1_v5 val_main_call1_v4 val_main_call1_cst_0 val_main_call1_v3 val_main_call1_v2 val_main_call1_cst val_main_call1_v1 val_main_call1_v0 val_main_v119 val_main_v118 Cert.Ffn.gated Cert.Ffn.lower Cert.Ffn.upper
  pointwise

theorem v125 (b : Fin 32) (i : Fin 2048) (d : Fin 1024) :
    val_main_v125 (F := Ideal) x0 x1 x2 x3 x4 x5 (ix3 b i d)
      = Cert.Ffn.ffn x0 x1 (fun k => x2 (ix1 k)) (fun k f => x3 (ix2 k f)) x4 (fun f d => x5 (ix2 f d)) b (lat i) d := by
  unfold val_main_v125 val_main_v124 val_main_v123 val_main_v122 val_main_v74 val_main_v73 val_main_v72 val_main_v65 val_main_v64 val_main_v63 Cert.Ffn.ffn
  rw [part_lat]
  pointwise
  simp only [v121]
  exact congrArg (fun z => (x0 (ix3 b z d) : EReal) + _) (Fin.ext (by simp [lat]))

/-- The plain result at an element is the feed-forward part of that token. -/
theorem v126 (b : Fin 32) (i : Fin 2304) (d : Fin 1024) :
    val_main_v126 (F := Ideal) x0 x1 x2 x3 x4 x5 (ix3 b i d)
      = Cert.Ffn.ffn x0 x1 (fun k => x2 (ix1 k)) (fun k f => x3 (ix2 k f)) x4 (fun f d => x5 (ix2 f d)) b i d := by
  unfold val_main_v126
  pointwise
  by_cases h : i.val < 256
  · refine (dif_pos h).trans ((v62 _ _ _ _ _ _ _ ⟨i.val, h⟩ _).trans ?_)
    exact congrArg (fun z => Cert.Ffn.ffn x0 x1 (fun k => x2 (ix1 k)) (fun k f => x3 (ix2 k f)) x4 (fun f d => x5 (ix2 f d)) b z d) (Fin.ext (by simp [ctx]))
  · refine (dif_neg h).trans ((v125 _ _ _ _ _ _ _ ⟨i.val - 256, by omega⟩ _).trans ?_)
    exact congrArg (fun z => Cert.Ffn.ffn x0 x1 (fun k => x2 (ix1 k)) (fun k f => x3 (ix2 k f)) x4 (fun f d => x5 (ix2 f d)) b z d) (Fin.ext (by simp [lat]; omega))

end Cert.Reference2Ideal.At
end
-- ==== Proof.LastBlocks.lean ====
/- What the feed-forward kernel leaves in a block of its result. -/
module

public import proofs.«01_k».proof.Proof.Gen.Kernel3Ideal.Frame
public import Idealize.ShloMosaic.Lib.Pipeline.ValueKit
public import Idealize.ShloMosaic.Lib.Pipeline.ReadBack

@[expose] public section

set_option maxRecDepth 16384

noncomputable section

namespace Cert.Kernel3Ideal.Blocks

open Cert.Kernel3Ideal Cert.Kernel3Ideal.Gen Idealize.ShloMosaic Idealize.ShloMosaic.TcCoe Idealize.SL.Sem

variable (m : (ℓ : Loc nD τ sig) → Buf (Elt Ideal) ℓ)

theorem rows_inb (o : ℕ) (ho : o + 256 ≤ 272) (a : Fin 3) : (![0, o, 0] : Fin 3 → Nat) a + (![1, 256, 256] : Fin 3 → Nat) a ≤ S1x272x256.size a := by
  fin_cases a <;> simp [S1x272x256] <;> omega

/-- The 256 rows of a chunk's 272 from row `o` on. -/
def rows (o : ℕ) (ho : o + 256 ≤ 272) (w : Vec Ideal S1x272x256 .f32) : Vec Ideal S1x256x256 .f32 :=
  View.ld w (Rect.unit (s := S1x272x256) ![0, o, 0] ![1, 256, 256] (rows_inb o ho))

/-- A load of 256 rows of the chunk stored last reads those rows of it. -/
theorem readCov_rows (v : View sig .tc .vmem S11x272x256 .f32) (c o : ℕ) (ho : o + 256 ≤ 272)
    (h : ∀ a, (![c, 0, 0] : Fin 3 → Nat) a + (![1, 272, 256] : Fin 3 → Nat) a ≤ S11x272x256.size a)
    (h' : ∀ a, (![c, o, 0] : Fin 3 → Nat) a + (![1, 256, 256] : Fin 3 → Nat) a ≤ S11x272x256.size a)
    (w : Vec Ideal S1x272x256 .f32) (L : List (View.Piece (Elt Ideal) S11x272x256 .f32)) :
    v.readCov ((⟨Rect.unit (s := S11x272x256) ![c, 0, 0] ![1, 272, 256] h, w⟩ : View.Piece (Elt Ideal) S11x272x256 .f32) :: L)
      (Rect.unit (s := S11x272x256) ![c, o, 0] ![1, 256, 256] h').toLoadRect = rows o ho w := by
  rw [View.readCov_eq_canon']
  funext j
  have e : (Rect.unit (s := S11x272x256) ![c, o, 0] ![1, 256, 256] h').toLoadRect.idx j
      = (Rect.unit (s := S11x272x256) ![c, 0, 0] ![1, 272, 256] h).emb ((Rect.unit (s := S1x272x256) ![0, o, 0] ![1, 256, 256] (rows_inb o ho)).emb j) := by
    funext a
    apply Fin.ext
    fin_cases a <;> simp [Rect.toLoadRect, LoadRect.idx, Rect.emb, Rect.unit]
  rw [e, View.canon_cons_emb]
  rfl

theorem cols_inb (o : ℕ) (ho : o + 256 ≤ 5632) (a : Fin 2) : (![0, o] : Fin 2 → Nat) a + (![1024, 256] : Fin 2 → Nat) a ≤ S1024x5632.size a := by
  fin_cases a <;> simp [S1024x5632] <;> omega

theorem taps_inb (o : ℕ) (ho : o + 256 ≤ 5632) (a : Fin 2) : (![0, o] : Fin 2 → Nat) a + (![3, 256] : Fin 2 → Nat) a ≤ S3x5632.size a := by
  fin_cases a <;> simp [S3x5632] <;> omega

/-- 256 columns of the up-projection's weights. -/
def cols (X5 : Vec Ideal S1024x5632 .bf16) (o : ℕ) (ho : o + 256 ≤ 5632) : Vec Ideal S1024x256 .bf16 :=
  View.ld X5 (Rect.unit (s := S1024x5632) ![0, o] ![1024, 256] (cols_inb o ho))

/-- The convolution's three taps for 256 columns. -/
def taps (X6 : Vec Ideal S3x5632 .f32) (o : ℕ) (ho : o + 256 ≤ 5632) : Vec Ideal S3x256 .f32 :=
  View.ld X6 (Rect.unit (s := S3x5632) ![0, o] ![3, 256] (taps_inb o ho))

/-- The normed rows that a step works on: those of its block, eight before them and eight after. -/
def normed (i : grid0.Coords) (X0 : Vec Ideal S1x256x1024 .f32) (X1 X2 : Vec Ideal S1x8x1024 .f32) (X3 : Vec Ideal S1x1x6x1024 .f32)
    (X4 : Vec Ideal S1x1024 .f32) : FVec Ideal S272x1024 .bf16 :=
  k0_pay11 (k0_pay3 X3) (k0_pay4 X3) (k0_pay7 X4) (k0_pay8 X0 X1 X2) (k0_pay9 i) (k0_pay10 X0 X1 X2) (FloatOps.ofBits FTy.f32 897988541#32)

/-- What a step leaves of its rows: the down-projection, gated and added to the rows, normed. -/
def lastOut (g : FVec Ideal S1x1024 .f32) (x : FVec Ideal S256x1024 .f32) (a : Vec Ideal S256x2816 .bf16) (w : Vec Ideal S2816x1024 .bf16)
    (fg : Vec Ideal S1x1024 .f32) : FVec Ideal S1x256x1024 .f32 := k0_pay1 (k0_pay75 g x a w) fg

/-- What the kernel keeps of 256 hidden columns: their gated activation. -/
def chunk (H : FVec Ideal S272x1024 .bf16) (wa wg : Vec Ideal S1024x256 .bf16) (ca cg : Vec Ideal S3x256 .f32) : FVec Ideal S256x256 .bf16 :=
  k0_pay21 (k0_pay20 ca (rows 7 (by decide) (k0_pay18 H wa)) (rows 8 (by decide) (k0_pay18 H wa)) (rows 9 (by decide) (k0_pay18 H wa)))
    cg (rows 7 (by decide) (k0_pay19 H wg)) (rows 8 (by decide) (k0_pay19 H wg)) (rows 9 (by decide) (k0_pay19 H wg))

/-- The eleven chunks of hidden columns, as stored. -/
def pieces (H : FVec Ideal S272x1024 .bf16) (X5 : Vec Ideal S1024x5632 .bf16) (X6 : Vec Ideal S3x5632 .f32) :
    List (View.Piece (Elt Ideal) S256x2816 .bf16) :=
  [⟨(Rect.unit (s := S256x2816) ![0, 2560] ![256, 256] inb_S256x2816_S256x256_0_2560), chunk H (cols X5 2560 (by decide)) (cols X5 5376 (by decide)) (taps X6 2560 (by decide)) (taps X6 5376 (by decide))⟩,
   ⟨(Rect.unit (s := S256x2816) ![0, 2304] ![256, 256] inb_S256x2816_S256x256_0_2304), chunk H (cols X5 2304 (by decide)) (cols X5 5120 (by decide)) (taps X6 2304 (by decide)) (taps X6 5120 (by decide))⟩,
   ⟨(Rect.unit (s := S256x2816) ![0, 2048] ![256, 256] inb_S256x2816_S256x256_0_2048), chunk H (cols X5 2048 (by decide)) (cols X5 4864 (by decide)) (taps X6 2048 (by decide)) (taps X6 4864 (by decide))⟩,
   ⟨(Rect.unit (s := S256x2816) ![0, 1792] ![256, 256] inb_S256x2816_S256x256_0_1792), chunk H (cols X5 1792 (by decide)) (cols X5 4608 (by decide)) (taps X6 1792 (by decide)) (taps X6 4608 (by decide))⟩,
   ⟨(Rect.unit (s := S256x2816) ![0, 1536] ![256, 256] inb_S256x2816_S256x256_0_1536), chunk H (cols X5 1536 (by decide)) (cols X5 4352 (by decide)) (taps X6 1536 (by decide)) (taps X6 4352 (by decide))⟩,
   ⟨(Rect.unit (s := S256x2816) ![0, 1280] ![256, 256] inb_S256x2816_S256x256_0_1280), chunk H (cols X5 1280 (by decide)) (cols X5 4096 (by decide)) (taps X6 1280 (by decide)) (taps X6 4096 (by decide))⟩,
   ⟨(Rect.unit (s := S256x2816) ![0, 1024] ![256, 256] inb_S256x2816_S256x256_0_1024), chunk H (cols X5 1024 (by decide)) (cols X5 3840 (by decide)) (taps X6 1024 (by decide)) (taps X6 3840 (by decide))⟩,
   ⟨(Rect.unit (s := S256x2816) ![0, 768] ![256, 256] inb_S256x2816_S256x256_0_768), chunk H (cols X5 768 (by decide)) (cols X5 3584 (by decide)) (taps X6 768 (by decide)) (taps X6 3584 (by decide))⟩,
   ⟨(Rect.unit (s := S256x2816) ![0, 512] ![256, 256] inb_S256x2816_S256x256_0_512), chunk H (cols X5 512 (by decide)) (cols X5 3328 (by decide)) (taps X6 512 (by decide)) (taps X6 3328 (by decide))⟩,
   ⟨(Rect.unit (s := S256x2816) ![0, 256] ![256, 256] inb_S256x2816_S256x256_0_256), chunk H (cols X5 256 (by decide)) (cols X5 3072 (by decide)) (taps X6 256 (by decide)) (taps X6 3072 (by decide))⟩,
   ⟨(Rect.unit (s := S256x2816) ![0, 0] ![256, 256] inb_S256x2816_S256x256_0_0), chunk H (cols X5 0 (by decide)) (cols X5 2816 (by decide)) (taps X6 0 (by decide)) (taps X6 2816 (by decide))⟩]

set_option maxHeartbeats 1000000 in
/-- A block of the result is left as the down-projection of the eleven chunks, gated and added to the block's rows. -/
theorem after (c : Dev nD) (t : Fin cfg0.N) :
    (dats m 0 c).after 9 t
      = lastOut (k0_pay5 (iblk m c 3 t)) (k0_pay6 (iblk m c 0 t))
          (View.canon (pieces (normed (grid0.coords t) (iblk m c 0 t) (iblk m c 1 t) (iblk m c 2 t) (iblk m c 3 t) (iblk m c 4 t)) (iblk m c 5 t) (iblk m c 6 t)))
          (iblk m c 7 t) (iblk m c 8 t) := by
  rw [after0_9, Gen.outsAt0]
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  frame_open
  simp (disch := decide) only [↓ View.readCov_skip, ↓ View.readCov_cons_toLoadRect, ↓ View.readCov_fill]
  frame_out
  simp (disch := first | decide | omega) only [readCov_rows, View.readCov_cons_toLoadRect]
  rw [View.readCov_eq_canon']
  unfold lastOut
  refine congrArg₂ k0_pay1 (congrArg₂ (k0_pay75 (k0_pay5 X3) (k0_pay6 X0)) ?_ ?_) ?_
  · funext j
    have e : (Rect.unit (s := S256x2816) ![0, 0] ![256, 2816] inb_S256x2816_S256x2816_0_0).toLoadRect.idx j = j := by
      funext a
      apply Fin.ext
      fin_cases a <;> simp [Rect.toLoadRect, LoadRect.idx, Rect.unit]
    refine (congrArg _ e).trans ?_
    unfold pieces
    rfl
  · rfl
  · rfl

end Cert.Kernel3Ideal.Blocks
-- ==== Proof.LastRead.lean ====
/- The feed-forward kernel's values, element by element. -/
module

public import proofs.«01_k».proof.Proof.LastBlocks
public import proofs.«01_k».proof.Proof.FfnSpec
public import proofs.«01_k».proof.Proof.Sigmoid
public import Idealize.ShloMosaic.Lib.Pointwise
public import Idealize.ShloMosaic.Lib.ValueIdx

@[expose] public section

set_option maxRecDepth 16384

noncomputable section

namespace Cert.Kernel3Ideal.Blocks

open Cert.Kernel3Ideal Cert.Kernel3Ideal.Gen Idealize.ShloMosaic Idealize.ShloMosaic.TcCoe Idealize.SL.Sem

/-- A row of the up-projection at one column. -/
theorem up_apply (H : FVec Ideal S272x1024 .bf16) (w : Vec Ideal S1024x256 .bf16) (e : Fin 272) (f : Fin 256) :
    (k0_pay18 H w (ix3 0 e f) : EReal) = ∑ k : Fin 1024, (H (ix2 e k) : EReal) * w (ix2 k f) := by
  unfold k0_pay18
  pointwise

/-- The same of the gate's half. -/
theorem up_apply' (H : FVec Ideal S272x1024 .bf16) (w : Vec Ideal S1024x256 .bf16) (e : Fin 272) (f : Fin 256) :
    (k0_pay19 H w (ix3 0 e f) : EReal) = ∑ k : Fin 1024, (H (ix2 e k) : EReal) * w (ix2 k f) := by
  unfold k0_pay19
  pointwise

/-- Row `r` of the rows from `o` on is row `o + r`. -/
theorem rows_apply (o : ℕ) (ho : o + 256 ≤ 272) (w : Vec Ideal S1x272x256 .f32) (r f : Fin 256) :
    rows o ho w (ix3 0 r f) = w (ix3 0 ⟨o + r.val, by omega⟩ f) := by
  unfold rows
  refine View.ld_unit_apply_of _ _ _ _ _ _ fun a => ?_
  fin_cases a <;> simp [ix3]

/-- The convolution of three rows. -/
theorem conv_apply (c : Vec Ideal S3x256 .f32) (u v w : Vec Ideal S1x256x256 .f32) (r f : Fin 256) :
    (k0_pay20 c u v w (ix2 r f) : EReal) = c (ix2 0 f) * u (ix3 0 r f) + c (ix2 1 f) * v (ix3 0 r f) + c (ix2 2 f) * w (ix3 0 r f) := by
  unfold k0_pay20
  pointwise

/-- The gated product. -/
theorem act_apply (a : FVec Ideal S256x256 .f32) (c : Vec Ideal S3x256 .f32) (u v w : Vec Ideal S1x256x256 .f32) (r f : Fin 256) :
    (k0_pay21 a c u v w (ix2 r f) : EReal) = Cert.Ffn.gated (a (ix2 r f)) (k0_pay20 c u v w (ix2 r f)) := by
  unfold Cert.Ffn.gated
  rw [← Cert.Sigmoid.sigmoid]
  unfold k0_pay21 k0_pay20
  pointwise

/-- The down-projection, gated and added to the block's rows, and the norm of the sum. -/
theorem out_apply (g : FVec Ideal S1x1024 .f32) (x : FVec Ideal S256x1024 .f32) (a : FVec Ideal S256x2816 .bf16) (w : Vec Ideal S2816x1024 .bf16)
    (fg : Vec Ideal S1x1024 .f32) (r : Fin 256) (d : Fin 1024) :
    (lastOut g x a w fg (ix3 0 r d) : EReal)
      = Cert.Ffn.last (fun d => x (ix2 r d) + g (ix2 0 d) * ∑ k : Fin 2816, (a (ix2 r k) : EReal) * w (ix2 k d)) (fun d => fg (ix2 0 d)) d := by
  unfold lastOut k0_pay1 k0_pay75 Cert.Ffn.last Cert.Ffn.scale
  pointwise

/-- The convolution over the normed rows of a step, at one of the 5632 hidden columns. -/
def cv (H : FVec Ideal S272x1024 .bf16) (X5 : Vec Ideal S1024x5632 .bf16) (X6 : Vec Ideal S3x5632 .f32) (r : Fin 256) (f : Fin 5632) : EReal :=
  (X6 (ix2 0 f) : EReal) * (∑ k : Fin 1024, (H (ix2 ⟨7 + r.val, by omega⟩ k) : EReal) * X5 (ix2 k f))
    + (X6 (ix2 1 f) : EReal) * (∑ k : Fin 1024, (H (ix2 ⟨8 + r.val, by omega⟩ k) : EReal) * X5 (ix2 k f))
    + (X6 (ix2 2 f) : EReal) * (∑ k : Fin 1024, (H (ix2 ⟨9 + r.val, by omega⟩ k) : EReal) * X5 (ix2 k f))

theorem cols_apply (X5 : Vec Ideal S1024x5632 .bf16) (o : ℕ) (ho : o + 256 ≤ 5632) (k : Fin 1024) (f : Fin 256) :
    cols X5 o ho (ix2 k f) = X5 (ix2 k ⟨o + f.val, by omega⟩) := by
  unfold cols
  refine View.ld_unit_apply_of _ _ _ _ _ _ fun a => ?_
  fin_cases a <;> simp [ix2]

theorem taps_apply (X6 : Vec Ideal S3x5632 .f32) (o : ℕ) (ho : o + 256 ≤ 5632) (k : Fin 3) (f : Fin 256) :
    taps X6 o ho (ix2 k f) = X6 (ix2 k ⟨o + f.val, by omega⟩) := by
  unfold taps
  refine View.ld_unit_apply_of _ _ _ _ _ _ fun a => ?_
  fin_cases a <;> simp [ix2]

/-- An element of a chunk. -/
theorem chunk_apply (H : FVec Ideal S272x1024 .bf16) (X5 : Vec Ideal S1024x5632 .bf16) (X6 : Vec Ideal S3x5632 .f32) (o : ℕ) (ho : o + 256 ≤ 2816)
    (h1 : o + 256 ≤ 5632) (h2 : o + 2816 + 256 ≤ 5632) (r f : Fin 256) :
    (chunk H (cols X5 o h1) (cols X5 (o + 2816) h2) (taps X6 o h1) (taps X6 (o + 2816) h2) (ix2 r f) : EReal)
      = Cert.Ffn.gated (cv H X5 X6 r ⟨o + f.val, by omega⟩) (cv H X5 X6 r ⟨o + 2816 + f.val, by omega⟩) := by
  unfold chunk
  rw [act_apply, conv_apply, conv_apply]
  simp only [rows_apply, up_apply, up_apply', cols_apply, taps_apply]
  rfl

/-- The activations of a step, at a row and a hidden column. -/
def acts (H : FVec Ideal S272x1024 .bf16) (X5 : Vec Ideal S1024x5632 .bf16) (X6 : Vec Ideal S3x5632 .f32) : FVec Ideal S256x2816 .bf16 :=
  fun y => Cert.Ffn.gated (cv H X5 X6 (y 0) (Cert.Ffn.lower (y 1))) (cv H X5 X6 (y 0) (Cert.Ffn.upper (y 1)))

theorem piece_apply (H : FVec Ideal S272x1024 .bf16) (X5 : Vec Ideal S1024x5632 .bf16) (X6 : Vec Ideal S3x5632 .f32) (o o' : ℕ) (ho : o + 256 ≤ 2816)
    (e : o' = o + 2816) (h1 : o + 256 ≤ 5632) (h2 : o' + 256 ≤ 5632)
    (hq : ∀ a, (![0, o] : Fin 2 → Nat) a + (![256, 256] : Fin 2 → Nat) a ≤ S256x2816.size a) (x : S256x256.Idx) :
    chunk H (cols X5 o h1) (cols X5 o' h2) (taps X6 o h1) (taps X6 o' h2) x
      = acts H X5 X6 ((Rect.unit (s := S256x2816) ![0, o] ![256, 256] hq).emb x) := by
  subst e
  have ex : x = ix2 (x 0) (x 1) := by funext a; fin_cases a <;> rfl
  rw [ex]
  refine (chunk_apply H X5 X6 o ho h1 h2 (x 0) (x 1)).trans ?_
  unfold acts
  refine congrArg₂ Cert.Ffn.gated (congrArg₂ (cv H X5 X6) ?_ ?_) (congrArg₂ (cv H X5 X6) ?_ ?_)
  all_goals
    apply Fin.ext
    simp [Rect.emb, Rect.unit, Cert.Ffn.lower, Cert.Ffn.upper, ix2]
  all_goals omega

theorem mem_piece (o : ℕ) (hq : ∀ a, (![0, o] : Fin 2 → Nat) a + (![256, 256] : Fin 2 → Nat) a ≤ S256x2816.size a) (y : S256x2816.Idx)
    (h : o ≤ (y 1).val) (h' : (y 1).val < o + 256) : y ∈ (Rect.unit (s := S256x2816) ![0, o] ![256, 256] hq).set := by
  have h0 : (y 0).val < 256 := (y 0).isLt
  refine Rect.mem_set_unit.mpr fun a => ?_
  fin_cases a
  · exact ⟨Nat.zero_le _, by simpa using h0⟩
  · exact ⟨h, h'⟩

/-- The eleven chunks together are the activations. -/
theorem canon_pieces (H : FVec Ideal S272x1024 .bf16) (X5 : Vec Ideal S1024x5632 .bf16) (X6 : Vec Ideal S3x5632 .f32) :
    View.canon (pieces H X5 X6) = acts H X5 X6 := by
  funext y
  refine View.canon_apply_of_pieces (Val := Elt Ideal) (e := .bf16) (acts H X5 X6) _ ?_ y ?_
  · unfold pieces
    simp only [List.forall_mem_cons]
    refine ⟨?_, ?_, ?_, ?_, ?_, ?_, ?_, ?_, ?_, ?_, ?_, fun _ h => absurd h List.not_mem_nil⟩
    all_goals exact fun x => piece_apply H X5 X6 _ _ (by norm_num) (by norm_num) _ _ _ x
  · have h2 : (y 1).val < 2816 := (y 1).isLt
    rcases (by omega : (0 ≤ (y 1).val ∧ (y 1).val < 0 + 256) ∨ (256 ≤ (y 1).val ∧ (y 1).val < 256 + 256) ∨ (512 ≤ (y 1).val ∧ (y 1).val < 512 + 256) ∨ (768 ≤ (y 1).val ∧ (y 1).val < 768 + 256) ∨ (1024 ≤ (y 1).val ∧ (y 1).val < 1024 + 256) ∨ (1280 ≤ (y 1).val ∧ (y 1).val < 1280 + 256) ∨ (1536 ≤ (y 1).val ∧ (y 1).val < 1536 + 256) ∨ (1792 ≤ (y 1).val ∧ (y 1).val < 1792 + 256) ∨ (2048 ≤ (y 1).val ∧ (y 1).val < 2048 + 256) ∨ (2304 ≤ (y 1).val ∧ (y 1).val < 2304 + 256) ∨ (2560 ≤ (y 1).val ∧ (y 1).val < 2560 + 256)) with h | h | h | h | h | h | h | h | h | h | h
    · exact ⟨_, .tail _ (.tail _ (.tail _ (.tail _ (.tail _ (.tail _ (.tail _ (.tail _ (.tail _ (.tail _ (.head _)))))))))), mem_piece 0 inb_S256x2816_S256x256_0_0 y h.1 h.2⟩
    · exact ⟨_, .tail _ (.tail _ (.tail _ (.tail _ (.tail _ (.tail _ (.tail _ (.tail _ (.tail _ (.head _))))))))), mem_piece 256 inb_S256x2816_S256x256_0_256 y h.1 h.2⟩
    · exact ⟨_, .tail _ (.tail _ (.tail _ (.tail _ (.tail _ (.tail _ (.tail _ (.tail _ (.head _)))))))), mem_piece 512 inb_S256x2816_S256x256_0_512 y h.1 h.2⟩
    · exact ⟨_, .tail _ (.tail _ (.tail _ (.tail _ (.tail _ (.tail _ (.tail _ (.head _))))))), mem_piece 768 inb_S256x2816_S256x256_0_768 y h.1 h.2⟩
    · exact ⟨_, .tail _ (.tail _ (.tail _ (.tail _ (.tail _ (.tail _ (.head _)))))), mem_piece 1024 inb_S256x2816_S256x256_0_1024 y h.1 h.2⟩
    · exact ⟨_, .tail _ (.tail _ (.tail _ (.tail _ (.tail _ (.head _))))), mem_piece 1280 inb_S256x2816_S256x256_0_1280 y h.1 h.2⟩
    · exact ⟨_, .tail _ (.tail _ (.tail _ (.tail _ (.head _)))), mem_piece 1536 inb_S256x2816_S256x256_0_1536 y h.1 h.2⟩
    · exact ⟨_, .tail _ (.tail _ (.tail _ (.head _))), mem_piece 1792 inb_S256x2816_S256x256_0_1792 y h.1 h.2⟩
    · exact ⟨_, .tail _ (.tail _ (.head _)), mem_piece 2048 inb_S256x2816_S256x256_0_2048 y h.1 h.2⟩
    · exact ⟨_, .tail _ (.head _), mem_piece 2304 inb_S256x2816_S256x256_0_2304 y h.1 h.2⟩
    · exact ⟨_, .head _, mem_piece 2560 inb_S256x2816_S256x256_0_2560 y h.1 h.2⟩

end Cert.Kernel3Ideal.Blocks
end
-- ==== Proof.LastRows.lean ====
/- The normed rows of a step of the feed-forward kernel: its own 256, the one before and the one after. -/
module

public import proofs.«01_k».proof.Proof.LastRead

@[expose] public section

set_option maxRecDepth 16384

noncomputable section

namespace Cert.Kernel3Ideal.Blocks

open Cert.Kernel3Ideal Cert.Kernel3Ideal.Gen Idealize.ShloMosaic Idealize.ShloMosaic.TcCoe Idealize.SL.Sem

variable (i : grid0.Coords) (X0 : Vec Ideal S1x256x1024 .f32) (X1 X2 : Vec Ideal S1x8x1024 .f32) (X3 : Vec Ideal S1x1x6x1024 .f32)
    (X4 : Vec Ideal S1x1024 .f32)

/-- A row normed with the step's scale and shift. -/
def rowOf (x : Fin 1024 → EReal) (k : Fin 1024) : EReal :=
  Cert.Ffn.nrm x (fun k => X4 (ix2 0 k)) (fun k => X3 (ix4 0 0 4 k)) (fun k => X3 (ix4 0 0 3 k)) k

/-- A row of the scratch: the row before it normed, times one or zero. -/
theorem normed_apply (e : Fin 272) (k : Fin 1024) :
    (normed i X0 X1 X2 X3 X4 (ix2 e k) : EReal)
      = rowOf X3 X4 (fun k => k0_pay8 X0 X1 X2 (ix2 e k)) k * FloatOps.sitofp (F := Ideal) FTy.f32 (BitVec.setWidth 32 (k0_pay9 i (ix2 e 0))) := by
  unfold normed k0_pay11 k0_pay10 k0_pay3 k0_pay4 k0_pay7 k0_pay2 rowOf Cert.Ffn.nrm Cert.Ffn.scale
  pointwise

theorem raw_before (k : Fin 1024) : (k0_pay8 X0 X1 X2 (ix2 7 k) : EReal) = X1 (ix3 0 7 k) := by
  unfold k0_pay8
  pointwise

theorem raw_after (k : Fin 1024) : (k0_pay8 X0 X1 X2 (ix2 264 k) : EReal) = X2 (ix3 0 0 k) := by
  unfold k0_pay8
  pointwise

theorem block_apply (r : Fin 256) (k : Fin 1024) : (k0_pay6 X0 (ix2 r k) : EReal) = X0 (ix3 0 r k) := by
  unfold k0_pay6
  pointwise

theorem raw_in (r : Fin 256) (k : Fin 1024) : (k0_pay8 X0 X1 X2 (ix2 ⟨8 + r.val, by omega⟩ k) : EReal) = X0 (ix3 0 r k) := by
  unfold k0_pay8
  pointwise
  exact block_apply X0 r k

theorem mask_in (i : grid0.Coords) (r : Fin 256) : k0_pay9 i (ix2 (n0 := 272) ⟨8 + r.val, by omega⟩ 0) = 1#1 := by
  unfold k0_pay9
  pointwise
  generalize i 1 = t
  revert t r
  decide +kernel

theorem mask_before (i : grid0.Coords) : k0_pay9 i (ix2 (n0 := 272) 7 0) = if 2 ≤ (i 1).val + 1 then 1#1 else 0#1 := by
  unfold k0_pay9
  pointwise
  generalize i 1 = t
  revert t
  decide +kernel

theorem mask_after (i : grid0.Coords) : k0_pay9 i (ix2 (n0 := 272) 264 0) = if 1 ≤ (i 1).val + 1 ∧ (i 1).val + 1 ≤ 7 then 1#1 else 0#1 := by
  unfold k0_pay9
  pointwise
  generalize i 1 = t
  revert t
  decide +kernel

theorem one_real : FloatOps.sitofp (F := Ideal) FTy.f32 (BitVec.setWidth 32 (1#1)) = (1 : EReal) := by
  show (((BitVec.setWidth 32 (1#1)).toInt : ℝ) : EReal) = 1
  rw [show (BitVec.setWidth 32 (1#1)).toInt = 1 by decide]
  simp

theorem zero_real : FloatOps.sitofp (F := Ideal) FTy.f32 (BitVec.setWidth 32 (0#1)) = (0 : EReal) := by
  show (((BitVec.setWidth 32 (0#1)).toInt : ℝ) : EReal) = 0
  rw [show (BitVec.setWidth 32 (0#1)).toInt = 0 by decide]
  simp

/-- The step's own rows, normed. -/
theorem normed_in (r : Fin 256) (k : Fin 1024) :
    (normed i X0 X1 X2 X3 X4 (ix2 ⟨8 + r.val, by omega⟩ k) : EReal) = rowOf X3 X4 (fun k => X0 (ix3 0 r k)) k := by
  rw [normed_apply, mask_in, one_real, mul_one]
  simp only [raw_in]

/-- The row before the step's rows: zero unless the step lies inside its part of the tokens. -/
theorem normed_before (k : Fin 1024) :
    (normed i X0 X1 X2 X3 X4 (ix2 7 k) : EReal) = if 2 ≤ (i 1).val + 1 then rowOf X3 X4 (fun k => X1 (ix3 0 7 k)) k else 0 := by
  rw [normed_apply, mask_before]
  by_cases h : 2 ≤ (i 1).val + 1
  · rw [if_pos h, if_pos h, one_real, mul_one]
    simp only [raw_before]
  · rw [if_neg h, if_neg h, zero_real, mul_zero]

/-- The row after the step's rows: zero unless the part of the tokens goes on. -/
theorem normed_after (k : Fin 1024) :
    (normed i X0 X1 X2 X3 X4 (ix2 264 k) : EReal)
      = if 1 ≤ (i 1).val + 1 ∧ (i 1).val + 1 ≤ 7 then rowOf X3 X4 (fun k => X2 (ix3 0 0 k)) k else 0 := by
  rw [normed_apply, mask_after]
  by_cases h : 1 ≤ (i 1).val + 1 ∧ (i 1).val + 1 ≤ 7
  · rw [if_pos h, if_pos h, one_real, mul_one]
    simp only [raw_after]
  · rw [if_neg h, if_neg h, zero_real, mul_zero]

theorem gate_apply (d : Fin 1024) : (k0_pay5 X3 (ix2 0 d) : EReal) = X3 (ix4 0 0 5 d) := by
  unfold k0_pay5 k0_pay2
  pointwise

end Cert.Kernel3Ideal.Blocks
end
-- ==== Proof.LastFinal.lean ====
/- What the feed-forward kernel leaves in its result array. -/
module

public import proofs.«01_k».proof.Proof.LastRows
public import Idealize.ShloMosaic.Lib.Claim
public import Idealize.ShloMosaic.Lib.StableHlo.ReadAt

@[expose] public section

set_option maxRecDepth 16384

noncomputable section

namespace Cert.Kernel3Ideal.Blocks

open Cert.Kernel3Ideal Cert.Kernel3Ideal.Gen Idealize.ShloMosaic Idealize.ShloMosaic.TcCoe Idealize.SL.Sem

variable (m : (ℓ : Loc nD τ sig) → Buf (Elt Ideal) ℓ)

theorem ix0 : ∀ t : Fin cfg0.N, win0_0.index t = ![(grid0.coords t 0).val, (grid0.coords t 1).val + 1, 0] := (by decide +kernel : ∀ t : Fin grid0.N, _)
theorem ix1 : ∀ t : Fin cfg0.N, win0_1.index t = ![(grid0.coords t 0).val, 32 * ((grid0.coords t 1).val + 1) - 1, 0] := (by decide +kernel : ∀ t : Fin grid0.N, _)
theorem ix2w : ∀ t : Fin cfg0.N, win0_2.index t = ![(grid0.coords t 0).val, min (32 * ((grid0.coords t 1).val + 1 + 1)) 287, 0] := (by decide +kernel : ∀ t : Fin grid0.N, _)
theorem ix3w : ∀ t : Fin cfg0.N, win0_3.index t = ![(grid0.coords t 0).val, min ((grid0.coords t 1).val + 1) 1, 0, 0] := (by decide +kernel : ∀ t : Fin grid0.N, _)
theorem ix4w : ∀ t : Fin cfg0.N, win0_4.index t = ![0, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![0, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![0, 0] := (by decide +kernel : ∀ t : Fin grid0.N, _)
theorem ix9 : ∀ t : Fin cfg0.N, win0_9.index t = ![(grid0.coords t 0).val, (grid0.coords t 1).val, 0] := (by decide +kernel : ∀ t : Fin grid0.N, _)

/-- The batch item of a step. -/
def item (t : Fin cfg0.N) : Fin 32 := grid0.coords t 0

/-- The block of tokens of a step. -/
def blk (t : Fin cfg0.N) : Fin 9 := ⟨(grid0.coords t 1).val + 1, by have h : (grid0.coords t 1).val < 8 := (grid0.coords t 1).isLt; omega⟩

/-- Row `r` of a step's block among all tokens. -/
def tok (t : Fin cfg0.N) (r : Fin 256) : Fin 2304 := ⟨256 * (blk t).val + r.val, by have := (blk t).isLt; omega⟩

/-- Row `r` of a step's block among the latent tokens. -/
def row (t : Fin cfg0.N) (r : Fin 256) : Fin 2048 :=
  ⟨256 * (grid0.coords t 1).val + r.val, by have h : (grid0.coords t 1).val < 8 := (grid0.coords t 1).isLt; omega⟩

theorem emb9 (t : Fin cfg0.N) (y : S1x256x1024.Idx) : (win0_9.blk t).view.emb y
    = ix3 (n0 := 32) (n1 := 2048) (n2 := 1024) (item t) (row t (y 1)) (y 2) := by
  unfold item row
  blk_ext [ix9 t]

theorem read0 (c : Dev nD) (t : Fin cfg0.N) (r : Fin 256) (l : Fin 1024) : iblk m c 0 t (ix3 0 r l)
    = V m c main_arg0 (ix3 (n0 := 32) (n1 := 2304) (n2 := 1024) (item t) (tok t r) l) := by
  refine congrArg (V m c main_arg0) ?_
  unfold item tok blk
  blk_ext [ix0 t]

theorem read1 (c : Dev nD) (t : Fin cfg0.N) (h : 1 ≤ (blk t).val) (l : Fin 1024) : iblk m c 1 t (ix3 0 7 l)
    = V m c main_arg0 (ix3 (n0 := 32) (n1 := 2304) (n2 := 1024) (item t) ⟨256 * (blk t).val - 1, by have := (blk t).isLt; omega⟩ l) := by
  refine congrArg (V m c main_arg0) ?_
  have h : 1 ≤ (grid0.coords t 1).val + 1 := h
  unfold item blk
  blk_ext [ix1 t]

theorem read2 (c : Dev nD) (t : Fin cfg0.N) (h : (blk t).val ≤ 7) (l : Fin 1024) : iblk m c 2 t (ix3 0 0 l)
    = V m c main_arg0 (ix3 (n0 := 32) (n1 := 2304) (n2 := 1024) (item t) ⟨256 * ((blk t).val + 1), by omega⟩ l) := by
  refine congrArg (V m c main_arg0) ?_
  have h : (grid0.coords t 1).val + 1 ≤ 7 := h
  unfold item blk
  blk_ext [ix2w t]

theorem read3 (c : Dev nD) (t : Fin cfg0.N) (j : Fin 6) (l : Fin 1024) : iblk m c 3 t (ix4 0 0 j l)
    = V m c main_arg1 (ix4 (n0 := 32) (n1 := 2) (n2 := 6) (n3 := 1024) (item t) ⟨min (blk t).val 1, by omega⟩ j l) := by
  refine congrArg (V m c main_arg1) ?_
  unfold item blk
  blk_ext [ix3w t]

theorem read4 (c : Dev nD) (t : Fin cfg0.N) : iblk m c 4 t = V m c main_v1 := by
  funext y
  refine congrArg (V m c main_v1) ?_
  blk_ext [ix4w t]

theorem read5 (c : Dev nD) (t : Fin cfg0.N) : iblk m c 5 t = V m c main_v2 := by
  funext y
  refine congrArg (V m c main_v2) ?_
  blk_ext [ix5 t]

theorem read6 (c : Dev nD) (t : Fin cfg0.N) : iblk m c 6 t = V m c main_arg4 := by
  funext y
  refine congrArg (V m c main_arg4) ?_
  blk_ext [ix6 t]

theorem read7 (c : Dev nD) (t : Fin cfg0.N) : iblk m c 7 t = V m c main_v3 := by
  funext y
  refine congrArg (V m c main_v3) ?_
  blk_ext [ix7 t]

theorem read8 (c : Dev nD) (t : Fin cfg0.N) : iblk m c 8 t = V m c main_v0 := by
  funext y
  refine congrArg (V m c main_v0) ?_
  blk_ext [ix8 t]

/-- The norm's gains reach the kernel as one row. -/
theorem gains (c : Dev nD) (k : Fin 1024) :
    (Gen.V m c main_v1 : S1x1024.Idx → EReal) (ix2 0 k) = (m ((c.tc : Thread nD τ).loc main_arg2) : S1024.Idx → EReal) (Idealize.ShloMosaic.ix1 k) := by
  entry_read
  change shapeCast S1x1024 (m (c, Proc.tc.devRef main_arg2) : FVec Ideal S1024 .f32) shapeCasts_S1024_S1x1024 (ix2 0 k) = _
  pointwise
  try rfl

/-- The last norm's gains reach the kernel as one row. -/
theorem lastGains (c : Dev nD) (k : Fin 1024) :
    (Gen.V m c main_v0 : S1x1024.Idx → EReal) (ix2 0 k) = (m ((c.tc : Thread nD τ).loc main_arg6) : S1024.Idx → EReal) (Idealize.ShloMosaic.ix1 k) := by
  entry_read
  change shapeCast S1x1024 (m (c, Proc.tc.devRef main_arg6) : FVec Ideal S1024 .f32) shapeCasts_S1024_S1x1024 (ix2 0 k) = _
  pointwise
  try rfl

/-- The weights of the up-projection reach the kernel as they are. -/
theorem ups (c : Dev nD) (j : S1024x5632.Idx) :
    (Gen.V m c main_v2 : S1024x5632.Idx → EReal) j = (m ((c.tc : Thread nD τ).loc main_arg3) : S1024x5632.Idx → EReal) j := by
  entry_read
  rfl

/-- The weights of the down-projection reach the kernel as they are. -/
theorem downs (c : Dev nD) (j : S2816x1024.Idx) :
    (Gen.V m c main_v3 : S2816x1024.Idx → EReal) j = (m ((c.tc : Thread nD τ).loc main_arg5) : S2816x1024.Idx → EReal) j := by
  entry_read
  rfl

theorem toks (c : Dev nD) : Gen.V m c main_arg0 = m ((c.tc : Thread nD τ).loc main_arg0) := by
  entry_read
  after_reads_simp

theorem mods (c : Dev nD) : Gen.V m c main_arg1 = m ((c.tc : Thread nD τ).loc main_arg1) := by
  entry_read
  after_reads_simp

theorem convs (c : Dev nD) : Gen.V m c main_arg4 = m ((c.tc : Thread nD τ).loc main_arg4) := by
  entry_read
  after_reads_simp

/-- The last layer's result, as a function of what enters the kernel. -/
def FK (c : Dev nD) : FVec Ideal S32x2048x1024 .f32 := fun y =>
  Cert.Ffn.last (fun d => Cert.Ffn.ffn (V m c main_arg0) (V m c main_arg1) (fun k => V m c main_v1 (ix2 0 k)) (fun k f => V m c main_v2 (ix2 k f))
    (V m c main_arg4) (fun f d => V m c main_v3 (ix2 f d)) (y 0) (Cert.Ffn.latent (y 1)) d) (fun d => V m c main_v0 (ix2 0 d)) (y 2)

theorem part_tok (t : Fin cfg0.N) (r : Fin 256) : Cert.Ffn.part (tok t r) = ⟨min (blk t).val 1, by omega⟩ := by
  unfold Cert.Ffn.part tok
  apply Fin.ext
  split <;> simp only [] at * <;> simp <;> omega

/-- The normed rows of a step. -/
def rowsOf (c : Dev nD) (t : Fin cfg0.N) : FVec Ideal S272x1024 .bf16 :=
  normed (grid0.coords t) (iblk m c 0 t) (iblk m c 1 t) (iblk m c 2 t) (iblk m c 3 t) (iblk m c 4 t)

/-- One column's hidden value of a token in a step's part. -/
def hidOf (c : Dev nD) (t : Fin cfg0.N) (i : Fin 2304) (f : Fin 5632) : EReal :=
  Cert.Ffn.hid (V m c main_arg0) (V m c main_arg1) (fun k => V m c main_v1 (ix2 0 k)) (fun k f => V m c main_v2 (ix2 k f)) (item t) i f

/-- A row of the scratch that is a token normed gives that token's hidden value. -/
theorem hid_of (c : Dev nD) (t : Fin cfg0.N) (e : Fin 272) (i : Fin 2304) (hi : Cert.Ffn.part i = ⟨min (blk t).val 1, by omega⟩)
    (h : ∀ k, (rowsOf m c t (ix2 e k) : EReal) = rowOf (iblk m c 3 t) (iblk m c 4 t) (fun k => V m c main_arg0 (ix3 (item t) i k)) k) (f : Fin 5632) :
    (∑ k : Fin 1024, (rowsOf m c t (ix2 e k) : EReal) * iblk m c 5 t (ix2 k f)) = hidOf m c t i f := by
  unfold hidOf Cert.Ffn.hid Cert.Ffn.up
  refine Finset.sum_congr rfl fun k _ => ?_
  rw [h, hi]
  refine congrArg₂ (· * ·) ?_ (congrFun (read5 m c t) _)
  unfold rowOf
  simp only [read3]
  rw [read4]

theorem hid_in (c : Dev nD) (t : Fin cfg0.N) (r : Fin 256) (f : Fin 5632) :
    (∑ k : Fin 1024, (rowsOf m c t (ix2 ⟨8 + r.val, by omega⟩ k) : EReal) * iblk m c 5 t (ix2 k f)) = hidOf m c t (tok t r) f := by
  refine hid_of m c t _ _ (part_tok t r) (fun k => ?_) f
  unfold rowsOf
  rw [normed_in]
  simp only [read0]

theorem zero_row (c : Dev nD) (t : Fin cfg0.N) (e : Fin 272) (h : ∀ k, (rowsOf m c t (ix2 e k) : EReal) = 0) (f : Fin 5632) :
    (∑ k : Fin 1024, (rowsOf m c t (ix2 e k) : EReal) * iblk m c 5 t (ix2 k f)) = 0 :=
  Finset.sum_eq_zero fun k _ => by rw [h, zero_mul]

theorem hid_before (c : Dev nD) (t : Fin cfg0.N) (r : Fin 256) (f : Fin 5632) :
    (∑ k : Fin 1024, (rowsOf m c t (ix2 ⟨7 + r.val, by omega⟩ k) : EReal) * iblk m c 5 t (ix2 k f))
      = if (tok t r).val = 0 ∨ (tok t r).val = 256 then 0 else hidOf m c t ⟨(tok t r).val - 1, by omega⟩ f := by
  have hb := (blk t).isLt
  have ht : (tok t r).val = 256 * (blk t).val + r.val := rfl
  by_cases hr : r.val = 0
  · have er : (⟨7 + r.val, by omega⟩ : Fin 272) = 7 := Fin.ext (by show 7 + r.val = 7; omega)
    rw [er]
    by_cases h2 : 2 ≤ (blk t).val
    · rw [if_neg (by omega)]
      refine hid_of m c t _ _ ?_ (fun k => ?_) f
      · unfold Cert.Ffn.part
        rw [if_neg (by simp only []; omega)]
        apply Fin.ext
        simp
        omega
      · unfold rowsOf
        rw [normed_before]
        refine (if_pos h2).trans ?_
        simp only [read1 m c t (by omega)]
        refine congrArg (fun z => rowOf (iblk m c 3 t) (iblk m c 4 t) z k) (funext fun k => congrArg (V m c main_arg0) ?_)
        simp only [ht, hr, Nat.add_zero]
    · rw [if_pos (by omega)]
      refine zero_row m c t _ (fun k => ?_) f
      unfold rowsOf
      rw [normed_before]
      exact if_neg h2
  · rw [if_neg (by omega)]
    have er : (⟨7 + r.val, by omega⟩ : Fin 272) = ⟨8 + (⟨r.val - 1, by omega⟩ : Fin 256).val, by have := r.isLt; simp only []; omega⟩ := Fin.ext (by simp only []; omega)
    rw [er, hid_in]
    refine congrArg (fun z => hidOf m c t z f) (Fin.ext ?_)
    show 256 * (blk t).val + (r.val - 1) = (tok t r).val - 1
    omega

theorem hid_after (c : Dev nD) (t : Fin cfg0.N) (r : Fin 256) (f : Fin 5632) :
    (∑ k : Fin 1024, (rowsOf m c t (ix2 ⟨9 + r.val, by omega⟩ k) : EReal) * iblk m c 5 t (ix2 k f))
      = if h : (tok t r).val = 255 ∨ (tok t r).val = 2303 then 0 else hidOf m c t ⟨(tok t r).val + 1, by omega⟩ f := by
  have hb := (blk t).isLt
  have ht : (tok t r).val = 256 * (blk t).val + r.val := rfl
  by_cases hr : r.val = 255
  · have er : (⟨9 + r.val, by omega⟩ : Fin 272) = 264 := Fin.ext (by show 9 + r.val = 264; omega)
    rw [er]
    by_cases h2 : 1 ≤ (blk t).val ∧ (blk t).val ≤ 7
    · rw [dif_neg (by omega)]
      refine hid_of m c t _ _ ?_ (fun k => ?_) f
      · unfold Cert.Ffn.part
        rw [if_neg (by simp only []; omega)]
        apply Fin.ext
        simp
        omega
      · unfold rowsOf
        rw [normed_after]
        refine (if_pos h2).trans ?_
        simp only [read2 m c t h2.2]
        refine congrArg (fun z => rowOf (iblk m c 3 t) (iblk m c 4 t) z k) (funext fun k => congrArg (V m c main_arg0) ?_)
        refine congrArg (fun z => ix3 (item t) z k) (Fin.ext ?_)
        simp only []
        omega
    · rw [dif_pos (by omega)]
      refine zero_row m c t _ (fun k => ?_) f
      unfold rowsOf
      rw [normed_after]
      exact if_neg h2
  · rw [dif_neg (by omega)]
    have er : (⟨9 + r.val, by omega⟩ : Fin 272) = ⟨8 + (⟨r.val + 1, by omega⟩ : Fin 256).val, by have := r.isLt; simp only []; omega⟩ := Fin.ext (by simp only []; omega)
    rw [er, hid_in]
    refine congrArg (fun z => hidOf m c t z f) (Fin.ext ?_)
    show 256 * (blk t).val + (r.val + 1) = (tok t r).val + 1
    omega

/-- The convolution of a step is the convolution of the tokens' hidden values. -/
theorem cv_eq (c : Dev nD) (t : Fin cfg0.N) (r : Fin 256) (f : Fin 5632) :
    cv (rowsOf m c t) (iblk m c 5 t) (iblk m c 6 t) r f
      = Cert.Ffn.conv (V m c main_arg0) (V m c main_arg1) (fun k => V m c main_v1 (ix2 0 k)) (fun k f => V m c main_v2 (ix2 k f))
          (V m c main_arg4) (item t) (tok t r) f := by
  unfold cv
  rw [hid_before, hid_in, hid_after, read6]
  rfl

/-- The result array after the run is the last layer's result of what entered the kernel. -/
theorem final (c : Dev nD) : (dats m 0 c).arrAt 9 cfg0.N = FK m c := by
  refine (dats m 0 c).arrAt_eq_of_covers 9 _ (by decide +kernel) fun t hf y => ?_
  blk_simp
  rw [after m c t, canon_pieces, emb9]
  have hy : y = ix3 0 (y 1) (y 2) := (eq_ix3 y).trans (congrArg (fun z : Fin 1 => ix3 z (y 1 : Fin 256) (y 2 : Fin 1024)) (Subsingleton.elim (α := Fin 1) _ _))
  rw [hy]
  refine (out_apply _ _ _ _ _ _ _).trans ?_
  have hl : Cert.Ffn.latent (row t (y 1)) = tok t (y 1) := Fin.ext (by
    show 256 + (256 * (grid0.coords t 1).val + (y 1).val) = 256 * ((grid0.coords t 1).val + 1) + (y 1).val
    omega)
  unfold FK
  refine Eq.trans ?_ (congrArg (fun z => Cert.Ffn.last (fun d => Cert.Ffn.ffn (V m c main_arg0) (V m c main_arg1) (fun k => V m c main_v1 (ix2 0 k)) (fun k f => V m c main_v2 (ix2 k f))
    (V m c main_arg4) (fun f d => V m c main_v3 (ix2 f d)) (item t) z d) (fun d => V m c main_v0 (ix2 0 d)) (y 2)) hl.symm)
  refine congrArg₂ (fun u v => Cert.Ffn.last u v (y 2)) (funext fun d => ?_) (funext fun d => congrFun (read8 m c t) _)
  unfold Cert.Ffn.ffn
  refine congrArg₂ (· + ·) ((block_apply _ _ _).trans (read0 m c t _ _)) (congrArg₂ (· * ·) ?_ (Finset.sum_congr rfl fun f _ => congrArg₂ (· * ·) ?_ ?_))
  · refine (gate_apply _ _).trans ((read3 m c t _ _).trans (congrArg (V m c main_arg1) ?_))
    refine congrArg (fun z => ix4 (item t) z 5 d) (part_tok t (y 1)).symm
  · exact congrArg₂ Cert.Ffn.gated (cv_eq m c t (y 1) _) (cv_eq m c t (y 1) _)
  · exact congrFun (read7 m c t) _

end Cert.Kernel3Ideal.Blocks
end
-- ==== Proof.LastRef.lean ====
/- The stages of the plain result of the last layer, read at an index. -/
module

public import proofs.«01_k».proof.Proof.FfnSpec
public import proofs.«01_k».proof.Proof.Gen.Reference3Ideal.Read
public import Idealize.ShloMosaic.Lib.Pointwise
public import Idealize.ShloMosaic.Lib.ValueIdx

@[expose] public section

set_option maxRecDepth 16384

noncomputable section

namespace Cert.Reference3Ideal.At

open Cert.Reference3Ideal Cert.Reference3Ideal.Read Idealize.ShloMosaic

variable (x0 : FVec Ideal S32x2304x1024 .f32) (x1 : FVec Ideal S32x2x6x1024 .f32) (x2 : FVec Ideal S1024 .f32)
  (x3 : FVec Ideal S1024x5632 .f32) (x4 : FVec Ideal S3x5632 .f32) (x5 : FVec Ideal S2816x1024 .f32) (x6 : FVec Ideal S1024 .f32)

/-! ### The latent tokens -/

/-- A latent token among all. -/
def lat (i : Fin 2048) : Fin 2304 := ⟨256 + i.val, by omega⟩

theorem v21 (b : Fin 32) (i : Fin 2048) (k : Fin 1024) :
    val_main_v21 (F := Ideal) x0 (ix3 b i k) = (x0 (ix3 b (lat i) k) : EReal) * Cert.Ffn.scale (fun k => x0 (ix3 b (lat i) k)) := by
  unfold val_main_v21 val_main_v20 val_main_v19 val_main_v18 val_main_v17 val_main_cst_1 val_main_v16 val_main_v15 val_main_cst_0 val_main_v14 val_main_v13 val_main_v12 val_main_cst val_main_v0 lat Cert.Ffn.scale
  pointwise

theorem v30 (b : Fin 32) (i : Fin 2048) (k : Fin 1024) :
    val_main_v30 (F := Ideal) x0 x1 x2 (ix3 b i k) = Cert.Ffn.nrm (fun k => x0 (ix3 b (lat i) k)) (fun k => x2 (ix1 k))
      (fun k => x1 (ix4 b 1 4 k)) (fun k => x1 (ix4 b 1 3 k)) k := by
  unfold val_main_v30 val_main_v29 val_main_v28 val_main_v27 val_main_v26 val_main_v25 val_main_cst_2 val_main_v24 val_main_v23 val_main_v22 val_main_v8 val_main_v7 val_main_v6 val_main_v5 val_main_v4 val_main_v3 val_main_v2 val_main_v1 Cert.Ffn.nrm
  pointwise
  rw [v21]

theorem part_lat (i : Fin 2048) : Cert.Ffn.part (lat i) = 1 := by
  unfold Cert.Ffn.part lat
  simp only []
  split
  · first | rfl | (exfalso; omega)
  · first | rfl | (exfalso; omega)

/-- A token's hidden values. -/
theorem v31 (b : Fin 32) (i : Fin 2048) (f : Fin 5632) :
    val_main_v31 (F := Ideal) x0 x1 x2 x3 (ix3 b i f) = Cert.Ffn.hid x0 x1 (fun k => x2 (ix1 k)) (fun k f => x3 (ix2 k f)) b (lat i) f := by
  unfold val_main_v31 Cert.Ffn.hid Cert.Ffn.up
  rw [part_lat]
  pointwise
  exact Finset.sum_congr rfl fun k _ => by rw [v30]

theorem v35 (b : Fin 32) (i : Fin 2048) (f : Fin 5632) :
    val_main_v35 (F := Ideal) x0 x1 x2 x3 (ix3 b i f) = Cert.Ffn.before x0 x1 (fun k => x2 (ix1 k)) (fun k f => x3 (ix2 k f)) b (lat i) f := by
  unfold val_main_v35 val_main_v34 val_main_v33 val_main_cst_3 Cert.Ffn.before
  pointwise
  have ht : (lat i).val = 256 + i.val := rfl
  by_cases h : i.val < 1
  · exact (dif_pos h).trans (if_pos (by omega)).symm
  · refine (dif_neg h).trans ((v31 _ _ _ _ _ ⟨i.val - 1, by omega⟩ _).trans (Eq.trans ?_ (if_neg (by omega)).symm))
    refine congrArg (fun z => Cert.Ffn.hid x0 x1 (fun k => x2 (ix1 k)) (fun k f => x3 (ix2 k f)) b z f) (Fin.ext ?_)
    show 256 + (i.val - 1) = (lat i).val - 1
    omega

theorem v37 (b : Fin 32) (i : Fin 2048) (f : Fin 5632) :
    val_main_v37 (F := Ideal) x0 x1 x2 x3 (ix3 b i f) = Cert.Ffn.after x0 x1 (fun k => x2 (ix1 k)) (fun k f => x3 (ix2 k f)) b (lat i) f := by
  unfold val_main_v37 val_main_v36 val_main_v33 val_main_cst_3 Cert.Ffn.after
  pointwise
  have ht : (lat i).val = 256 + i.val := rfl
  by_cases h : i.val < 2048 - 1
  · refine (dif_pos h).trans ((v31 _ _ _ _ _ ⟨1 + i.val, by omega⟩ _).trans (Eq.trans ?_ (dif_neg (by omega)).symm))
    refine congrArg (fun z => Cert.Ffn.hid x0 x1 (fun k => x2 (ix1 k)) (fun k f => x3 (ix2 k f)) b z f) (Fin.ext ?_)
    show 256 + (1 + i.val) = (lat i).val + 1
    omega
  · have hi := i.isLt
    have hl : (lat i).val = 255 ∨ (lat i).val = 2303 := by omega
    refine (dif_neg h).trans ?_
    rw [dif_pos hl]

/-- The convolution over the tokens. -/
theorem v54 (b : Fin 32) (i : Fin 2048) (f : Fin 5632) :
    val_main_v54 (F := Ideal) x0 x1 x2 x3 x4 (ix3 b i f) = Cert.Ffn.conv x0 x1 (fun k => x2 (ix1 k)) (fun k f => x3 (ix2 k f)) x4 b (lat i) f := by
  unfold val_main_v54 val_main_v53 val_main_v52 val_main_v51 val_main_v50 val_main_v49 val_main_v48 val_main_v47 val_main_v46 val_main_v45 val_main_v44 val_main_v43 val_main_v42 val_main_v41 val_main_v40 val_main_v39 val_main_v38 Cert.Ffn.conv
  pointwise
  rw [v31, v35, v37]

/-- The gated activations. -/
theorem v58 (b : Fin 32) (i : Fin 2048) (f : Fin 2816) :
    val_main_v58 (F := Ideal) x0 x1 x2 x3 x4 (ix3 b i f) = Cert.Ffn.gated
      (Cert.Ffn.conv x0 x1 (fun k => x2 (ix1 k)) (fun k f => x3 (ix2 k f)) x4 b (lat i) (Cert.Ffn.lower f))
      (Cert.Ffn.conv x0 x1 (fun k => x2 (ix1 k)) (fun k f => x3 (ix2 k f)) x4 b (lat i) (Cert.Ffn.upper f)) := by
  rw [← v54, ← v54]
  unfold val_main_v58 val_main_v57 val_main_call0_v5 val_main_call0_v4 val_main_call0_cst_0 val_main_call0_v3 val_main_call0_v2 val_main_call0_cst val_main_call0_v1 val_main_call0_v0 val_main_v56 val_main_v55 Cert.Ffn.gated Cert.Ffn.lower Cert.Ffn.upper
  pointwise

theorem v62 (b : Fin 32) (i : Fin 2048) (d : Fin 1024) :
    val_main_v62 (F := Ideal) x0 x1 x2 x3 x4 x5 (ix3 b i d)
      = Cert.Ffn.ffn x0 x1 (fun k => x2 (ix1 k)) (fun k f => x3 (ix2 k f)) x4 (fun f d => x5 (ix2 f d)) b (lat i) d := by
  unfold val_main_v62 val_main_v61 val_main_v60 val_main_v59 val_main_v11 val_main_v10 val_main_v9 val_main_v2 val_main_v1 val_main_v0 Cert.Ffn.ffn
  rw [part_lat]
  pointwise
  simp only [v58]
  exact congrArg (fun z => (x0 (ix3 b z d) : EReal) + _) (Fin.ext (by simp [lat]))

/-- The plain result at an element: the feed-forward part of the token, normed. -/
theorem v75 (b : Fin 32) (i : Fin 2048) (d : Fin 1024) :
    val_main_v75 (F := Ideal) x0 x1 x2 x3 x4 x5 x6 (ix3 b i d)
      = Cert.Ffn.last (fun d => Cert.Ffn.ffn x0 x1 (fun k => x2 (ix1 k)) (fun k f => x3 (ix2 k f)) x4 (fun f d => x5 (ix2 f d)) b (Cert.Ffn.latent i) d)
          (fun d => x6 (ix1 d)) d := by
  have h : ∀ d, val_main_v62 (F := Ideal) x0 x1 x2 x3 x4 x5 (ix3 b i d)
      = Cert.Ffn.ffn x0 x1 (fun k => x2 (ix1 k)) (fun k f => x3 (ix2 k f)) x4 (fun f d => x5 (ix2 f d)) b (Cert.Ffn.latent i) d :=
    fun d => v62 x0 x1 x2 x3 x4 x5 b i d
  unfold val_main_v75 val_main_v74 val_main_v73 val_main_v72 val_main_v71 val_main_v70 val_main_v69 val_main_v68 val_main_cst_6 val_main_v67 val_main_v66 val_main_cst_5 val_main_v65 val_main_v64 val_main_v63 val_main_cst_4 Cert.Ffn.last Cert.Ffn.scale
  pointwise
  simp only [h]

end Cert.Reference3Ideal.At
end
-- ==== Proof.lean ====
/- The attention: its kernel runs and leaves its arguments, is the sanctioned idealization of the program printed from it,
   and computes what the reference computes. The last theorem is `Cert.Proof.claim`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.QkvKernel
public import proofs.«01_k».proof.Proof.QkvRef
public import proofs.«01_k».proof.Proof.OutKernel
public import proofs.«01_k».proof.Proof.OutRef
public import proofs.«01_k».proof.Proof.PostKernel
public import proofs.«01_k».proof.Proof.PostRef
public import proofs.«01_k».proof.Proof.GluKernel
public import proofs.«01_k».proof.Proof.GluRef
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Equal
public import proofs.«01_k».proof.Proof.Finite
public import proofs.«01_k».proof.Proof.FfnFinal
public import proofs.«01_k».proof.Proof.FfnRef
public import proofs.«01_k».proof.Proof.LastFinal
public import proofs.«01_k».proof.Proof.LastRef
public import Idealize.ShloMosaic.Adequacy
public import Idealize.ShloMosaic.Init

@[expose] public section

set_option maxRecDepth 16384

noncomputable section

namespace Cert.Proof

open Idealize Idealize.ShloMosaic

/-- The shape relations the precondition's operations take: a scalar is broadcast to each array. -/
theorem facts_finite : Cert.Pre_finite.Facts where
  bcast_S_S32x2304x1024 := by decide
  bcast_S_S16x15x31 := by decide

instance : Cert.Pre_finite.Facts := facts_finite

/-- The kernel at the hardware's numbers runs and leaves its arguments and the machine at rest. -/
theorem kernel_rests : Cert.quiescent_Kernel := fun m ρ _ => Cert.Kernel.Gen.frame m ρ

/-- The kernel at the extended reals runs and leaves its arguments and the machine at rest. -/
theorem ideal_rests : Cert.quiescent_KernelIdeal := fun m ρ _ => Cert.KernelIdeal.Gen.frame m ρ

/-- The same under the precondition. -/
theorem ideal_rests_finite : Cert.quiescent_KernelIdeal_pre_finite := fun m ρ _ => Cert.KernelIdeal.Gen.frame m ρ

/-- The reference at the extended reals runs and leaves its arguments and the machine at rest. -/
theorem reference_rests : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem reference_rests_finite : Cert.quiescent_ReferenceIdeal_pre_finite := fun m ρ _ => reference_rests m ρ trivial

/-- The three constants the idealization reads as their exact values: the scale of the scores, the mask and the base-two
    logarithm of Euler's number. -/
theorem preserved : Cert.preserves_Kernel_KernelIdeal :=
  ⟨IdealRules.named_const.statement Cert.KernelIdeal.κ "scale" .f32 0x3E38AA3B#32 (((Real.log 2)⁻¹ * 8⁻¹ : ℝ) : EReal) rfl,
   IdealRules.named_const.statement Cert.KernelIdeal.κ "mask" .f32 0xF149F2CA#32 ⊥ rfl,
   IdealRules.named_const.statement Cert.KernelIdeal.κ "log2e" .f32 0x3FB8AA3B#32 (((Real.log 2)⁻¹ : ℝ) : EReal) rfl⟩

/-- The function of the four arguments that the kernel's result array holds. -/
def out (x0 x1 x2 : FVec Ideal ⟨3, ![32, 2304, 1024]⟩ .f32) (x3 : FVec Ideal ⟨3, ![16, 15, 31]⟩ .f32) :
    FVec Ideal ⟨3, ![32, 2304, 1024]⟩ .bf16 :=
  Cert.KernelIdeal.Blocks.FK x0 x1 x2 (Cert.KernelIdeal.HostIn.table (Cert.KernelIdeal.HostIn.full x3))

section
open Cert.KernelIdeal

/-- The kernel's result array is `out` of the arguments in memory. -/
theorem kernel_out (m : (ℓ : Loc nD τ sig) → Buf (Elt Ideal) ℓ) (c : Dev nD) :
    (Cert.KernelIdeal.Gen.dats m 0 c).arrAt 4 cfg0.N
      = out (m ((c.tc : Thread nD τ).loc main_arg0)) (m ((c.tc : Thread nD τ).loc main_arg1))
          (m ((c.tc : Thread nD τ).loc main_arg2)) (m ((c.tc : Thread nD τ).loc main_arg3)) := by
  refine (Cert.KernelIdeal.Blocks.final m c).trans ?_
  rw [HostIn.bias m c, HostIn.qrys m c]
  rw [show Gen.V m c main_v0 = m ((c.tc : Thread nD τ).loc main_arg1) from funext fun j => HostIn.keys m c j]
  rw [show Gen.V m c main_v1 = m ((c.tc : Thread nD τ).loc main_arg2) from funext fun j => HostIn.vals m c j]
  rfl

end

/-- From memories with the same arguments, queries, keys and biases being numbers, the kernel and the reference end with
    the same array. -/
theorem same : Cert.algebraic_KernelIdeal_ReferenceIdeal_pre_finite := by
  intro m g m' g' hf ha
  refine ⟨fun c => out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_out m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    refine (Cert.ReferenceIdeal.Read.val_main_v145_eq _).trans ?_
    refine Eq.trans ?_ (equal _ _ _ _ (Cert.Finite.real _ _ (hf c).1) (Cert.Finite.real _ _ (hf c).2.1) (Cert.Finite.real _ _ (hf c).2.2))
    obtain ⟨a0, a1, a2, a3⟩ := ha c
    rw [← a0, ← a1, ← a2, ← a3]

/-! ### The feed-forward call -/

/-- The feed-forward kernel ends with nothing in flight and its arguments as they were. -/
theorem ffn_rests : Cert.quiescent_Kernel2 := fun m ρ _ => Cert.Kernel2.Gen.frame m ρ

/-- The same at exact arithmetic. -/
theorem ffn_ideal_rests : Cert.quiescent_Kernel2Ideal := fun m ρ _ => Cert.Kernel2Ideal.Gen.frame m ρ

/-- The plain feed-forward part ends with nothing in flight and its arguments as they were. -/
theorem ffn_reference_rests : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Nothing in the feed-forward kernel is read otherwise than it stands. -/
theorem ffn_preserved : Cert.preserves_Kernel2_Kernel2Ideal := trivial

/-- The function of the six arguments that the feed-forward kernel's result array holds. -/
def ffnOut (x0 : FVec Ideal ⟨3, ![32, 2304, 1024]⟩ .f32) (x1 : FVec Ideal ⟨4, ![32, 2, 6, 1024]⟩ .f32) (x2 : FVec Ideal ⟨1, ![1024]⟩ .f32)
    (x3 : FVec Ideal ⟨2, ![1024, 5632]⟩ .f32) (x4 : FVec Ideal ⟨2, ![3, 5632]⟩ .f32) (x5 : FVec Ideal ⟨2, ![2816, 1024]⟩ .f32) :
    FVec Ideal ⟨3, ![32, 2304, 1024]⟩ .f32 := fun y =>
  Cert.Ffn.ffn x0 x1 (fun k => x2 (ix1 k)) (fun k f => x3 (ix2 k f)) x4 (fun f d => x5 (ix2 f d)) (y 0) (y 1) (y 2)

section
open Cert.Kernel2Ideal

/-- The feed-forward kernel's result array is `ffnOut` of the arguments in memory. -/
theorem ffn_kernel_out (m : (ℓ : Loc nD τ sig) → Buf (Elt Ideal) ℓ) (c : Dev nD) :
    (Cert.Kernel2Ideal.Gen.dats m 0 c).arrAt 8 cfg0.N
      = ffnOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (Cert.Kernel2Ideal.Blocks.final m c).trans ?_
  unfold Cert.Kernel2Ideal.Blocks.FK ffnOut
  rw [Blocks.toks m c, Blocks.mods m c, Blocks.convs m c]
  rw [show (fun k : Fin 1024 => Gen.V m c main_v0 (ix2 0 k)) = fun k => m ((c.tc : Thread nD τ).loc main_arg2) (ix1 k) from
    funext fun k => Blocks.gains m c k]
  rw [show Gen.V m c main_v1 = m ((c.tc : Thread nD τ).loc main_arg3) from funext fun j => Blocks.ups m c j]
  rw [show Gen.V m c main_v2 = m ((c.tc : Thread nD τ).loc main_arg5) from funext fun j => Blocks.downs m c j]

end

/-- From memories with the same arguments the feed-forward kernel and the plain feed-forward part end with the same array. -/
theorem ffn_same : Cert.algebraic_Kernel2Ideal_Reference2Ideal := by
  intro m g m' g' _ ha
  refine ⟨fun c => ffnOut (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)), ?_, ?_⟩
  · exact (θ_run Cert.Kernel2Ideal.defs _ _).mono (fun r h c => ⟨(h c).1.trans (ffn_kernel_out m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    refine (Cert.Reference2Ideal.Read.val_main_v126_eq _ _).trans ?_
    obtain ⟨a0, a1, a2, a3, a4, a5⟩ := ha c
    show _ = ffnOut _ _ _ _ _ _
    rw [← a0, ← a1, ← a2, ← a3, ← a4, ← a5]
    funext y
    exact (congrArg _ (eq_ix3 y)).trans (Cert.Reference2Ideal.At.v126 _ _ _ _ _ _ (y 0) (y 1) (y 2))

/-! ### The last layer's feed-forward call -/

/-- The last layer's kernel ends with nothing in flight and its arguments as they were. -/
theorem last_rests : Cert.quiescent_Kernel3 := fun m ρ _ => Cert.Kernel3.Gen.frame m ρ

/-- The same at exact arithmetic. -/
theorem last_ideal_rests : Cert.quiescent_Kernel3Ideal := fun m ρ _ => Cert.Kernel3Ideal.Gen.frame m ρ

/-- The plain last layer's part ends with nothing in flight and its arguments as they were. -/
theorem last_reference_rests : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Nothing in the last layer's kernel is read otherwise than it stands. -/
theorem last_preserved : Cert.preserves_Kernel3_Kernel3Ideal := trivial

/-- The function of the seven arguments that the last layer's kernel's result array holds. -/
def lastOut (x0 : FVec Ideal ⟨3, ![32, 2304, 1024]⟩ .f32) (x1 : FVec Ideal ⟨4, ![32, 2, 6, 1024]⟩ .f32) (x2 : FVec Ideal ⟨1, ![1024]⟩ .f32)
    (x3 : FVec Ideal ⟨2, ![1024, 5632]⟩ .f32) (x4 : FVec Ideal ⟨2, ![3, 5632]⟩ .f32) (x5 : FVec Ideal ⟨2, ![2816, 1024]⟩ .f32)
    (x6 : FVec Ideal ⟨1, ![1024]⟩ .f32) :
    FVec Ideal ⟨3, ![32, 2048, 1024]⟩ .f32 := fun y =>
  Cert.Ffn.last (fun d => Cert.Ffn.ffn x0 x1 (fun k => x2 (ix1 k)) (fun k f => x3 (ix2 k f)) x4 (fun f d => x5 (ix2 f d)) (y 0) (Cert.Ffn.latent (y 1)) d)
    (fun d => x6 (ix1 d)) (y 2)

section
open Cert.Kernel3Ideal

/-- The last layer's kernel's result array is `lastOut` of the arguments in memory. -/
theorem last_kernel_out (m : (ℓ : Loc nD τ sig) → Buf (Elt Ideal) ℓ) (c : Dev nD) :
    (Cert.Kernel3Ideal.Gen.dats m 0 c).arrAt 9 cfg0.N
      = lastOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (Cert.Kernel3Ideal.Blocks.final m c).trans ?_
  unfold Cert.Kernel3Ideal.Blocks.FK lastOut
  rw [Blocks.toks m c, Blocks.mods m c, Blocks.convs m c]
  rw [show (fun k : Fin 1024 => Gen.V m c main_v1 (ix2 0 k)) = fun k => m ((c.tc : Thread nD τ).loc main_arg2) (ix1 k) from
    funext fun k => Blocks.gains m c k]
  rw [show (fun k : Fin 1024 => Gen.V m c main_v0 (ix2 0 k)) = fun k => m ((c.tc : Thread nD τ).loc main_arg6) (ix1 k) from
    funext fun k => Blocks.lastGains m c k]
  rw [show Gen.V m c main_v2 = m ((c.tc : Thread nD τ).loc main_arg3) from funext fun j => Blocks.ups m c j]
  rw [show Gen.V m c main_v3 = m ((c.tc : Thread nD τ).loc main_arg5) from funext fun j => Blocks.downs m c j]

end

/-- From memories with the same arguments the last layer's kernel and the plain last layer's part end with the same array. -/
theorem last_same : Cert.algebraic_Kernel3Ideal_Reference3Ideal := by
  intro m g m' g' _ ha
  refine ⟨fun c => lastOut (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)), ?_, ?_⟩
  · exact (θ_run Cert.Kernel3Ideal.defs _ _).mono (fun r h c => ⟨(h c).1.trans (last_kernel_out m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    refine (Cert.Reference3Ideal.Read.val_main_v75_eq _ _).trans ?_
    obtain ⟨a0, a1, a2, a3, a4, a5, a6⟩ := ha c
    show _ = lastOut _ _ _ _ _ _ _
    rw [← a0, ← a1, ← a2, ← a3, ← a4, ← a5, ← a6]
    funext y
    exact (congrArg _ (eq_ix3 y)).trans (Cert.Reference3Ideal.At.v75 _ _ _ _ _ _ _ (y 0) (y 1) (y 2))

/-! ### The call of the attention's queries, keys and values -/

/-- The kernel of the attention's queries, keys and values ends with nothing in flight and its arguments as they were. -/
theorem qkv_rests : Cert.quiescent_Kernel4 := fun m ρ _ => Cert.Kernel4.Gen.frame m ρ

/-- The same at exact arithmetic. -/
theorem qkv_ideal_rests : Cert.quiescent_Kernel4Ideal := fun m ρ _ => Cert.Kernel4Ideal.Gen.frame m ρ

/-- The plain program of the attention's queries, keys and values ends with nothing in flight and its arguments as they were. -/
theorem qkv_reference_rests : Cert.quiescent_Reference4Ideal := fun m ρ _ =>
  (θ_run Cert.Reference4Ideal.defs _ _).mono (fun r h => ⟨fun c => ((h c).2.2.2),
      Idealize.ShloMosaic.sem_eq_zero_of_no_sems (by decide) r.2⟩)
    (Cert.Reference4Ideal.Value.run (F := Ideal) m ρ)

/-- Nothing in the kernel of the attention's queries, keys and values is read otherwise than it stands. -/
theorem qkv_preserved : Cert.preserves_Kernel4_Kernel4Ideal := trivial

/-- The function of the arguments that a result array (the third of the columns from `o` on) of the attention's queries, keys and values holds. -/
def qkvOut (o : ℕ) (ho : o + 1024 ≤ 3072) (x0 : FVec Ideal ⟨3, ![32, 2304, 1024]⟩ .f32) (x1 : FVec Ideal ⟨4, ![32, 2, 6, 1024]⟩ .f32) (x2 : FVec Ideal ⟨1, ![1024]⟩ .f32) (x3 : FVec Ideal ⟨2, ![1024, 3072]⟩ .f32) :
    (⟨3, ![32, 2304, 1024]⟩ : Shape).Idx → EReal := fun y =>
  Cert.Mix.proj x0 x1 (fun k => x2 (ix1 k)) (fun k => x3 (ix2 k (Cert.Mix.col o ho (y 2)))) (y 0) (y 1)

section
open Cert.Kernel4Ideal

/-- Result array 0 of the call of the attention's queries, keys and values is `qkvOut` of the arguments in memory. -/
theorem qkv_kernel_out4 (m : (ℓ : Loc nD τ sig) → Buf (Elt Ideal) ℓ) (c : Dev nD) :
    (Cert.Kernel4Ideal.Gen.dats m 0 c).arrAt 4 cfg0.N = qkvOut 0 (by decide) (m ((c.tc : Thread nD τ).loc main_arg0)) (m ((c.tc : Thread nD τ).loc main_arg1)) (m ((c.tc : Thread nD τ).loc main_arg2)) (m ((c.tc : Thread nD τ).loc main_arg3)) := by
  refine (Cert.Kernel4Ideal.Blocks.final4 m c).trans ?_
  unfold Cert.Kernel4Ideal.Blocks.FK qkvOut
  rw [Blocks.same0 m c, Blocks.same1 m c]
  rw [show (fun k : Fin 1024 => Gen.V m c main_v0 (ix2 0 k)) = fun k => m ((c.tc : Thread nD τ).loc main_arg2) (ix1 k) from
    funext fun k => Blocks.gains m c k]
  rw [show Gen.V m c main_v1 = m ((c.tc : Thread nD τ).loc main_arg3) from funext fun j => Blocks.weights m c j]

/-- Result array 1 of the call of the attention's queries, keys and values is `qkvOut` of the arguments in memory. -/
theorem qkv_kernel_out5 (m : (ℓ : Loc nD τ sig) → Buf (Elt Ideal) ℓ) (c : Dev nD) :
    (Cert.Kernel4Ideal.Gen.dats m 0 c).arrAt 5 cfg0.N = qkvOut 1024 (by decide) (m ((c.tc : Thread nD τ).loc main_arg0)) (m ((c.tc : Thread nD τ).loc main_arg1)) (m ((c.tc : Thread nD τ).loc main_arg2)) (m ((c.tc : Thread nD τ).loc main_arg3)) := by
  refine (Cert.Kernel4Ideal.Blocks.final5 m c).trans ?_
  unfold Cert.Kernel4Ideal.Blocks.FK qkvOut
  rw [Blocks.same0 m c, Blocks.same1 m c]
  rw [show (fun k : Fin 1024 => Gen.V m c main_v0 (ix2 0 k)) = fun k => m ((c.tc : Thread nD τ).loc main_arg2) (ix1 k) from
    funext fun k => Blocks.gains m c k]
  rw [show Gen.V m c main_v1 = m ((c.tc : Thread nD τ).loc main_arg3) from funext fun j => Blocks.weights m c j]

/-- Result array 2 of the call of the attention's queries, keys and values is `qkvOut` of the arguments in memory. -/
theorem qkv_kernel_out6 (m : (ℓ : Loc nD τ sig) → Buf (Elt Ideal) ℓ) (c : Dev nD) :
    (Cert.Kernel4Ideal.Gen.dats m 0 c).arrAt 6 cfg0.N = qkvOut 2048 (by decide) (m ((c.tc : Thread nD τ).loc main_arg0)) (m ((c.tc : Thread nD τ).loc main_arg1)) (m ((c.tc : Thread nD τ).loc main_arg2)) (m ((c.tc : Thread nD τ).loc main_arg3)) := by
  refine (Cert.Kernel4Ideal.Blocks.final6 m c).trans ?_
  unfold Cert.Kernel4Ideal.Blocks.FK qkvOut
  rw [Blocks.same0 m c, Blocks.same1 m c]
  rw [show (fun k : Fin 1024 => Gen.V m c main_v0 (ix2 0 k)) = fun k => m ((c.tc : Thread nD τ).loc main_arg2) (ix1 k) from
    funext fun k => Blocks.gains m c k]
  rw [show Gen.V m c main_v1 = m ((c.tc : Thread nD τ).loc main_arg3) from funext fun j => Blocks.weights m c j]

end

/-- From memories with the same arguments the kernel and the plain program of the attention's queries, keys and values end with the same arrays. -/
theorem qkv_same : Cert.algebraic_Kernel4Ideal_Reference4Ideal := by
  intro m g m' g' _ ha
  refine ⟨fun c => qkvOut 0 (by decide) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), fun c => qkvOut 1024 (by decide) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), fun c => qkvOut 2048 (by decide) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · exact (θ_run Cert.Kernel4Ideal.defs _ _).mono (fun r h c => ⟨(h c).1.trans (qkv_kernel_out4 m c), (h c).2.1.trans (qkv_kernel_out5 m c), (h c).2.2.1.trans (qkv_kernel_out6 m c), (h c).2.2.2⟩)
      (Cert.Kernel4Ideal.Value.run_blocks (F := Ideal) m g)
  · refine (θ_run Cert.Reference4Ideal.defs _ _).mono (fun r h c => ⟨(h c).1.trans ?_, (h c).2.1.trans ?_, (h c).2.2.1.trans ?_, (h c).2.2.2⟩)
      (Cert.Reference4Ideal.Value.run (F := Ideal) m' g')
    · refine (Cert.Reference4Ideal.Read.val_main_v59_eq _ _).trans ?_
      obtain ⟨a0, a1, a2, a3⟩ := ha c
      show _ = qkvOut 0 (by decide) _ _ _ _
      rw [← a0, ← a1, ← a2, ← a3]
      funext y
      exact (congrArg _ (eq_ix3 y)).trans (Cert.Reference4Ideal.At.v59 _ _ _ _ (y 0) (y 1) (y 2))
    · refine (Cert.Reference4Ideal.Read.val_main_v62_eq _ _).trans ?_
      obtain ⟨a0, a1, a2, a3⟩ := ha c
      show _ = qkvOut 1024 (by decide) _ _ _ _
      rw [← a0, ← a1, ← a2, ← a3]
      funext y
      exact (congrArg _ (eq_ix3 y)).trans (Cert.Reference4Ideal.At.v62 _ _ _ _ (y 0) (y 1) (y 2))
    · refine (Cert.Reference4Ideal.Read.val_main_v63_eq _ _).trans ?_
      obtain ⟨a0, a1, a2, a3⟩ := ha c
      show _ = qkvOut 2048 (by decide) _ _ _ _
      rw [← a0, ← a1, ← a2, ← a3]
      funext y
      exact (congrArg _ (eq_ix3 y)).trans (Cert.Reference4Ideal.At.v63 _ _ _ _ (y 0) (y 1) (y 2))

/-! ### The call of the attention's output projection -/

/-- The kernel of the attention's output projection ends with nothing in flight and its arguments as they were. -/
theorem proj_rests : Cert.quiescent_Kernel5 := fun m ρ _ => Cert.Kernel5.Gen.frame m ρ

/-- The same at exact arithmetic. -/
theorem proj_ideal_rests : Cert.quiescent_Kernel5Ideal := fun m ρ _ => Cert.Kernel5Ideal.Gen.frame m ρ

/-- The plain program of the attention's output projection ends with nothing in flight and its arguments as they were. -/
theorem proj_reference_rests : Cert.quiescent_Reference5Ideal := fun m ρ _ =>
  (θ_run Cert.Reference5Ideal.defs _ _).mono (fun r h => ⟨fun c => ((h c).2),
      Idealize.ShloMosaic.sem_eq_zero_of_no_sems (by decide) r.2⟩)
    (Cert.Reference5Ideal.Value.run (F := Ideal) m ρ)

/-- Nothing in the kernel of the attention's output projection is read otherwise than it stands. -/
theorem proj_preserved : Cert.preserves_Kernel5_Kernel5Ideal := trivial

/-- The function of the arguments that the result array of the attention's output projection holds. -/
def projOut (x0 : FVec Ideal ⟨3, ![32, 2304, 1024]⟩ .f32) (x1 : FVec Ideal ⟨3, ![32, 2304, 1024]⟩ .bf16) (x2 : FVec Ideal ⟨4, ![32, 2, 6, 1024]⟩ .f32) (x3 : FVec Ideal ⟨2, ![1024, 1024]⟩ .f32) :
    FVec Ideal ⟨3, ![32, 2304, 1024]⟩ .f32 := fun y =>
  Cert.Mix.add x0 x2 (fun k => x1 (ix3 (y 0 : Fin 32) (y 1 : Fin 2304) k)) (fun k d => x3 (ix2 k d)) (y 0) (y 1) (y 2)

section
open Cert.Kernel5Ideal

/-- The result array of the attention's output projection is `projOut` of the arguments in memory. -/
theorem proj_kernel_out (m : (ℓ : Loc nD τ sig) → Buf (Elt Ideal) ℓ) (c : Dev nD) :
    (Cert.Kernel5Ideal.Gen.dats m 0 c).arrAt 4 cfg0.N = projOut (m ((c.tc : Thread nD τ).loc main_arg0)) (m ((c.tc : Thread nD τ).loc main_arg1)) (m ((c.tc : Thread nD τ).loc main_arg2)) (m ((c.tc : Thread nD τ).loc main_arg3)) := by
  refine (Cert.Kernel5Ideal.Blocks.final m c).trans ?_
  unfold Cert.Kernel5Ideal.Blocks.FK projOut
  rw [Blocks.same0 m c, Blocks.same1 m c, Blocks.same2 m c]
  rw [show Gen.V m c main_v0 = m ((c.tc : Thread nD τ).loc main_arg3) from funext fun j => Blocks.weights m c j]

end

/-- From memories with the same arguments the kernel and the plain program of the attention's output projection end with the same array. -/
theorem proj_same : Cert.algebraic_Kernel5Ideal_Reference5Ideal := by
  intro m g m' g' _ ha
  refine ⟨fun c => projOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), ?_, ?_⟩
  · exact (θ_run Cert.Kernel5Ideal.defs _ _).mono (fun r h c => ⟨(h c).1.trans (proj_kernel_out m c), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    refine (Cert.Reference5Ideal.Read.val_main_v24_eq _ _ _ _).trans ?_
    obtain ⟨a0, a1, a2, a3⟩ := ha c
    show _ = projOut _ _ _ _
    rw [← a0, ← a1, ← a2, ← a3]
    funext y
    exact (congrArg _ (eq_ix3 y)).trans (Cert.Reference5Ideal.At.v24 _ _ _ _ (y 0) (y 1) (y 2))

/-! ### The call of the mLSTM's end -/

/-- The kernel of the mLSTM's end ends with nothing in flight and its arguments as they were. -/
theorem post_rests : Cert.quiescent_Kernel6 := fun m ρ _ => Cert.Kernel6.Gen.frame m ρ

/-- The same at exact arithmetic. -/
theorem post_ideal_rests : Cert.quiescent_Kernel6Ideal := fun m ρ _ => Cert.Kernel6Ideal.Gen.frame m ρ

/-- The plain program of the mLSTM's end ends with nothing in flight and its arguments as they were. -/
theorem post_reference_rests : Cert.quiescent_Reference6Ideal := fun m ρ _ =>
  (θ_run Cert.Reference6Ideal.defs _ _).mono (fun r h => ⟨fun c => ((h c).2),
      Idealize.ShloMosaic.sem_eq_zero_of_no_sems (by decide) r.2⟩)
    (Cert.Reference6Ideal.Value.run (F := Ideal) m ρ)

/-- Nothing in the kernel of the mLSTM's end is read otherwise than it stands. -/
theorem post_preserved : Cert.preserves_Kernel6_Kernel6Ideal := trivial

/-- The function of the arguments that the result array of the mLSTM's end holds. -/
def postOut (x0 : FVec Ideal ⟨3, ![32, 2304, 1024]⟩ .f32) (x1 : FVec Ideal ⟨4, ![2, 32, 2304, 1024]⟩ .bf16) (x2 : FVec Ideal ⟨3, ![32, 2304, 1024]⟩ .bf16) (x3 : FVec Ideal ⟨4, ![32, 2, 6, 1024]⟩ .f32) (x4 : FVec Ideal ⟨1, ![1024]⟩ .f32) (x5 : FVec Ideal ⟨2, ![1024, 1024]⟩ .f32) :
    FVec Ideal ⟨3, ![32, 2304, 1024]⟩ .f32 := fun y =>
  Cert.Mix.add x0 x3 (Cert.Mix.gatedHeads (fun k => x2 (ix3 (y 0 : Fin 32) (y 1 : Fin 2304) k)) (fun k => x1 (ix4 0 (y 0 : Fin 32) (y 1 : Fin 2304) k))
    (fun k => x1 (ix4 1 (y 0 : Fin 32) (y 1 : Fin 2304) k)) (fun k => x4 (ix1 k))) (fun k d => x5 (ix2 k d)) (y 0) (y 1) (y 2)

section
open Cert.Kernel6Ideal

/-- The result array of the mLSTM's end is `postOut` of the arguments in memory. -/
theorem post_kernel_out (m : (ℓ : Loc nD τ sig) → Buf (Elt Ideal) ℓ) (c : Dev nD) :
    (Cert.Kernel6Ideal.Gen.dats m 0 c).arrAt 7 cfg0.N = postOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Cert.Kernel6Ideal.Blocks.final m c).trans ?_
  unfold Cert.Kernel6Ideal.Blocks.FK postOut
  rw [Blocks.same0 m c, Blocks.same1 m c, Blocks.same2 m c, Blocks.same3 m c]
  rw [show (fun k : Fin 1024 => Gen.V m c main_v0 (ix2 0 k)) = fun k => m ((c.tc : Thread nD τ).loc main_arg4) (ix1 k) from
    funext fun k => Blocks.gains m c k]
  rw [show Gen.V m c main_v1 = m ((c.tc : Thread nD τ).loc main_arg5) from funext fun j => Blocks.weights m c j]

end

/-- From memories with the same arguments the kernel and the plain program of the mLSTM's end end with the same array. -/
theorem post_same : Cert.algebraic_Kernel6Ideal_Reference6Ideal := by
  intro m g m' g' _ ha
  refine ⟨fun c => postOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)), ?_, ?_⟩
  · exact (θ_run Cert.Kernel6Ideal.defs _ _).mono (fun r h c => ⟨(h c).1.trans (post_kernel_out m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    refine (Cert.Reference6Ideal.Read.val_main_v70_eq _ _).trans ?_
    obtain ⟨a0, a1, a2, a3, a4, a5⟩ := ha c
    show _ = postOut _ _ _ _ _ _
    rw [← a0, ← a1, ← a2, ← a3, ← a4, ← a5]
    funext y
    exact (congrArg _ (eq_ix3 y)).trans (Cert.Reference6Ideal.At.v70 _ _ _ _ _ _ (y 0) (y 1) (y 2))

/-! ### The call of the S5 mixer's end -/

/-- The kernel of the S5 mixer's end ends with nothing in flight and its arguments as they were. -/
theorem glu_rests : Cert.quiescent_Kernel7 := fun m ρ _ => Cert.Kernel7.Gen.frame m ρ

/-- The same at exact arithmetic. -/
theorem glu_ideal_rests : Cert.quiescent_Kernel7Ideal := fun m ρ _ => Cert.Kernel7Ideal.Gen.frame m ρ

/-- The plain program of the S5 mixer's end ends with nothing in flight and its arguments as they were. -/
theorem glu_reference_rests : Cert.quiescent_Reference7Ideal := fun m ρ _ =>
  (θ_run Cert.Reference7Ideal.defs _ _).mono (fun r h => ⟨fun c => ((h c).2),
      Idealize.ShloMosaic.sem_eq_zero_of_no_sems (by decide) r.2⟩)
    (Cert.Reference7Ideal.Value.run (F := Ideal) m ρ)

/-- Nothing in the kernel of the S5 mixer's end is read otherwise than it stands. -/
theorem glu_preserved : Cert.preserves_Kernel7_Kernel7Ideal := trivial

/-- The function of the arguments that the result array of the S5 mixer's end holds. -/
def gluOut (x0 : FVec Ideal ⟨3, ![32, 2304, 1024]⟩ .f32) (x1 : FVec Ideal ⟨3, ![32, 144, 16384]⟩ .bf16) (x2 : FVec Ideal ⟨4, ![32, 2, 6, 1024]⟩ .f32) (x3 : FVec Ideal ⟨2, ![1024, 2048]⟩ .f32) (x4 : FVec Ideal ⟨1, ![2048]⟩ .f32) :
    FVec Ideal ⟨3, ![32, 2304, 1024]⟩ .f32 := fun y =>
  Cert.Glu.add x0 x2 (Cert.Glu.token x1 (y 0) (y 1)) (fun k f => x3 (ix2 k f)) (fun f => x4 (ix1 f)) (y 0) (y 1) (y 2)

section
open Cert.Kernel7Ideal

/-- The result array of the S5 mixer's end is `gluOut` of the arguments in memory. -/
theorem glu_kernel_out (m : (ℓ : Loc nD τ sig) → Buf (Elt Ideal) ℓ) (c : Dev nD) :
    (Cert.Kernel7Ideal.Gen.dats m 0 c).arrAt 5 cfg0.N = gluOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (Cert.Kernel7Ideal.Blocks.final m c).trans ?_
  unfold Cert.Kernel7Ideal.Blocks.FK gluOut
  rw [Blocks.same0 m c, Blocks.same1 m c, Blocks.same2 m c]
  rw [show (fun f : Fin 2048 => Gen.V m c main_v1 (ix2 0 f)) = fun f => m ((c.tc : Thread nD τ).loc main_arg4) (ix1 f) from
    funext fun f => Blocks.bias m c f]
  rw [show Gen.V m c main_v0 = m ((c.tc : Thread nD τ).loc main_arg3) from funext fun j => Blocks.weights m c j]

end

/-- From memories with the same arguments the kernel and the plain program of the S5 mixer's end end with the same array. -/
theorem glu_same : Cert.algebraic_Kernel7Ideal_Reference7Ideal := by
  intro m g m' g' _ ha
  refine ⟨fun c => gluOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), ?_, ?_⟩
  · exact (θ_run Cert.Kernel7Ideal.defs _ _).mono (fun r h c => ⟨(h c).1.trans (glu_kernel_out m c), (h c).2⟩)
      (Cert.Kernel7Ideal.Value.run_blocks (F := Ideal) m g)
  · refine (θ_run Cert.Reference7Ideal.defs _ _).mono (fun r h c => ⟨(h c).1.trans ?_, (h c).2⟩)
      (Cert.Reference7Ideal.Value.run (F := Ideal) m' g')
    refine (Cert.Reference7Ideal.Read.val_main_v51_eq _ _).trans ?_
    obtain ⟨a0, a1, a2, a3, a4⟩ := ha c
    show _ = gluOut _ _ _ _ _
    rw [← a0, ← a1, ← a2, ← a3, ← a4]
    funext y
    exact (congrArg _ (eq_ix3 y)).trans (Cert.Reference7Ideal.At.v51 _ _ _ _ _ (y 0) (y 1) (y 2))

/-- Every claim made, of the attention, of the two feed-forward calls, and of the four calls before and after a mixer. -/
theorem claim : Cert.Claim :=
  ⟨Cert.Kernel.Gen.facts, Cert.KernelIdeal.Gen.facts, Cert.ReferenceIdeal.Gen.facts, Cert.Kernel2.Gen.facts, Cert.Kernel2Ideal.Gen.facts,
   Cert.Reference2Ideal.Gen.facts, Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts, facts_finite,
   kernel_rests, ideal_rests, ideal_rests_finite, reference_rests, reference_rests_finite,
   ffn_rests, ffn_ideal_rests, ffn_reference_rests,
   last_rests, last_ideal_rests, last_reference_rests,
   qkv_rests, qkv_ideal_rests, qkv_reference_rests,
   proj_rests, proj_ideal_rests, proj_reference_rests,
   post_rests, post_ideal_rests, post_reference_rests,
   glu_rests, glu_ideal_rests, glu_reference_rests,
   preserved, same, ffn_preserved, ffn_same, last_preserved, last_same,
   qkv_preserved, qkv_same, proj_preserved, proj_same, post_preserved, post_same, glu_preserved, glu_same⟩

end Cert.Proof

end
